-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 12288]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![12288, 1536]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S3x384x512 : Shape := ⟨3, ![3, 384, 512]⟩
abbrev S3x96x512 : Shape := ⟨3, ![3, 96, 512]⟩
abbrev S3x384x256 : Shape := ⟨3, ![3, 384, 256]⟩
abbrev S3x96x256 : Shape := ⟨3, ![3, 96, 256]⟩
abbrev S6 : Shape := ⟨1, ![6]⟩
abbrev S3 : Shape := ⟨1, ![3]⟩
abbrev S12 : Shape := ⟨1, ![12]⟩
abbrev S_ : Shape := ⟨0, ![]⟩
abbrev S384x768 : Shape := ⟨2, ![384, 768]⟩
abbrev S768x512 : Shape := ⟨2, ![768, 512]⟩
abbrev S384x512 : Shape := ⟨2, ![384, 512]⟩
abbrev S1x384x512 : Shape := ⟨3, ![1, 384, 512]⟩
abbrev S1 : Shape := ⟨1, ![1]⟩
abbrev S768x256 : Shape := ⟨2, ![768, 256]⟩
abbrev S384x256 : Shape := ⟨2, ![384, 256]⟩
abbrev S1x384x256 : Shape := ⟨3, ![1, 384, 256]⟩
abbrev S96x512 : Shape := ⟨2, ![96, 512]⟩
abbrev S1x96x512 : Shape := ⟨3, ![1, 96, 512]⟩
abbrev S96x256 : Shape := ⟨2, ![96, 256]⟩
abbrev S1x96x256 : Shape := ⟨3, ![1, 96, 256]⟩

abbrev nBuf : Space → Nat
  | .hbm => 3
  | .vmem => 20
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x1536, .f32⟩
  | .local _ .vmem, ⟨4, _⟩ => ⟨S3x384x512, .bf16⟩
  | .local _ .vmem, ⟨5, _⟩ => ⟨S3x384x512, .bf16⟩
  | .local _ .vmem, ⟨6, _⟩ => ⟨S3x96x512, .bf16⟩
  | .local _ .vmem, ⟨7, _⟩ => ⟨S3x96x512, .bf16⟩
  | .local _ .vmem, ⟨8, _⟩ => ⟨S3x384x512, .bf16⟩
  | .local _ .vmem, ⟨9, _⟩ => ⟨S3x384x512, .bf16⟩
  | .local _ .vmem, ⟨10, _⟩ => ⟨S3x96x512, .bf16⟩
  | .local _ .vmem, ⟨11, _⟩ => ⟨S3x96x512, .bf16⟩
  | .local _ .vmem, ⟨12, _⟩ => ⟨S3x384x256, .bf16⟩
  | .local _ .vmem, ⟨13, _⟩ => ⟨S3x384x256, .bf16⟩
  | .local _ .vmem, ⟨14, _⟩ => ⟨S3x96x256, .bf16⟩
  | .local _ .vmem, ⟨15, _⟩ => ⟨S3x96x256, .bf16⟩
  | .local _ .vmem, ⟨16, _⟩ => ⟨S3x384x256, .bf16⟩
  | .local _ .vmem, ⟨17, _⟩ => ⟨S3x384x256, .bf16⟩
  | .local _ .vmem, ⟨18, _⟩ => ⟨S3x96x256, .bf16⟩
  | .local _ .vmem, ⟨19, _⟩ => ⟨S3x96x256, .bf16⟩
  | _, _ => ⟨S1536x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 195 → Bool
  | ⟨i, _⟩ => dmaSemScopedAt i

abbrev sig : RefSig :=
  (ofTc nBuf bufTy 1 195 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_42 : BitVec 32 := 1#32
  let v82 : BitVec 32 := Scalar.muli v42 c1_i32_42
  let v83 : BitVec 32 := Scalar.addi c0_i32_43 v82
  v83.toNat
def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_45 : BitVec 32 := 1#32
  let v84 : BitVec 32 := Scalar.muli v54 c1_i32_45
  let v85 : BitVec 32 := Scalar.addi c0_i32_46 v84
  v85.toNat
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_48 : BitVec 32 := 1#32
  let v86 : BitVec 32 := Scalar.muli v67 c1_i32_48
  let v87 : BitVec 32 := Scalar.addi c0_i32_49 v86
  v87.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_51 : BitVec 32 := 1#32
  let v88 : BitVec 32 := Scalar.muli v80 c1_i32_51
  let v89 : BitVec 32 := Scalar.addi c0_i32_52 v88
  v89.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_54 : BitVec 32 := 4#32
  let c0_i32_55 : BitVec 32 := 0#32
  let v90 : BitVec 1 := Scalar.cmpi .eq c4_i32_54 c0_i32_55
  let c1_i32_56 : BitVec 32 := 1#32
  let v91 : BitVec 32 := Scalar.select v90 c1_i32_56 c4_i32_54
  let v92 : BitVec 32 := Scalar.remsi v12 v91
  let c0_i32_58 : BitVec 32 := 0#32
  let v94 : BitVec 1 := Scalar.cmpi .slt v92 c0_i32_58
  let c0_i32_59 : BitVec 32 := 0#32
  let v95 : BitVec 1 := Scalar.cmpi .slt v91 c0_i32_59
  let v96 : BitVec 1 := Scalar.xori v94 v95
  let c0_i32_57 : BitVec 32 := 0#32
  let v93 : BitVec 1 := Scalar.cmpi .ne v92 c0_i32_57
  let v97 : BitVec 1 := Scalar.andi v96 v93
  let v98 : BitVec 32 := Scalar.addi v92 v91
  let v99 : BitVec 32 := Scalar.select v97 v98 v92
  let c384_i32 : BitVec 32 := 384#32
  let v100 : BitVec 32 := Scalar.muli v99 c384_i32
  let v101 : Index := Scalar.indexCast v100
  let c0 : Index := 0#32
  ![v101.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_54 : BitVec 32 := 4#32
  let c0_i32_55 : BitVec 32 := 0#32
  let v90 : BitVec 1 := Scalar.cmpi .eq c4_i32_54 c0_i32_55
  let c1_i32_56 : BitVec 32 := 1#32
  let v91 : BitVec 32 := Scalar.select v90 c1_i32_56 c4_i32_54
  let v92 : BitVec 32 := Scalar.remsi v12 v91
  let c0_i32_58 : BitVec 32 := 0#32
  let v94 : BitVec 1 := Scalar.cmpi .slt v92 c0_i32_58
  let c0_i32_59 : BitVec 32 := 0#32
  let v95 : BitVec 1 := Scalar.cmpi .slt v91 c0_i32_59
  let v96 : BitVec 1 := Scalar.xori v94 v95
  let c0_i32_57 : BitVec 32 := 0#32
  let v93 : BitVec 1 := Scalar.cmpi .ne v92 c0_i32_57
  let v97 : BitVec 1 := Scalar.andi v96 v93
  let v98 : BitVec 32 := Scalar.addi v92 v91
  let v99 : BitVec 32 := Scalar.select v97 v98 v92
  let c384_i32 : BitVec 32 := 384#32
  let v100 : BitVec 32 := Scalar.muli v99 c384_i32
  let v107 : Index := Scalar.indexCast v100
  let c0_62 : Index := 0#32
  ![v107.toNat, 0]
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_78 : BitVec 32 := 1#32
  let v128 : BitVec 32 := Scalar.muli v42 c1_i32_78
  let v129 : BitVec 32 := Scalar.addi c0_i32_79 v128
  v129.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_84 : BitVec 32 := 4#32
  let c0_i32_85 : BitVec 32 := 0#32
  let v138 : BitVec 1 := Scalar.cmpi .eq c4_i32_84 c0_i32_85
  let c1_i32_86 : BitVec 32 := 1#32
  let v139 : BitVec 32 := Scalar.select v138 c1_i32_86 c4_i32_84
  let v140 : BitVec 32 := Scalar.remsi v12 v139
  let c0_i32_88 : BitVec 32 := 0#32
  let v142 : BitVec 1 := Scalar.cmpi .slt v140 c0_i32_88
  let c0_i32_89 : BitVec 32 := 0#32
  let v143 : BitVec 1 := Scalar.cmpi .slt v139 c0_i32_89
  let v144 : BitVec 1 := Scalar.xori v142 v143
  let c0_i32_87 : BitVec 32 := 0#32
  let v141 : BitVec 1 := Scalar.cmpi .ne v140 c0_i32_87
  let v145 : BitVec 1 := Scalar.andi v144 v141
  let v146 : BitVec 32 := Scalar.addi v140 v139
  let v147 : BitVec 32 := Scalar.select v145 v146 v140
  let c384_i32_90 : BitVec 32 := 384#32
  let v148 : BitVec 32 := Scalar.muli v147 c384_i32_90
  let v155 : Index := Scalar.indexCast v148
  let c512_94 : Index := 512#32
  ![v155.toNat, 512]
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_110 : BitVec 32 := 1#32
  let v176 : BitVec 32 := Scalar.muli v54 c1_i32_110
  let v177 : BitVec 32 := Scalar.addi c0_i32_111 v176
  v177.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_116 : BitVec 32 := 4#32
  let c0_i32_117 : BitVec 32 := 0#32
  let v186 : BitVec 1 := Scalar.cmpi .eq c4_i32_116 c0_i32_117
  let c1_i32_118 : BitVec 32 := 1#32
  let v187 : BitVec 32 := Scalar.select v186 c1_i32_118 c4_i32_116
  let v188 : BitVec 32 := Scalar.remsi v29 v187
  let c0_i32_120 : BitVec 32 := 0#32
  let v190 : BitVec 1 := Scalar.cmpi .slt v188 c0_i32_120
  let c0_i32_121 : BitVec 32 := 0#32
  let v191 : BitVec 1 := Scalar.cmpi .slt v187 c0_i32_121
  let v192 : BitVec 1 := Scalar.xori v190 v191
  let c0_i32_119 : BitVec 32 := 0#32
  let v189 : BitVec 1 := Scalar.cmpi .ne v188 c0_i32_119
  let v193 : BitVec 1 := Scalar.andi v192 v189
  let v194 : BitVec 32 := Scalar.addi v188 v187
  let v195 : BitVec 32 := Scalar.select v193 v194 v188
  let c384_i32_122 : BitVec 32 := 384#32
  let v196 : BitVec 32 := Scalar.muli v195 c384_i32_122
  let v197 : Index := Scalar.indexCast v196
  let c0_123 : Index := 0#32
  ![v197.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_116 : BitVec 32 := 4#32
  let c0_i32_117 : BitVec 32 := 0#32
  let v186 : BitVec 1 := Scalar.cmpi .eq c4_i32_116 c0_i32_117
  let c1_i32_118 : BitVec 32 := 1#32
  let v187 : BitVec 32 := Scalar.select v186 c1_i32_118 c4_i32_116
  let v188 : BitVec 32 := Scalar.remsi v29 v187
  let c0_i32_120 : BitVec 32 := 0#32
  let v190 : BitVec 1 := Scalar.cmpi .slt v188 c0_i32_120
  let c0_i32_121 : BitVec 32 := 0#32
  let v191 : BitVec 1 := Scalar.cmpi .slt v187 c0_i32_121
  let v192 : BitVec 1 := Scalar.xori v190 v191
  let c0_i32_119 : BitVec 32 := 0#32
  let v189 : BitVec 1 := Scalar.cmpi .ne v188 c0_i32_119
  let v193 : BitVec 1 := Scalar.andi v192 v189
  let v194 : BitVec 32 := Scalar.addi v188 v187
  let v195 : BitVec 32 := Scalar.select v193 v194 v188
  let c384_i32_122 : BitVec 32 := 384#32
  let v196 : BitVec 32 := Scalar.muli v195 c384_i32_122
  let v203 : Index := Scalar.indexCast v196
  let c1024_126 : Index := 1024#32
  ![v203.toNat, 1024]
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_142 : BitVec 32 := 1#32
  let v224 : BitVec 32 := Scalar.muli v67 c1_i32_142
  let v225 : BitVec 32 := Scalar.addi c0_i32_143 v224
  v225.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_148 : BitVec 32 := 4#32
  let c0_i32_149 : BitVec 32 := 0#32
  let v234 : BitVec 1 := Scalar.cmpi .eq c4_i32_148 c0_i32_149
  let c1_i32_150 : BitVec 32 := 1#32
  let v235 : BitVec 32 := Scalar.select v234 c1_i32_150 c4_i32_148
  let v236 : BitVec 32 := Scalar.remsi v29 v235
  let c0_i32_152 : BitVec 32 := 0#32
  let v238 : BitVec 1 := Scalar.cmpi .slt v236 c0_i32_152
  let c0_i32_153 : BitVec 32 := 0#32
  let v239 : BitVec 1 := Scalar.cmpi .slt v235 c0_i32_153
  let v240 : BitVec 1 := Scalar.xori v238 v239
  let c0_i32_151 : BitVec 32 := 0#32
  let v237 : BitVec 1 := Scalar.cmpi .ne v236 c0_i32_151
  let v241 : BitVec 1 := Scalar.andi v240 v237
  let v242 : BitVec 32 := Scalar.addi v236 v235
  let v243 : BitVec 32 := Scalar.select v241 v242 v236
  let c384_i32_154 : BitVec 32 := 384#32
  let v244 : BitVec 32 := Scalar.muli v243 c384_i32_154
  let v251 : Index := Scalar.indexCast v244
  let c1280_158 : Index := 1280#32
  ![v251.toNat, 1280]
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_174 : BitVec 32 := 1#32
  let v272 : BitVec 32 := Scalar.muli v80 c1_i32_174
  let v273 : BitVec 32 := Scalar.addi c0_i32_175 v272
  v273.toNat
def k0_off7 (d0 : Dev nD) (c1_i32_180 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v282 : BitVec 32 := Scalar.subi v12 c1_i32_180
  let c4_i32_181 : BitVec 32 := 4#32
  let c0_i32_182 : BitVec 32 := 0#32
  let v283 : BitVec 1 := Scalar.cmpi .eq c4_i32_181 c0_i32_182
  let c1_i32_183 : BitVec 32 := 1#32
  let v284 : BitVec 32 := Scalar.select v283 c1_i32_183 c4_i32_181
  let v285 : BitVec 32 := Scalar.remsi v282 v284
  let c0_i32_185 : BitVec 32 := 0#32
  let v287 : BitVec 1 := Scalar.cmpi .slt v285 c0_i32_185
  let c0_i32_186 : BitVec 32 := 0#32
  let v288 : BitVec 1 := Scalar.cmpi .slt v284 c0_i32_186
  let v289 : BitVec 1 := Scalar.xori v287 v288
  let c0_i32_184 : BitVec 32 := 0#32
  let v286 : BitVec 1 := Scalar.cmpi .ne v285 c0_i32_184
  let v290 : BitVec 1 := Scalar.andi v289 v286
  let v291 : BitVec 32 := Scalar.addi v285 v284
  let v292 : BitVec 32 := Scalar.select v290 v291 v285
  let c384_i32_187 : BitVec 32 := 384#32
  let v293 : BitVec 32 := Scalar.muli v292 c384_i32_187
  let v294 : Index := Scalar.indexCast v293
  let c0_188 : Index := 0#32
  ![v294.toNat, 0]
def k0_off7_at (r : Fin 4) : BitVec 32 :=
  if r.val < 2 then
    if r.val < 1 then
      1#32
    else
      4294967295#32
  else
    if r.val < 3 then
      2#32
    else
      4294967294#32
def k0_off8 (d0 : Dev nD) (c1_i32_180 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v282 : BitVec 32 := Scalar.subi v12 c1_i32_180
  let c4_i32_181 : BitVec 32 := 4#32
  let c0_i32_182 : BitVec 32 := 0#32
  let v283 : BitVec 1 := Scalar.cmpi .eq c4_i32_181 c0_i32_182
  let c1_i32_183 : BitVec 32 := 1#32
  let v284 : BitVec 32 := Scalar.select v283 c1_i32_183 c4_i32_181
  let v285 : BitVec 32 := Scalar.remsi v282 v284
  let c0_i32_185 : BitVec 32 := 0#32
  let v287 : BitVec 1 := Scalar.cmpi .slt v285 c0_i32_185
  let c0_i32_186 : BitVec 32 := 0#32
  let v288 : BitVec 1 := Scalar.cmpi .slt v284 c0_i32_186
  let v289 : BitVec 1 := Scalar.xori v287 v288
  let c0_i32_184 : BitVec 32 := 0#32
  let v286 : BitVec 1 := Scalar.cmpi .ne v285 c0_i32_184
  let v290 : BitVec 1 := Scalar.andi v289 v286
  let v291 : BitVec 32 := Scalar.addi v285 v284
  let v292 : BitVec 32 := Scalar.select v290 v291 v285
  let c384_i32_187 : BitVec 32 := 384#32
  let v293 : BitVec 32 := Scalar.muli v292 c384_i32_187
  let v300 : Index := Scalar.indexCast v293
  let c0_192 : Index := 0#32
  ![v300.toNat, 0]
def k0_off9 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v304 : BitVec 32 := Scalar.subi v12 c_m1_i32
  let c4_i32_193 : BitVec 32 := 4#32
  let c0_i32_194 : BitVec 32 := 0#32
  let v305 : BitVec 1 := Scalar.cmpi .eq c4_i32_193 c0_i32_194
  let c1_i32_195 : BitVec 32 := 1#32
  let v306 : BitVec 32 := Scalar.select v305 c1_i32_195 c4_i32_193
  let v307 : BitVec 32 := Scalar.remsi v304 v306
  let c0_i32_197 : BitVec 32 := 0#32
  let v309 : BitVec 1 := Scalar.cmpi .slt v307 c0_i32_197
  let c0_i32_198 : BitVec 32 := 0#32
  let v310 : BitVec 1 := Scalar.cmpi .slt v306 c0_i32_198
  let v311 : BitVec 1 := Scalar.xori v309 v310
  let c0_i32_196 : BitVec 32 := 0#32
  let v308 : BitVec 1 := Scalar.cmpi .ne v307 c0_i32_196
  let v312 : BitVec 1 := Scalar.andi v311 v308
  let v313 : BitVec 32 := Scalar.addi v307 v306
  let v314 : BitVec 32 := Scalar.select v312 v313 v307
  let c384_i32_199 : BitVec 32 := 384#32
  let v315 : BitVec 32 := Scalar.muli v314 c384_i32_199
  let v322 : Index := Scalar.indexCast v315
  let c512_204 : Index := 512#32
  ![v322.toNat, 512]
def k0_off10 (d0 : Dev nD) (c1_i32_205 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v326 : BitVec 32 := Scalar.subi v29 c1_i32_205
  let c4_i32_206 : BitVec 32 := 4#32
  let c0_i32_207 : BitVec 32 := 0#32
  let v327 : BitVec 1 := Scalar.cmpi .eq c4_i32_206 c0_i32_207
  let c1_i32_208 : BitVec 32 := 1#32
  let v328 : BitVec 32 := Scalar.select v327 c1_i32_208 c4_i32_206
  let v329 : BitVec 32 := Scalar.remsi v326 v328
  let c0_i32_210 : BitVec 32 := 0#32
  let v331 : BitVec 1 := Scalar.cmpi .slt v329 c0_i32_210
  let c0_i32_211 : BitVec 32 := 0#32
  let v332 : BitVec 1 := Scalar.cmpi .slt v328 c0_i32_211
  let v333 : BitVec 1 := Scalar.xori v331 v332
  let c0_i32_209 : BitVec 32 := 0#32
  let v330 : BitVec 1 := Scalar.cmpi .ne v329 c0_i32_209
  let v334 : BitVec 1 := Scalar.andi v333 v330
  let v335 : BitVec 32 := Scalar.addi v329 v328
  let v336 : BitVec 32 := Scalar.select v334 v335 v329
  let c384_i32_212 : BitVec 32 := 384#32
  let v337 : BitVec 32 := Scalar.muli v336 c384_i32_212
  let v338 : Index := Scalar.indexCast v337
  let c0_213 : Index := 0#32
  ![v338.toNat, 0]
def k0_off10_at (r : Fin 4) : BitVec 32 :=
  if r.val < 2 then
    if r.val < 1 then
      1#32
    else
      4294967295#32
  else
    if r.val < 3 then
      2#32
    else
      4294967294#32
def k0_off11 (d0 : Dev nD) (c1_i32_205 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v326 : BitVec 32 := Scalar.subi v29 c1_i32_205
  let c4_i32_206 : BitVec 32 := 4#32
  let c0_i32_207 : BitVec 32 := 0#32
  let v327 : BitVec 1 := Scalar.cmpi .eq c4_i32_206 c0_i32_207
  let c1_i32_208 : BitVec 32 := 1#32
  let v328 : BitVec 32 := Scalar.select v327 c1_i32_208 c4_i32_206
  let v329 : BitVec 32 := Scalar.remsi v326 v328
  let c0_i32_210 : BitVec 32 := 0#32
  let v331 : BitVec 1 := Scalar.cmpi .slt v329 c0_i32_210
  let c0_i32_211 : BitVec 32 := 0#32
  let v332 : BitVec 1 := Scalar.cmpi .slt v328 c0_i32_211
  let v333 : BitVec 1 := Scalar.xori v331 v332
  let c0_i32_209 : BitVec 32 := 0#32
  let v330 : BitVec 1 := Scalar.cmpi .ne v329 c0_i32_209
  let v334 : BitVec 1 := Scalar.andi v333 v330
  let v335 : BitVec 32 := Scalar.addi v329 v328
  let v336 : BitVec 32 := Scalar.select v334 v335 v329
  let c384_i32_212 : BitVec 32 := 384#32
  let v337 : BitVec 32 := Scalar.muli v336 c384_i32_212
  let v344 : Index := Scalar.indexCast v337
  let c1024_217 : Index := 1024#32
  ![v344.toNat, 1024]
def k0_off12 (d0 : Dev nD) (c_m1_i32_218 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v348 : BitVec 32 := Scalar.subi v29 c_m1_i32_218
  let c4_i32_219 : BitVec 32 := 4#32
  let c0_i32_220 : BitVec 32 := 0#32
  let v349 : BitVec 1 := Scalar.cmpi .eq c4_i32_219 c0_i32_220
  let c1_i32_221 : BitVec 32 := 1#32
  let v350 : BitVec 32 := Scalar.select v349 c1_i32_221 c4_i32_219
  let v351 : BitVec 32 := Scalar.remsi v348 v350
  let c0_i32_223 : BitVec 32 := 0#32
  let v353 : BitVec 1 := Scalar.cmpi .slt v351 c0_i32_223
  let c0_i32_224 : BitVec 32 := 0#32
  let v354 : BitVec 1 := Scalar.cmpi .slt v350 c0_i32_224
  let v355 : BitVec 1 := Scalar.xori v353 v354
  let c0_i32_222 : BitVec 32 := 0#32
  let v352 : BitVec 1 := Scalar.cmpi .ne v351 c0_i32_222
  let v356 : BitVec 1 := Scalar.andi v355 v352
  let v357 : BitVec 32 := Scalar.addi v351 v350
  let v358 : BitVec 32 := Scalar.select v356 v357 v351
  let c384_i32_225 : BitVec 32 := 384#32
  let v359 : BitVec 32 := Scalar.muli v358 c384_i32_225
  let v366 : Index := Scalar.indexCast v359
  let c1280_230 : Index := 1280#32
  ![v366.toNat, 1280]
def k0_dev9 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_259 : BitVec 32 := 1#32
  let v400 : BitVec 32 := Scalar.muli v42 c1_i32_259
  let v401 : BitVec 32 := Scalar.addi c0_i32_260 v400
  v401.toNat
def k0_dev10 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_294 : BitVec 32 := 1#32
  let v440 : BitVec 32 := Scalar.muli v54 c1_i32_294
  let v441 : BitVec 32 := Scalar.addi c0_i32_295 v440
  v441.toNat
def k0_dev11 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_329 : BitVec 32 := 1#32
  let v480 : BitVec 32 := Scalar.muli v67 c1_i32_329
  let v481 : BitVec 32 := Scalar.addi c0_i32_330 v480
  v481.toNat
def k0_dev12 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_364 : BitVec 32 := 1#32
  let v520 : BitVec 32 := Scalar.muli v80 c1_i32_364
  let v521 : BitVec 32 := Scalar.addi c0_i32_365 v520
  v521.toNat
def k0_off13 (d0 : Dev nD) (c0_i32_431 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_420 : BitVec 32 := 2#32
  let v618 : BitVec 32 := Scalar.subi v12 c2_i32_420
  let c4_i32_438 : BitVec 32 := 4#32
  let c0_i32_439 : BitVec 32 := 0#32
  let v639 : BitVec 1 := Scalar.cmpi .eq c4_i32_438 c0_i32_439
  let c1_i32_440 : BitVec 32 := 1#32
  let v640 : BitVec 32 := Scalar.select v639 c1_i32_440 c4_i32_438
  let v641 : BitVec 32 := Scalar.remsi v618 v640
  let c0_i32_442 : BitVec 32 := 0#32
  let v643 : BitVec 1 := Scalar.cmpi .slt v641 c0_i32_442
  let c0_i32_443 : BitVec 32 := 0#32
  let v644 : BitVec 1 := Scalar.cmpi .slt v640 c0_i32_443
  let v645 : BitVec 1 := Scalar.xori v643 v644
  let c0_i32_441 : BitVec 32 := 0#32
  let v642 : BitVec 1 := Scalar.cmpi .ne v641 c0_i32_441
  let v646 : BitVec 1 := Scalar.andi v645 v642
  let v647 : BitVec 32 := Scalar.addi v641 v640
  let v648 : BitVec 32 := Scalar.select v646 v647 v641
  let c384_i32_444 : BitVec 32 := 384#32
  let v649 : BitVec 32 := Scalar.muli v648 c384_i32_444
  let c0_i32_445 : BitVec 32 := 0#32
  let v650 : BitVec 32 := Scalar.addi v649 c0_i32_445
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v627 : BitVec 32 := Scalar.subi v29 c0_i32_431
  let c4_i32_432 : BitVec 32 := 4#32
  let c0_i32_433 : BitVec 32 := 0#32
  let v628 : BitVec 1 := Scalar.cmpi .eq c4_i32_432 c0_i32_433
  let c1_i32_434 : BitVec 32 := 1#32
  let v629 : BitVec 32 := Scalar.select v628 c1_i32_434 c4_i32_432
  let v630 : BitVec 32 := Scalar.remsi v627 v629
  let c0_i32_436 : BitVec 32 := 0#32
  let v632 : BitVec 1 := Scalar.cmpi .slt v630 c0_i32_436
  let c0_i32_437 : BitVec 32 := 0#32
  let v633 : BitVec 1 := Scalar.cmpi .slt v629 c0_i32_437
  let v634 : BitVec 1 := Scalar.xori v632 v633
  let c0_i32_435 : BitVec 32 := 0#32
  let v631 : BitVec 1 := Scalar.cmpi .ne v630 c0_i32_435
  let v635 : BitVec 1 := Scalar.andi v634 v631
  let v636 : BitVec 32 := Scalar.addi v630 v629
  let v637 : BitVec 32 := Scalar.select v635 v636 v630
  let c96_i32 : BitVec 32 := 96#32
  let v638 : BitVec 32 := Scalar.muli v637 c96_i32
  let v651 : BitVec 32 := Scalar.addi v650 v638
  let v652 : Index := Scalar.indexCast v651
  let c0_446 : Index := 0#32
  ![v652.toNat, 0]
def k0_off14 (d0 : Dev nD) (c0_i32_431 : BitVec 32) : Fin 3 → Nat :=
  let c1_447 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v627 : BitVec 32 := Scalar.subi v29 c0_i32_431
  let c4_i32_432 : BitVec 32 := 4#32
  let c0_i32_433 : BitVec 32 := 0#32
  let v628 : BitVec 1 := Scalar.cmpi .eq c4_i32_432 c0_i32_433
  let c1_i32_434 : BitVec 32 := 1#32
  let v629 : BitVec 32 := Scalar.select v628 c1_i32_434 c4_i32_432
  let v630 : BitVec 32 := Scalar.remsi v627 v629
  let c0_i32_436 : BitVec 32 := 0#32
  let v632 : BitVec 1 := Scalar.cmpi .slt v630 c0_i32_436
  let c0_i32_437 : BitVec 32 := 0#32
  let v633 : BitVec 1 := Scalar.cmpi .slt v629 c0_i32_437
  let v634 : BitVec 1 := Scalar.xori v632 v633
  let c0_i32_435 : BitVec 32 := 0#32
  let v631 : BitVec 1 := Scalar.cmpi .ne v630 c0_i32_435
  let v635 : BitVec 1 := Scalar.andi v634 v631
  let v636 : BitVec 32 := Scalar.addi v630 v629
  let v637 : BitVec 32 := Scalar.select v635 v636 v630
  let c96_i32 : BitVec 32 := 96#32
  let v638 : BitVec 32 := Scalar.muli v637 c96_i32
  let v654 : Index := Scalar.indexCast v638
  let c0_448 : Index := 0#32
  ![1, v654.toNat, 0]
def k0_off14_at (r : Fin 7) : BitVec 32 :=
  if r.val < 3 then
    if r.val < 1 then
      0#32
    else
      if r.val < 2 then
        1#32
      else
        2#32
  else
    if r.val < 5 then
      if r.val < 4 then
        3#32
      else
        4294967295#32
    else
      if r.val < 6 then
        4294967294#32
      else
        4294967293#32
def k0_dev13 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_455 : BitVec 32 := 1#32
  let v663 : BitVec 32 := Scalar.muli v42 c1_i32_455
  let v664 : BitVec 32 := Scalar.addi c0_i32_456 v663
  v664.toNat
def k0_dev14 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_485 : BitVec 32 := 1#32
  let v709 : BitVec 32 := Scalar.muli v42 c1_i32_485
  let v710 : BitVec 32 := Scalar.addi c0_i32_486 v709
  v710.toNat
def k0_dev15 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_516 : BitVec 32 := 1#32
  let v755 : BitVec 32 := Scalar.muli v42 c1_i32_516
  let v756 : BitVec 32 := Scalar.addi c0_i32_517 v755
  v756.toNat
def k0_dev16 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_545 : BitVec 32 := 1#32
  let v801 : BitVec 32 := Scalar.muli v42 c1_i32_545
  let v802 : BitVec 32 := Scalar.addi c0_i32_546 v801
  v802.toNat
def k0_off15 (d0 : Dev nD) (c0_i32_561 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c_m2_i32_550 : BitVec 32 := 4294967294#32
  let v811 : BitVec 32 := Scalar.subi v12 c_m2_i32_550
  let c4_i32_569 : BitVec 32 := 4#32
  let c0_i32_570 : BitVec 32 := 0#32
  let v832 : BitVec 1 := Scalar.cmpi .eq c4_i32_569 c0_i32_570
  let c1_i32_571 : BitVec 32 := 1#32
  let v833 : BitVec 32 := Scalar.select v832 c1_i32_571 c4_i32_569
  let v834 : BitVec 32 := Scalar.remsi v811 v833
  let c0_i32_573 : BitVec 32 := 0#32
  let v836 : BitVec 1 := Scalar.cmpi .slt v834 c0_i32_573
  let c0_i32_574 : BitVec 32 := 0#32
  let v837 : BitVec 1 := Scalar.cmpi .slt v833 c0_i32_574
  let v838 : BitVec 1 := Scalar.xori v836 v837
  let c0_i32_572 : BitVec 32 := 0#32
  let v835 : BitVec 1 := Scalar.cmpi .ne v834 c0_i32_572
  let v839 : BitVec 1 := Scalar.andi v838 v835
  let v840 : BitVec 32 := Scalar.addi v834 v833
  let v841 : BitVec 32 := Scalar.select v839 v840 v834
  let c384_i32_575 : BitVec 32 := 384#32
  let v842 : BitVec 32 := Scalar.muli v841 c384_i32_575
  let c0_i32_576 : BitVec 32 := 0#32
  let v843 : BitVec 32 := Scalar.addi v842 c0_i32_576
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v820 : BitVec 32 := Scalar.subi v29 c0_i32_561
  let c4_i32_562 : BitVec 32 := 4#32
  let c0_i32_563 : BitVec 32 := 0#32
  let v821 : BitVec 1 := Scalar.cmpi .eq c4_i32_562 c0_i32_563
  let c1_i32_564 : BitVec 32 := 1#32
  let v822 : BitVec 32 := Scalar.select v821 c1_i32_564 c4_i32_562
  let v823 : BitVec 32 := Scalar.remsi v820 v822
  let c0_i32_566 : BitVec 32 := 0#32
  let v825 : BitVec 1 := Scalar.cmpi .slt v823 c0_i32_566
  let c0_i32_567 : BitVec 32 := 0#32
  let v826 : BitVec 1 := Scalar.cmpi .slt v822 c0_i32_567
  let v827 : BitVec 1 := Scalar.xori v825 v826
  let c0_i32_565 : BitVec 32 := 0#32
  let v824 : BitVec 1 := Scalar.cmpi .ne v823 c0_i32_565
  let v828 : BitVec 1 := Scalar.andi v827 v824
  let v829 : BitVec 32 := Scalar.addi v823 v822
  let v830 : BitVec 32 := Scalar.select v828 v829 v823
  let c96_i32_568 : BitVec 32 := 96#32
  let v831 : BitVec 32 := Scalar.muli v830 c96_i32_568
  let v844 : BitVec 32 := Scalar.addi v843 v831
  let v845 : Index := Scalar.indexCast v844
  let c512_577 : Index := 512#32
  ![v845.toNat, 512]
def k0_off15_at (r : Fin 4) : BitVec 32 :=
  if r.val < 2 then
    if r.val < 1 then
      0#32
    else
      4294967295#32
  else
    if r.val < 3 then
      4294967294#32
    else
      4294967293#32
def k0_dev17 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_587 : BitVec 32 := 1#32
  let v856 : BitVec 32 := Scalar.muli v54 c1_i32_587
  let v857 : BitVec 32 := Scalar.addi c0_i32_588 v856
  v857.toNat
def k0_dev18 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_619 : BitVec 32 := 1#32
  let v902 : BitVec 32 := Scalar.muli v54 c1_i32_619
  let v903 : BitVec 32 := Scalar.addi c0_i32_620 v902
  v903.toNat
def k0_dev19 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_651 : BitVec 32 := 1#32
  let v948 : BitVec 32 := Scalar.muli v54 c1_i32_651
  let v949 : BitVec 32 := Scalar.addi c0_i32_652 v948
  v949.toNat
def k0_dev20 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_682 : BitVec 32 := 1#32
  let v994 : BitVec 32 := Scalar.muli v54 c1_i32_682
  let v995 : BitVec 32 := Scalar.addi c0_i32_683 v994
  v995.toNat
def k0_off16 (d0 : Dev nD) (c0_i32_699 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_688 : BitVec 32 := 2#32
  let v1004 : BitVec 32 := Scalar.subi v29 c2_i32_688
  let c4_i32_707 : BitVec 32 := 4#32
  let c0_i32_708 : BitVec 32 := 0#32
  let v1025 : BitVec 1 := Scalar.cmpi .eq c4_i32_707 c0_i32_708
  let c1_i32_709 : BitVec 32 := 1#32
  let v1026 : BitVec 32 := Scalar.select v1025 c1_i32_709 c4_i32_707
  let v1027 : BitVec 32 := Scalar.remsi v1004 v1026
  let c0_i32_711 : BitVec 32 := 0#32
  let v1029 : BitVec 1 := Scalar.cmpi .slt v1027 c0_i32_711
  let c0_i32_712 : BitVec 32 := 0#32
  let v1030 : BitVec 1 := Scalar.cmpi .slt v1026 c0_i32_712
  let v1031 : BitVec 1 := Scalar.xori v1029 v1030
  let c0_i32_710 : BitVec 32 := 0#32
  let v1028 : BitVec 1 := Scalar.cmpi .ne v1027 c0_i32_710
  let v1032 : BitVec 1 := Scalar.andi v1031 v1028
  let v1033 : BitVec 32 := Scalar.addi v1027 v1026
  let v1034 : BitVec 32 := Scalar.select v1032 v1033 v1027
  let c384_i32_713 : BitVec 32 := 384#32
  let v1035 : BitVec 32 := Scalar.muli v1034 c384_i32_713
  let c0_i32_714 : BitVec 32 := 0#32
  let v1036 : BitVec 32 := Scalar.addi v1035 c0_i32_714
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1013 : BitVec 32 := Scalar.subi v12 c0_i32_699
  let c4_i32_700 : BitVec 32 := 4#32
  let c0_i32_701 : BitVec 32 := 0#32
  let v1014 : BitVec 1 := Scalar.cmpi .eq c4_i32_700 c0_i32_701
  let c1_i32_702 : BitVec 32 := 1#32
  let v1015 : BitVec 32 := Scalar.select v1014 c1_i32_702 c4_i32_700
  let v1016 : BitVec 32 := Scalar.remsi v1013 v1015
  let c0_i32_704 : BitVec 32 := 0#32
  let v1018 : BitVec 1 := Scalar.cmpi .slt v1016 c0_i32_704
  let c0_i32_705 : BitVec 32 := 0#32
  let v1019 : BitVec 1 := Scalar.cmpi .slt v1015 c0_i32_705
  let v1020 : BitVec 1 := Scalar.xori v1018 v1019
  let c0_i32_703 : BitVec 32 := 0#32
  let v1017 : BitVec 1 := Scalar.cmpi .ne v1016 c0_i32_703
  let v1021 : BitVec 1 := Scalar.andi v1020 v1017
  let v1022 : BitVec 32 := Scalar.addi v1016 v1015
  let v1023 : BitVec 32 := Scalar.select v1021 v1022 v1016
  let c96_i32_706 : BitVec 32 := 96#32
  let v1024 : BitVec 32 := Scalar.muli v1023 c96_i32_706
  let v1037 : BitVec 32 := Scalar.addi v1036 v1024
  let v1038 : Index := Scalar.indexCast v1037
  let c1024_715 : Index := 1024#32
  ![v1038.toNat, 1024]
def k0_off17 (d0 : Dev nD) (c0_i32_699 : BitVec 32) : Fin 3 → Nat :=
  let c1_716 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1013 : BitVec 32 := Scalar.subi v12 c0_i32_699
  let c4_i32_700 : BitVec 32 := 4#32
  let c0_i32_701 : BitVec 32 := 0#32
  let v1014 : BitVec 1 := Scalar.cmpi .eq c4_i32_700 c0_i32_701
  let c1_i32_702 : BitVec 32 := 1#32
  let v1015 : BitVec 32 := Scalar.select v1014 c1_i32_702 c4_i32_700
  let v1016 : BitVec 32 := Scalar.remsi v1013 v1015
  let c0_i32_704 : BitVec 32 := 0#32
  let v1018 : BitVec 1 := Scalar.cmpi .slt v1016 c0_i32_704
  let c0_i32_705 : BitVec 32 := 0#32
  let v1019 : BitVec 1 := Scalar.cmpi .slt v1015 c0_i32_705
  let v1020 : BitVec 1 := Scalar.xori v1018 v1019
  let c0_i32_703 : BitVec 32 := 0#32
  let v1017 : BitVec 1 := Scalar.cmpi .ne v1016 c0_i32_703
  let v1021 : BitVec 1 := Scalar.andi v1020 v1017
  let v1022 : BitVec 32 := Scalar.addi v1016 v1015
  let v1023 : BitVec 32 := Scalar.select v1021 v1022 v1016
  let c96_i32_706 : BitVec 32 := 96#32
  let v1024 : BitVec 32 := Scalar.muli v1023 c96_i32_706
  let v1040 : Index := Scalar.indexCast v1024
  let c0_717 : Index := 0#32
  ![1, v1040.toNat, 0]
def k0_off17_at (r : Fin 7) : BitVec 32 :=
  if r.val < 3 then
    if r.val < 1 then
      0#32
    else
      if r.val < 2 then
        1#32
      else
        2#32
  else
    if r.val < 5 then
      if r.val < 4 then
        3#32
      else
        4294967295#32
    else
      if r.val < 6 then
        4294967294#32
      else
        4294967293#32
def k0_dev21 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_725 : BitVec 32 := 1#32
  let v1049 : BitVec 32 := Scalar.muli v67 c1_i32_725
  let v1050 : BitVec 32 := Scalar.addi c0_i32_726 v1049
  v1050.toNat
def k0_dev22 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_757 : BitVec 32 := 1#32
  let v1095 : BitVec 32 := Scalar.muli v67 c1_i32_757
  let v1096 : BitVec 32 := Scalar.addi c0_i32_758 v1095
  v1096.toNat
def k0_dev23 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_789 : BitVec 32 := 1#32
  let v1141 : BitVec 32 := Scalar.muli v67 c1_i32_789
  let v1142 : BitVec 32 := Scalar.addi c0_i32_790 v1141
  v1142.toNat
def k0_dev24 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_821 : BitVec 32 := 1#32
  let v1187 : BitVec 32 := Scalar.muli v67 c1_i32_821
  let v1188 : BitVec 32 := Scalar.addi c0_i32_822 v1187
  v1188.toNat
def k0_off18 (d0 : Dev nD) (c0_i32_838 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c_m2_i32_827 : BitVec 32 := 4294967294#32
  let v1197 : BitVec 32 := Scalar.subi v29 c_m2_i32_827
  let c4_i32_846 : BitVec 32 := 4#32
  let c0_i32_847 : BitVec 32 := 0#32
  let v1218 : BitVec 1 := Scalar.cmpi .eq c4_i32_846 c0_i32_847
  let c1_i32_848 : BitVec 32 := 1#32
  let v1219 : BitVec 32 := Scalar.select v1218 c1_i32_848 c4_i32_846
  let v1220 : BitVec 32 := Scalar.remsi v1197 v1219
  let c0_i32_850 : BitVec 32 := 0#32
  let v1222 : BitVec 1 := Scalar.cmpi .slt v1220 c0_i32_850
  let c0_i32_851 : BitVec 32 := 0#32
  let v1223 : BitVec 1 := Scalar.cmpi .slt v1219 c0_i32_851
  let v1224 : BitVec 1 := Scalar.xori v1222 v1223
  let c0_i32_849 : BitVec 32 := 0#32
  let v1221 : BitVec 1 := Scalar.cmpi .ne v1220 c0_i32_849
  let v1225 : BitVec 1 := Scalar.andi v1224 v1221
  let v1226 : BitVec 32 := Scalar.addi v1220 v1219
  let v1227 : BitVec 32 := Scalar.select v1225 v1226 v1220
  let c384_i32_852 : BitVec 32 := 384#32
  let v1228 : BitVec 32 := Scalar.muli v1227 c384_i32_852
  let c0_i32_853 : BitVec 32 := 0#32
  let v1229 : BitVec 32 := Scalar.addi v1228 c0_i32_853
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1206 : BitVec 32 := Scalar.subi v12 c0_i32_838
  let c4_i32_839 : BitVec 32 := 4#32
  let c0_i32_840 : BitVec 32 := 0#32
  let v1207 : BitVec 1 := Scalar.cmpi .eq c4_i32_839 c0_i32_840
  let c1_i32_841 : BitVec 32 := 1#32
  let v1208 : BitVec 32 := Scalar.select v1207 c1_i32_841 c4_i32_839
  let v1209 : BitVec 32 := Scalar.remsi v1206 v1208
  let c0_i32_843 : BitVec 32 := 0#32
  let v1211 : BitVec 1 := Scalar.cmpi .slt v1209 c0_i32_843
  let c0_i32_844 : BitVec 32 := 0#32
  let v1212 : BitVec 1 := Scalar.cmpi .slt v1208 c0_i32_844
  let v1213 : BitVec 1 := Scalar.xori v1211 v1212
  let c0_i32_842 : BitVec 32 := 0#32
  let v1210 : BitVec 1 := Scalar.cmpi .ne v1209 c0_i32_842
  let v1214 : BitVec 1 := Scalar.andi v1213 v1210
  let v1215 : BitVec 32 := Scalar.addi v1209 v1208
  let v1216 : BitVec 32 := Scalar.select v1214 v1215 v1209
  let c96_i32_845 : BitVec 32 := 96#32
  let v1217 : BitVec 32 := Scalar.muli v1216 c96_i32_845
  let v1230 : BitVec 32 := Scalar.addi v1229 v1217
  let v1231 : Index := Scalar.indexCast v1230
  let c1280_854 : Index := 1280#32
  ![v1231.toNat, 1280]
def k0_off18_at (r : Fin 4) : BitVec 32 :=
  if r.val < 2 then
    if r.val < 1 then
      0#32
    else
      4294967295#32
  else
    if r.val < 3 then
      4294967294#32
    else
      4294967293#32
def k0_dev25 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_864 : BitVec 32 := 1#32
  let v1242 : BitVec 32 := Scalar.muli v80 c1_i32_864
  let v1243 : BitVec 32 := Scalar.addi c0_i32_865 v1242
  v1243.toNat
def k0_dev26 (d0 : Dev nD) : Nat :=
  let c0_i32_897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_896 : BitVec 32 := 1#32
  let v1288 : BitVec 32 := Scalar.muli v80 c1_i32_896
  let v1289 : BitVec 32 := Scalar.addi c0_i32_897 v1288
  v1289.toNat
def k0_dev27 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_928 : BitVec 32 := 1#32
  let v1334 : BitVec 32 := Scalar.muli v80 c1_i32_928
  let v1335 : BitVec 32 := Scalar.addi c0_i32_929 v1334
  v1335.toNat
def k0_dev28 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_960 : BitVec 32 := 1#32
  let v1380 : BitVec 32 := Scalar.muli v80 c1_i32_960
  let v1381 : BitVec 32 := Scalar.addi c0_i32_961 v1380
  v1381.toNat
def k0_off19 (d0 : Dev nD) (c1_i32_966 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1390 : BitVec 32 := Scalar.addi v12 c1_i32_966
  let c4_i32_967 : BitVec 32 := 4#32
  let c0_i32_968 : BitVec 32 := 0#32
  let v1391 : BitVec 1 := Scalar.cmpi .eq c4_i32_967 c0_i32_968
  let c1_i32_969 : BitVec 32 := 1#32
  let v1392 : BitVec 32 := Scalar.select v1391 c1_i32_969 c4_i32_967
  let v1393 : BitVec 32 := Scalar.remsi v1390 v1392
  let c0_i32_971 : BitVec 32 := 0#32
  let v1395 : BitVec 1 := Scalar.cmpi .slt v1393 c0_i32_971
  let c0_i32_972 : BitVec 32 := 0#32
  let v1396 : BitVec 1 := Scalar.cmpi .slt v1392 c0_i32_972
  let v1397 : BitVec 1 := Scalar.xori v1395 v1396
  let c0_i32_970 : BitVec 32 := 0#32
  let v1394 : BitVec 1 := Scalar.cmpi .ne v1393 c0_i32_970
  let v1398 : BitVec 1 := Scalar.andi v1397 v1394
  let v1399 : BitVec 32 := Scalar.addi v1393 v1392
  let v1400 : BitVec 32 := Scalar.select v1398 v1399 v1393
  let c384_i32_973 : BitVec 32 := 384#32
  let v1401 : BitVec 32 := Scalar.muli v1400 c384_i32_973
  let v1402 : Index := Scalar.indexCast v1401
  let c0_974 : Index := 0#32
  ![v1402.toNat, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_966 : BitVec 32 := 1#32
  let v1390 : BitVec 32 := Scalar.addi v12 c1_i32_966
  let c4_i32_967 : BitVec 32 := 4#32
  let c0_i32_968 : BitVec 32 := 0#32
  let v1391 : BitVec 1 := Scalar.cmpi .eq c4_i32_967 c0_i32_968
  let c1_i32_969 : BitVec 32 := 1#32
  let v1392 : BitVec 32 := Scalar.select v1391 c1_i32_969 c4_i32_967
  let v1393 : BitVec 32 := Scalar.remsi v1390 v1392
  let c0_i32_971 : BitVec 32 := 0#32
  let v1395 : BitVec 1 := Scalar.cmpi .slt v1393 c0_i32_971
  let c0_i32_972 : BitVec 32 := 0#32
  let v1396 : BitVec 1 := Scalar.cmpi .slt v1392 c0_i32_972
  let v1397 : BitVec 1 := Scalar.xori v1395 v1396
  let c0_i32_970 : BitVec 32 := 0#32
  let v1394 : BitVec 1 := Scalar.cmpi .ne v1393 c0_i32_970
  let v1398 : BitVec 1 := Scalar.andi v1397 v1394
  let v1399 : BitVec 32 := Scalar.addi v1393 v1392
  let v1400 : BitVec 32 := Scalar.select v1398 v1399 v1393
  let c384_i32_973 : BitVec 32 := 384#32
  let v1401 : BitVec 32 := Scalar.muli v1400 c384_i32_973
  let v1408 : Index := Scalar.indexCast v1401
  let c0_978 : Index := 0#32
  ![v1408.toNat, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c_m1_i32_979 : BitVec 32 := 4294967295#32
  let v1412 : BitVec 32 := Scalar.addi v12 c_m1_i32_979
  let c4_i32_980 : BitVec 32 := 4#32
  let c0_i32_981 : BitVec 32 := 0#32
  let v1413 : BitVec 1 := Scalar.cmpi .eq c4_i32_980 c0_i32_981
  let c1_i32_982 : BitVec 32 := 1#32
  let v1414 : BitVec 32 := Scalar.select v1413 c1_i32_982 c4_i32_980
  let v1415 : BitVec 32 := Scalar.remsi v1412 v1414
  let c0_i32_984 : BitVec 32 := 0#32
  let v1417 : BitVec 1 := Scalar.cmpi .slt v1415 c0_i32_984
  let c0_i32_985 : BitVec 32 := 0#32
  let v1418 : BitVec 1 := Scalar.cmpi .slt v1414 c0_i32_985
  let v1419 : BitVec 1 := Scalar.xori v1417 v1418
  let c0_i32_983 : BitVec 32 := 0#32
  let v1416 : BitVec 1 := Scalar.cmpi .ne v1415 c0_i32_983
  let v1420 : BitVec 1 := Scalar.andi v1419 v1416
  let v1421 : BitVec 32 := Scalar.addi v1415 v1414
  let v1422 : BitVec 32 := Scalar.select v1420 v1421 v1415
  let c384_i32_986 : BitVec 32 := 384#32
  let v1423 : BitVec 32 := Scalar.muli v1422 c384_i32_986
  let v1430 : Index := Scalar.indexCast v1423
  let c512_991 : Index := 512#32
  ![v1430.toNat, 512]
def k0_off22 (d0 : Dev nD) (c1_i32_992 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1434 : BitVec 32 := Scalar.addi v29 c1_i32_992
  let c4_i32_993 : BitVec 32 := 4#32
  let c0_i32_994 : BitVec 32 := 0#32
  let v1435 : BitVec 1 := Scalar.cmpi .eq c4_i32_993 c0_i32_994
  let c1_i32_995 : BitVec 32 := 1#32
  let v1436 : BitVec 32 := Scalar.select v1435 c1_i32_995 c4_i32_993
  let v1437 : BitVec 32 := Scalar.remsi v1434 v1436
  let c0_i32_997 : BitVec 32 := 0#32
  let v1439 : BitVec 1 := Scalar.cmpi .slt v1437 c0_i32_997
  let c0_i32_998 : BitVec 32 := 0#32
  let v1440 : BitVec 1 := Scalar.cmpi .slt v1436 c0_i32_998
  let v1441 : BitVec 1 := Scalar.xori v1439 v1440
  let c0_i32_996 : BitVec 32 := 0#32
  let v1438 : BitVec 1 := Scalar.cmpi .ne v1437 c0_i32_996
  let v1442 : BitVec 1 := Scalar.andi v1441 v1438
  let v1443 : BitVec 32 := Scalar.addi v1437 v1436
  let v1444 : BitVec 32 := Scalar.select v1442 v1443 v1437
  let c384_i32_999 : BitVec 32 := 384#32
  let v1445 : BitVec 32 := Scalar.muli v1444 c384_i32_999
  let v1446 : Index := Scalar.indexCast v1445
  let c0_1000 : Index := 0#32
  ![v1446.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_992 : BitVec 32 := 1#32
  let v1434 : BitVec 32 := Scalar.addi v29 c1_i32_992
  let c4_i32_993 : BitVec 32 := 4#32
  let c0_i32_994 : BitVec 32 := 0#32
  let v1435 : BitVec 1 := Scalar.cmpi .eq c4_i32_993 c0_i32_994
  let c1_i32_995 : BitVec 32 := 1#32
  let v1436 : BitVec 32 := Scalar.select v1435 c1_i32_995 c4_i32_993
  let v1437 : BitVec 32 := Scalar.remsi v1434 v1436
  let c0_i32_997 : BitVec 32 := 0#32
  let v1439 : BitVec 1 := Scalar.cmpi .slt v1437 c0_i32_997
  let c0_i32_998 : BitVec 32 := 0#32
  let v1440 : BitVec 1 := Scalar.cmpi .slt v1436 c0_i32_998
  let v1441 : BitVec 1 := Scalar.xori v1439 v1440
  let c0_i32_996 : BitVec 32 := 0#32
  let v1438 : BitVec 1 := Scalar.cmpi .ne v1437 c0_i32_996
  let v1442 : BitVec 1 := Scalar.andi v1441 v1438
  let v1443 : BitVec 32 := Scalar.addi v1437 v1436
  let v1444 : BitVec 32 := Scalar.select v1442 v1443 v1437
  let c384_i32_999 : BitVec 32 := 384#32
  let v1445 : BitVec 32 := Scalar.muli v1444 c384_i32_999
  let v1452 : Index := Scalar.indexCast v1445
  let c1024_1004 : Index := 1024#32
  ![v1452.toNat, 1024]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c_m1_i32_1005 : BitVec 32 := 4294967295#32
  let v1456 : BitVec 32 := Scalar.addi v29 c_m1_i32_1005
  let c4_i32_1006 : BitVec 32 := 4#32
  let c0_i32_1007 : BitVec 32 := 0#32
  let v1457 : BitVec 1 := Scalar.cmpi .eq c4_i32_1006 c0_i32_1007
  let c1_i32_1008 : BitVec 32 := 1#32
  let v1458 : BitVec 32 := Scalar.select v1457 c1_i32_1008 c4_i32_1006
  let v1459 : BitVec 32 := Scalar.remsi v1456 v1458
  let c0_i32_1010 : BitVec 32 := 0#32
  let v1461 : BitVec 1 := Scalar.cmpi .slt v1459 c0_i32_1010
  let c0_i32_1011 : BitVec 32 := 0#32
  let v1462 : BitVec 1 := Scalar.cmpi .slt v1458 c0_i32_1011
  let v1463 : BitVec 1 := Scalar.xori v1461 v1462
  let c0_i32_1009 : BitVec 32 := 0#32
  let v1460 : BitVec 1 := Scalar.cmpi .ne v1459 c0_i32_1009
  let v1464 : BitVec 1 := Scalar.andi v1463 v1460
  let v1465 : BitVec 32 := Scalar.addi v1459 v1458
  let v1466 : BitVec 32 := Scalar.select v1464 v1465 v1459
  let c384_i32_1012 : BitVec 32 := 384#32
  let v1467 : BitVec 32 := Scalar.muli v1466 c384_i32_1012
  let v1474 : Index := Scalar.indexCast v1467
  let c1280_1017 : Index := 1280#32
  ![v1474.toNat, 1280]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1018 : BitVec 32 := 1#32
  let v1478 : BitVec 32 := Scalar.addi v12 c1_i32_1018
  let c4_i32_1029 : BitVec 32 := 4#32
  let c0_i32_1030 : BitVec 32 := 0#32
  let v1487 : BitVec 1 := Scalar.cmpi .eq c4_i32_1029 c0_i32_1030
  let c1_i32_1031 : BitVec 32 := 1#32
  let v1488 : BitVec 32 := Scalar.select v1487 c1_i32_1031 c4_i32_1029
  let v1489 : BitVec 32 := Scalar.remsi v1478 v1488
  let c0_i32_1033 : BitVec 32 := 0#32
  let v1491 : BitVec 1 := Scalar.cmpi .slt v1489 c0_i32_1033
  let c0_i32_1034 : BitVec 32 := 0#32
  let v1492 : BitVec 1 := Scalar.cmpi .slt v1488 c0_i32_1034
  let v1493 : BitVec 1 := Scalar.xori v1491 v1492
  let c0_i32_1032 : BitVec 32 := 0#32
  let v1490 : BitVec 1 := Scalar.cmpi .ne v1489 c0_i32_1032
  let v1494 : BitVec 1 := Scalar.andi v1493 v1490
  let v1495 : BitVec 32 := Scalar.addi v1489 v1488
  let v1496 : BitVec 32 := Scalar.select v1494 v1495 v1489
  let c384_i32_1035 : BitVec 32 := 384#32
  let v1497 : BitVec 32 := Scalar.muli v1496 c384_i32_1035
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_1036 : BitVec 32 := 4#32
  let c0_i32_1037 : BitVec 32 := 0#32
  let v1498 : BitVec 1 := Scalar.cmpi .eq c4_i32_1036 c0_i32_1037
  let c1_i32_1038 : BitVec 32 := 1#32
  let v1499 : BitVec 32 := Scalar.select v1498 c1_i32_1038 c4_i32_1036
  let v1500 : BitVec 32 := Scalar.remsi v29 v1499
  let c0_i32_1040 : BitVec 32 := 0#32
  let v1502 : BitVec 1 := Scalar.cmpi .slt v1500 c0_i32_1040
  let c0_i32_1041 : BitVec 32 := 0#32
  let v1503 : BitVec 1 := Scalar.cmpi .slt v1499 c0_i32_1041
  let v1504 : BitVec 1 := Scalar.xori v1502 v1503
  let c0_i32_1039 : BitVec 32 := 0#32
  let v1501 : BitVec 1 := Scalar.cmpi .ne v1500 c0_i32_1039
  let v1505 : BitVec 1 := Scalar.andi v1504 v1501
  let v1506 : BitVec 32 := Scalar.addi v1500 v1499
  let v1507 : BitVec 32 := Scalar.select v1505 v1506 v1500
  let c96_i32_1042 : BitVec 32 := 96#32
  let v1508 : BitVec 32 := Scalar.muli v1507 c96_i32_1042
  let v1509 : BitVec 32 := Scalar.addi v1497 v1508
  let v1510 : Index := Scalar.indexCast v1509
  let c0_1043 : Index := 0#32
  ![v1510.toNat, 0]
def k0_dev29 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_1054 : BitVec 32 := 1#32
  let v1520 : BitVec 32 := Scalar.muli v67 c1_i32_1054
  let v1521 : BitVec 32 := Scalar.addi c0_i32_1055 v1520
  v1521.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c_m1_i32_1060 : BitVec 32 := 4294967295#32
  let v1530 : BitVec 32 := Scalar.addi v12 c_m1_i32_1060
  let c4_i32_1071 : BitVec 32 := 4#32
  let c0_i32_1072 : BitVec 32 := 0#32
  let v1539 : BitVec 1 := Scalar.cmpi .eq c4_i32_1071 c0_i32_1072
  let c1_i32_1073 : BitVec 32 := 1#32
  let v1540 : BitVec 32 := Scalar.select v1539 c1_i32_1073 c4_i32_1071
  let v1541 : BitVec 32 := Scalar.remsi v1530 v1540
  let c0_i32_1075 : BitVec 32 := 0#32
  let v1543 : BitVec 1 := Scalar.cmpi .slt v1541 c0_i32_1075
  let c0_i32_1076 : BitVec 32 := 0#32
  let v1544 : BitVec 1 := Scalar.cmpi .slt v1540 c0_i32_1076
  let v1545 : BitVec 1 := Scalar.xori v1543 v1544
  let c0_i32_1074 : BitVec 32 := 0#32
  let v1542 : BitVec 1 := Scalar.cmpi .ne v1541 c0_i32_1074
  let v1546 : BitVec 1 := Scalar.andi v1545 v1542
  let v1547 : BitVec 32 := Scalar.addi v1541 v1540
  let v1548 : BitVec 32 := Scalar.select v1546 v1547 v1541
  let c384_i32_1077 : BitVec 32 := 384#32
  let v1549 : BitVec 32 := Scalar.muli v1548 c384_i32_1077
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c4_i32_1078 : BitVec 32 := 4#32
  let c0_i32_1079 : BitVec 32 := 0#32
  let v1550 : BitVec 1 := Scalar.cmpi .eq c4_i32_1078 c0_i32_1079
  let c1_i32_1080 : BitVec 32 := 1#32
  let v1551 : BitVec 32 := Scalar.select v1550 c1_i32_1080 c4_i32_1078
  let v1552 : BitVec 32 := Scalar.remsi v29 v1551
  let c0_i32_1082 : BitVec 32 := 0#32
  let v1554 : BitVec 1 := Scalar.cmpi .slt v1552 c0_i32_1082
  let c0_i32_1083 : BitVec 32 := 0#32
  let v1555 : BitVec 1 := Scalar.cmpi .slt v1551 c0_i32_1083
  let v1556 : BitVec 1 := Scalar.xori v1554 v1555
  let c0_i32_1081 : BitVec 32 := 0#32
  let v1553 : BitVec 1 := Scalar.cmpi .ne v1552 c0_i32_1081
  let v1557 : BitVec 1 := Scalar.andi v1556 v1553
  let v1558 : BitVec 32 := Scalar.addi v1552 v1551
  let v1559 : BitVec 32 := Scalar.select v1557 v1558 v1552
  let c96_i32_1084 : BitVec 32 := 96#32
  let v1560 : BitVec 32 := Scalar.muli v1559 c96_i32_1084
  let v1561 : BitVec 32 := Scalar.addi v1549 v1560
  let v1562 : Index := Scalar.indexCast v1561
  let c512_1085 : Index := 512#32
  ![v1562.toNat, 512]
def k0_dev30 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_1096 : BitVec 32 := 1#32
  let v1572 : BitVec 32 := Scalar.muli v80 c1_i32_1096
  let v1573 : BitVec 32 := Scalar.addi c0_i32_1097 v1572
  v1573.toNat
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1102 : BitVec 32 := 1#32
  let v1582 : BitVec 32 := Scalar.addi v29 c1_i32_1102
  let c4_i32_1113 : BitVec 32 := 4#32
  let c0_i32_1114 : BitVec 32 := 0#32
  let v1591 : BitVec 1 := Scalar.cmpi .eq c4_i32_1113 c0_i32_1114
  let c1_i32_1115 : BitVec 32 := 1#32
  let v1592 : BitVec 32 := Scalar.select v1591 c1_i32_1115 c4_i32_1113
  let v1593 : BitVec 32 := Scalar.remsi v1582 v1592
  let c0_i32_1117 : BitVec 32 := 0#32
  let v1595 : BitVec 1 := Scalar.cmpi .slt v1593 c0_i32_1117
  let c0_i32_1118 : BitVec 32 := 0#32
  let v1596 : BitVec 1 := Scalar.cmpi .slt v1592 c0_i32_1118
  let v1597 : BitVec 1 := Scalar.xori v1595 v1596
  let c0_i32_1116 : BitVec 32 := 0#32
  let v1594 : BitVec 1 := Scalar.cmpi .ne v1593 c0_i32_1116
  let v1598 : BitVec 1 := Scalar.andi v1597 v1594
  let v1599 : BitVec 32 := Scalar.addi v1593 v1592
  let v1600 : BitVec 32 := Scalar.select v1598 v1599 v1593
  let c384_i32_1119 : BitVec 32 := 384#32
  let v1601 : BitVec 32 := Scalar.muli v1600 c384_i32_1119
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_1120 : BitVec 32 := 4#32
  let c0_i32_1121 : BitVec 32 := 0#32
  let v1602 : BitVec 1 := Scalar.cmpi .eq c4_i32_1120 c0_i32_1121
  let c1_i32_1122 : BitVec 32 := 1#32
  let v1603 : BitVec 32 := Scalar.select v1602 c1_i32_1122 c4_i32_1120
  let v1604 : BitVec 32 := Scalar.remsi v12 v1603
  let c0_i32_1124 : BitVec 32 := 0#32
  let v1606 : BitVec 1 := Scalar.cmpi .slt v1604 c0_i32_1124
  let c0_i32_1125 : BitVec 32 := 0#32
  let v1607 : BitVec 1 := Scalar.cmpi .slt v1603 c0_i32_1125
  let v1608 : BitVec 1 := Scalar.xori v1606 v1607
  let c0_i32_1123 : BitVec 32 := 0#32
  let v1605 : BitVec 1 := Scalar.cmpi .ne v1604 c0_i32_1123
  let v1609 : BitVec 1 := Scalar.andi v1608 v1605
  let v1610 : BitVec 32 := Scalar.addi v1604 v1603
  let v1611 : BitVec 32 := Scalar.select v1609 v1610 v1604
  let c96_i32_1126 : BitVec 32 := 96#32
  let v1612 : BitVec 32 := Scalar.muli v1611 c96_i32_1126
  let v1613 : BitVec 32 := Scalar.addi v1601 v1612
  let v1614 : Index := Scalar.indexCast v1613
  let c1024_1127 : Index := 1024#32
  ![v1614.toNat, 1024]
def k0_dev31 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1138 : BitVec 32 := 1#32
  let v1624 : BitVec 32 := Scalar.muli v42 c1_i32_1138
  let v1625 : BitVec 32 := Scalar.addi c0_i32_1139 v1624
  v1625.toNat
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c_m1_i32_1144 : BitVec 32 := 4294967295#32
  let v1634 : BitVec 32 := Scalar.addi v29 c_m1_i32_1144
  let c4_i32_1155 : BitVec 32 := 4#32
  let c0_i32_1156 : BitVec 32 := 0#32
  let v1643 : BitVec 1 := Scalar.cmpi .eq c4_i32_1155 c0_i32_1156
  let c1_i32_1157 : BitVec 32 := 1#32
  let v1644 : BitVec 32 := Scalar.select v1643 c1_i32_1157 c4_i32_1155
  let v1645 : BitVec 32 := Scalar.remsi v1634 v1644
  let c0_i32_1159 : BitVec 32 := 0#32
  let v1647 : BitVec 1 := Scalar.cmpi .slt v1645 c0_i32_1159
  let c0_i32_1160 : BitVec 32 := 0#32
  let v1648 : BitVec 1 := Scalar.cmpi .slt v1644 c0_i32_1160
  let v1649 : BitVec 1 := Scalar.xori v1647 v1648
  let c0_i32_1158 : BitVec 32 := 0#32
  let v1646 : BitVec 1 := Scalar.cmpi .ne v1645 c0_i32_1158
  let v1650 : BitVec 1 := Scalar.andi v1649 v1646
  let v1651 : BitVec 32 := Scalar.addi v1645 v1644
  let v1652 : BitVec 32 := Scalar.select v1650 v1651 v1645
  let c384_i32_1161 : BitVec 32 := 384#32
  let v1653 : BitVec 32 := Scalar.muli v1652 c384_i32_1161
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c4_i32_1162 : BitVec 32 := 4#32
  let c0_i32_1163 : BitVec 32 := 0#32
  let v1654 : BitVec 1 := Scalar.cmpi .eq c4_i32_1162 c0_i32_1163
  let c1_i32_1164 : BitVec 32 := 1#32
  let v1655 : BitVec 32 := Scalar.select v1654 c1_i32_1164 c4_i32_1162
  let v1656 : BitVec 32 := Scalar.remsi v12 v1655
  let c0_i32_1166 : BitVec 32 := 0#32
  let v1658 : BitVec 1 := Scalar.cmpi .slt v1656 c0_i32_1166
  let c0_i32_1167 : BitVec 32 := 0#32
  let v1659 : BitVec 1 := Scalar.cmpi .slt v1655 c0_i32_1167
  let v1660 : BitVec 1 := Scalar.xori v1658 v1659
  let c0_i32_1165 : BitVec 32 := 0#32
  let v1657 : BitVec 1 := Scalar.cmpi .ne v1656 c0_i32_1165
  let v1661 : BitVec 1 := Scalar.andi v1660 v1657
  let v1662 : BitVec 32 := Scalar.addi v1656 v1655
  let v1663 : BitVec 32 := Scalar.select v1661 v1662 v1656
  let c96_i32_1168 : BitVec 32 := 96#32
  let v1664 : BitVec 32 := Scalar.muli v1663 c96_i32_1168
  let v1665 : BitVec 32 := Scalar.addi v1653 v1664
  let v1666 : Index := Scalar.indexCast v1665
  let c1280_1169 : Index := 1280#32
  ![v1666.toNat, 1280]
def k0_dev32 (d0 : Dev nD) : Nat :=
  let c0_i32_1181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_1180 : BitVec 32 := 1#32
  let v1676 : BitVec 32 := Scalar.muli v54 c1_i32_1180
  let v1677 : BitVec 32 := Scalar.addi c0_i32_1181 v1676
  v1677.toNat
def k0_off29 (d0 : Dev nD) (c1_i32_1187 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1186 : BitVec 32 := 1#32
  let v1686 : BitVec 32 := Scalar.addi v12 c1_i32_1186
  let c4_i32_1208 : BitVec 32 := 4#32
  let c0_i32_1209 : BitVec 32 := 0#32
  let v1704 : BitVec 1 := Scalar.cmpi .eq c4_i32_1208 c0_i32_1209
  let c1_i32_1210 : BitVec 32 := 1#32
  let v1705 : BitVec 32 := Scalar.select v1704 c1_i32_1210 c4_i32_1208
  let v1706 : BitVec 32 := Scalar.remsi v1686 v1705
  let c0_i32_1212 : BitVec 32 := 0#32
  let v1708 : BitVec 1 := Scalar.cmpi .slt v1706 c0_i32_1212
  let c0_i32_1213 : BitVec 32 := 0#32
  let v1709 : BitVec 1 := Scalar.cmpi .slt v1705 c0_i32_1213
  let v1710 : BitVec 1 := Scalar.xori v1708 v1709
  let c0_i32_1211 : BitVec 32 := 0#32
  let v1707 : BitVec 1 := Scalar.cmpi .ne v1706 c0_i32_1211
  let v1711 : BitVec 1 := Scalar.andi v1710 v1707
  let v1712 : BitVec 32 := Scalar.addi v1706 v1705
  let v1713 : BitVec 32 := Scalar.select v1711 v1712 v1706
  let c384_i32_1214 : BitVec 32 := 384#32
  let v1714 : BitVec 32 := Scalar.muli v1713 c384_i32_1214
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1687 : BitVec 32 := Scalar.subi v29 c1_i32_1187
  let c4_i32_1215 : BitVec 32 := 4#32
  let c0_i32_1216 : BitVec 32 := 0#32
  let v1715 : BitVec 1 := Scalar.cmpi .eq c4_i32_1215 c0_i32_1216
  let c1_i32_1217 : BitVec 32 := 1#32
  let v1716 : BitVec 32 := Scalar.select v1715 c1_i32_1217 c4_i32_1215
  let v1717 : BitVec 32 := Scalar.remsi v1687 v1716
  let c0_i32_1219 : BitVec 32 := 0#32
  let v1719 : BitVec 1 := Scalar.cmpi .slt v1717 c0_i32_1219
  let c0_i32_1220 : BitVec 32 := 0#32
  let v1720 : BitVec 1 := Scalar.cmpi .slt v1716 c0_i32_1220
  let v1721 : BitVec 1 := Scalar.xori v1719 v1720
  let c0_i32_1218 : BitVec 32 := 0#32
  let v1718 : BitVec 1 := Scalar.cmpi .ne v1717 c0_i32_1218
  let v1722 : BitVec 1 := Scalar.andi v1721 v1718
  let v1723 : BitVec 32 := Scalar.addi v1717 v1716
  let v1724 : BitVec 32 := Scalar.select v1722 v1723 v1717
  let c96_i32_1221 : BitVec 32 := 96#32
  let v1725 : BitVec 32 := Scalar.muli v1724 c96_i32_1221
  let v1726 : BitVec 32 := Scalar.addi v1714 v1725
  let v1727 : Index := Scalar.indexCast v1726
  let c0_1222 : Index := 0#32
  ![v1727.toNat, 0]
def k0_dev33 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_1236 : BitVec 32 := 1#32
  let v1741 : BitVec 32 := Scalar.muli v67 c1_i32_1236
  let v1742 : BitVec 32 := Scalar.addi c0_i32_1237 v1741
  v1742.toNat
def k0_off30 (d0 : Dev nD) (c_m1_i32_1243 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c_m1_i32_1242 : BitVec 32 := 4294967295#32
  let v1751 : BitVec 32 := Scalar.addi v12 c_m1_i32_1242
  let c4_i32_1264 : BitVec 32 := 4#32
  let c0_i32_1265 : BitVec 32 := 0#32
  let v1769 : BitVec 1 := Scalar.cmpi .eq c4_i32_1264 c0_i32_1265
  let c1_i32_1266 : BitVec 32 := 1#32
  let v1770 : BitVec 32 := Scalar.select v1769 c1_i32_1266 c4_i32_1264
  let v1771 : BitVec 32 := Scalar.remsi v1751 v1770
  let c0_i32_1268 : BitVec 32 := 0#32
  let v1773 : BitVec 1 := Scalar.cmpi .slt v1771 c0_i32_1268
  let c0_i32_1269 : BitVec 32 := 0#32
  let v1774 : BitVec 1 := Scalar.cmpi .slt v1770 c0_i32_1269
  let v1775 : BitVec 1 := Scalar.xori v1773 v1774
  let c0_i32_1267 : BitVec 32 := 0#32
  let v1772 : BitVec 1 := Scalar.cmpi .ne v1771 c0_i32_1267
  let v1776 : BitVec 1 := Scalar.andi v1775 v1772
  let v1777 : BitVec 32 := Scalar.addi v1771 v1770
  let v1778 : BitVec 32 := Scalar.select v1776 v1777 v1771
  let c384_i32_1270 : BitVec 32 := 384#32
  let v1779 : BitVec 32 := Scalar.muli v1778 c384_i32_1270
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1752 : BitVec 32 := Scalar.subi v29 c_m1_i32_1243
  let c4_i32_1271 : BitVec 32 := 4#32
  let c0_i32_1272 : BitVec 32 := 0#32
  let v1780 : BitVec 1 := Scalar.cmpi .eq c4_i32_1271 c0_i32_1272
  let c1_i32_1273 : BitVec 32 := 1#32
  let v1781 : BitVec 32 := Scalar.select v1780 c1_i32_1273 c4_i32_1271
  let v1782 : BitVec 32 := Scalar.remsi v1752 v1781
  let c0_i32_1275 : BitVec 32 := 0#32
  let v1784 : BitVec 1 := Scalar.cmpi .slt v1782 c0_i32_1275
  let c0_i32_1276 : BitVec 32 := 0#32
  let v1785 : BitVec 1 := Scalar.cmpi .slt v1781 c0_i32_1276
  let v1786 : BitVec 1 := Scalar.xori v1784 v1785
  let c0_i32_1274 : BitVec 32 := 0#32
  let v1783 : BitVec 1 := Scalar.cmpi .ne v1782 c0_i32_1274
  let v1787 : BitVec 1 := Scalar.andi v1786 v1783
  let v1788 : BitVec 32 := Scalar.addi v1782 v1781
  let v1789 : BitVec 32 := Scalar.select v1787 v1788 v1782
  let c96_i32_1277 : BitVec 32 := 96#32
  let v1790 : BitVec 32 := Scalar.muli v1789 c96_i32_1277
  let v1791 : BitVec 32 := Scalar.addi v1779 v1790
  let v1792 : Index := Scalar.indexCast v1791
  let c512_1278 : Index := 512#32
  ![v1792.toNat, 512]
def k0_dev34 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_1292 : BitVec 32 := 1#32
  let v1806 : BitVec 32 := Scalar.muli v80 c1_i32_1292
  let v1807 : BitVec 32 := Scalar.addi c0_i32_1293 v1806
  v1807.toNat
def k0_off31 (d0 : Dev nD) (c1_i32_1299 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1298 : BitVec 32 := 1#32
  let v1816 : BitVec 32 := Scalar.addi v29 c1_i32_1298
  let c4_i32_1320 : BitVec 32 := 4#32
  let c0_i32_1321 : BitVec 32 := 0#32
  let v1834 : BitVec 1 := Scalar.cmpi .eq c4_i32_1320 c0_i32_1321
  let c1_i32_1322 : BitVec 32 := 1#32
  let v1835 : BitVec 32 := Scalar.select v1834 c1_i32_1322 c4_i32_1320
  let v1836 : BitVec 32 := Scalar.remsi v1816 v1835
  let c0_i32_1324 : BitVec 32 := 0#32
  let v1838 : BitVec 1 := Scalar.cmpi .slt v1836 c0_i32_1324
  let c0_i32_1325 : BitVec 32 := 0#32
  let v1839 : BitVec 1 := Scalar.cmpi .slt v1835 c0_i32_1325
  let v1840 : BitVec 1 := Scalar.xori v1838 v1839
  let c0_i32_1323 : BitVec 32 := 0#32
  let v1837 : BitVec 1 := Scalar.cmpi .ne v1836 c0_i32_1323
  let v1841 : BitVec 1 := Scalar.andi v1840 v1837
  let v1842 : BitVec 32 := Scalar.addi v1836 v1835
  let v1843 : BitVec 32 := Scalar.select v1841 v1842 v1836
  let c384_i32_1326 : BitVec 32 := 384#32
  let v1844 : BitVec 32 := Scalar.muli v1843 c384_i32_1326
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1817 : BitVec 32 := Scalar.subi v12 c1_i32_1299
  let c4_i32_1327 : BitVec 32 := 4#32
  let c0_i32_1328 : BitVec 32 := 0#32
  let v1845 : BitVec 1 := Scalar.cmpi .eq c4_i32_1327 c0_i32_1328
  let c1_i32_1329 : BitVec 32 := 1#32
  let v1846 : BitVec 32 := Scalar.select v1845 c1_i32_1329 c4_i32_1327
  let v1847 : BitVec 32 := Scalar.remsi v1817 v1846
  let c0_i32_1331 : BitVec 32 := 0#32
  let v1849 : BitVec 1 := Scalar.cmpi .slt v1847 c0_i32_1331
  let c0_i32_1332 : BitVec 32 := 0#32
  let v1850 : BitVec 1 := Scalar.cmpi .slt v1846 c0_i32_1332
  let v1851 : BitVec 1 := Scalar.xori v1849 v1850
  let c0_i32_1330 : BitVec 32 := 0#32
  let v1848 : BitVec 1 := Scalar.cmpi .ne v1847 c0_i32_1330
  let v1852 : BitVec 1 := Scalar.andi v1851 v1848
  let v1853 : BitVec 32 := Scalar.addi v1847 v1846
  let v1854 : BitVec 32 := Scalar.select v1852 v1853 v1847
  let c96_i32_1333 : BitVec 32 := 96#32
  let v1855 : BitVec 32 := Scalar.muli v1854 c96_i32_1333
  let v1856 : BitVec 32 := Scalar.addi v1844 v1855
  let v1857 : Index := Scalar.indexCast v1856
  let c1024_1334 : Index := 1024#32
  ![v1857.toNat, 1024]
def k0_dev35 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1348 : BitVec 32 := 1#32
  let v1871 : BitVec 32 := Scalar.muli v42 c1_i32_1348
  let v1872 : BitVec 32 := Scalar.addi c0_i32_1349 v1871
  v1872.toNat
def k0_off32 (d0 : Dev nD) (c_m1_i32_1355 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c_m1_i32_1354 : BitVec 32 := 4294967295#32
  let v1881 : BitVec 32 := Scalar.addi v29 c_m1_i32_1354
  let c4_i32_1376 : BitVec 32 := 4#32
  let c0_i32_1377 : BitVec 32 := 0#32
  let v1899 : BitVec 1 := Scalar.cmpi .eq c4_i32_1376 c0_i32_1377
  let c1_i32_1378 : BitVec 32 := 1#32
  let v1900 : BitVec 32 := Scalar.select v1899 c1_i32_1378 c4_i32_1376
  let v1901 : BitVec 32 := Scalar.remsi v1881 v1900
  let c0_i32_1380 : BitVec 32 := 0#32
  let v1903 : BitVec 1 := Scalar.cmpi .slt v1901 c0_i32_1380
  let c0_i32_1381 : BitVec 32 := 0#32
  let v1904 : BitVec 1 := Scalar.cmpi .slt v1900 c0_i32_1381
  let v1905 : BitVec 1 := Scalar.xori v1903 v1904
  let c0_i32_1379 : BitVec 32 := 0#32
  let v1902 : BitVec 1 := Scalar.cmpi .ne v1901 c0_i32_1379
  let v1906 : BitVec 1 := Scalar.andi v1905 v1902
  let v1907 : BitVec 32 := Scalar.addi v1901 v1900
  let v1908 : BitVec 32 := Scalar.select v1906 v1907 v1901
  let c384_i32_1382 : BitVec 32 := 384#32
  let v1909 : BitVec 32 := Scalar.muli v1908 c384_i32_1382
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1882 : BitVec 32 := Scalar.subi v12 c_m1_i32_1355
  let c4_i32_1383 : BitVec 32 := 4#32
  let c0_i32_1384 : BitVec 32 := 0#32
  let v1910 : BitVec 1 := Scalar.cmpi .eq c4_i32_1383 c0_i32_1384
  let c1_i32_1385 : BitVec 32 := 1#32
  let v1911 : BitVec 32 := Scalar.select v1910 c1_i32_1385 c4_i32_1383
  let v1912 : BitVec 32 := Scalar.remsi v1882 v1911
  let c0_i32_1387 : BitVec 32 := 0#32
  let v1914 : BitVec 1 := Scalar.cmpi .slt v1912 c0_i32_1387
  let c0_i32_1388 : BitVec 32 := 0#32
  let v1915 : BitVec 1 := Scalar.cmpi .slt v1911 c0_i32_1388
  let v1916 : BitVec 1 := Scalar.xori v1914 v1915
  let c0_i32_1386 : BitVec 32 := 0#32
  let v1913 : BitVec 1 := Scalar.cmpi .ne v1912 c0_i32_1386
  let v1917 : BitVec 1 := Scalar.andi v1916 v1913
  let v1918 : BitVec 32 := Scalar.addi v1912 v1911
  let v1919 : BitVec 32 := Scalar.select v1917 v1918 v1912
  let c96_i32_1389 : BitVec 32 := 96#32
  let v1920 : BitVec 32 := Scalar.muli v1919 c96_i32_1389
  let v1921 : BitVec 32 := Scalar.addi v1909 v1920
  let v1922 : Index := Scalar.indexCast v1921
  let c1280_1390 : Index := 1280#32
  ![v1922.toNat, 1280]
def k0_dev36 (d0 : Dev nD) : Nat :=
  let c0_i32_1405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_1404 : BitVec 32 := 1#32
  let v1936 : BitVec 32 := Scalar.muli v54 c1_i32_1404
  let v1937 : BitVec 32 := Scalar.addi c0_i32_1405 v1936
  v1937.toNat
def k0_dev37 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_1460 : BitVec 32 := 1#32
  let v2001 : BitVec 32 := Scalar.muli v67 c1_i32_1460
  let v2002 : BitVec 32 := Scalar.addi c0_i32_1461 v2001
  v2002.toNat
def k0_dev38 (d0 : Dev nD) : Nat :=
  let c0_i32_1517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_1516 : BitVec 32 := 1#32
  let v2066 : BitVec 32 := Scalar.muli v80 c1_i32_1516
  let v2067 : BitVec 32 := Scalar.addi c0_i32_1517 v2066
  v2067.toNat
def k0_dev39 (d0 : Dev nD) : Nat :=
  let c0_i32_1573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1572 : BitVec 32 := 1#32
  let v2131 : BitVec 32 := Scalar.muli v42 c1_i32_1572
  let v2132 : BitVec 32 := Scalar.addi c0_i32_1573 v2131
  v2132.toNat
def k0_dev40 (d0 : Dev nD) : Nat :=
  let c0_i32_1629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_1628 : BitVec 32 := 1#32
  let v2196 : BitVec 32 := Scalar.muli v54 c1_i32_1628
  let v2197 : BitVec 32 := Scalar.addi c0_i32_1629 v2196
  v2197.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1634 : BitVec 32 := 1#32
  let v2206 : BitVec 32 := Scalar.addi v12 c1_i32_1634
  let c4_i32_1636 : BitVec 32 := 4#32
  let c0_i32_1637 : BitVec 32 := 0#32
  let v2208 : BitVec 1 := Scalar.cmpi .eq c4_i32_1636 c0_i32_1637
  let c1_i32_1638 : BitVec 32 := 1#32
  let v2209 : BitVec 32 := Scalar.select v2208 c1_i32_1638 c4_i32_1636
  let v2210 : BitVec 32 := Scalar.remsi v2206 v2209
  let c0_i32_1640 : BitVec 32 := 0#32
  let v2212 : BitVec 1 := Scalar.cmpi .slt v2210 c0_i32_1640
  let c0_i32_1641 : BitVec 32 := 0#32
  let v2213 : BitVec 1 := Scalar.cmpi .slt v2209 c0_i32_1641
  let v2214 : BitVec 1 := Scalar.xori v2212 v2213
  let c0_i32_1639 : BitVec 32 := 0#32
  let v2211 : BitVec 1 := Scalar.cmpi .ne v2210 c0_i32_1639
  let v2215 : BitVec 1 := Scalar.andi v2214 v2211
  let v2216 : BitVec 32 := Scalar.addi v2210 v2209
  let v2217 : BitVec 32 := Scalar.select v2215 v2216 v2210
  let c384_i32_1642 : BitVec 32 := 384#32
  let v2218 : BitVec 32 := Scalar.muli v2217 c384_i32_1642
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1635 : BitVec 32 := 1#32
  let v2207 : BitVec 32 := Scalar.addi v29 c1_i32_1635
  let c4_i32_1643 : BitVec 32 := 4#32
  let c0_i32_1644 : BitVec 32 := 0#32
  let v2219 : BitVec 1 := Scalar.cmpi .eq c4_i32_1643 c0_i32_1644
  let c1_i32_1645 : BitVec 32 := 1#32
  let v2220 : BitVec 32 := Scalar.select v2219 c1_i32_1645 c4_i32_1643
  let v2221 : BitVec 32 := Scalar.remsi v2207 v2220
  let c0_i32_1647 : BitVec 32 := 0#32
  let v2223 : BitVec 1 := Scalar.cmpi .slt v2221 c0_i32_1647
  let c0_i32_1648 : BitVec 32 := 0#32
  let v2224 : BitVec 1 := Scalar.cmpi .slt v2220 c0_i32_1648
  let v2225 : BitVec 1 := Scalar.xori v2223 v2224
  let c0_i32_1646 : BitVec 32 := 0#32
  let v2222 : BitVec 1 := Scalar.cmpi .ne v2221 c0_i32_1646
  let v2226 : BitVec 1 := Scalar.andi v2225 v2222
  let v2227 : BitVec 32 := Scalar.addi v2221 v2220
  let v2228 : BitVec 32 := Scalar.select v2226 v2227 v2221
  let c96_i32_1649 : BitVec 32 := 96#32
  let v2229 : BitVec 32 := Scalar.muli v2228 c96_i32_1649
  let v2230 : BitVec 32 := Scalar.addi v2218 v2229
  let v2247 : Index := Scalar.indexCast v2230
  let c0_1670 : Index := 0#32
  ![v2247.toNat, 0]
def k0_off34 (d0 : Dev nD) (c1_i32_1694 : BitVec 32) (c1_i32_1695 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2285 : BitVec 32 := Scalar.addi v12 c1_i32_1694
  let c4_i32_1696 : BitVec 32 := 4#32
  let c0_i32_1697 : BitVec 32 := 0#32
  let v2287 : BitVec 1 := Scalar.cmpi .eq c4_i32_1696 c0_i32_1697
  let c1_i32_1698 : BitVec 32 := 1#32
  let v2288 : BitVec 32 := Scalar.select v2287 c1_i32_1698 c4_i32_1696
  let v2289 : BitVec 32 := Scalar.remsi v2285 v2288
  let c0_i32_1700 : BitVec 32 := 0#32
  let v2291 : BitVec 1 := Scalar.cmpi .slt v2289 c0_i32_1700
  let c0_i32_1701 : BitVec 32 := 0#32
  let v2292 : BitVec 1 := Scalar.cmpi .slt v2288 c0_i32_1701
  let v2293 : BitVec 1 := Scalar.xori v2291 v2292
  let c0_i32_1699 : BitVec 32 := 0#32
  let v2290 : BitVec 1 := Scalar.cmpi .ne v2289 c0_i32_1699
  let v2294 : BitVec 1 := Scalar.andi v2293 v2290
  let v2295 : BitVec 32 := Scalar.addi v2289 v2288
  let v2296 : BitVec 32 := Scalar.select v2294 v2295 v2289
  let c384_i32_1702 : BitVec 32 := 384#32
  let v2297 : BitVec 32 := Scalar.muli v2296 c384_i32_1702
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2286 : BitVec 32 := Scalar.addi v29 c1_i32_1695
  let c4_i32_1703 : BitVec 32 := 4#32
  let c0_i32_1704 : BitVec 32 := 0#32
  let v2298 : BitVec 1 := Scalar.cmpi .eq c4_i32_1703 c0_i32_1704
  let c1_i32_1705 : BitVec 32 := 1#32
  let v2299 : BitVec 32 := Scalar.select v2298 c1_i32_1705 c4_i32_1703
  let v2300 : BitVec 32 := Scalar.remsi v2286 v2299
  let c0_i32_1707 : BitVec 32 := 0#32
  let v2302 : BitVec 1 := Scalar.cmpi .slt v2300 c0_i32_1707
  let c0_i32_1708 : BitVec 32 := 0#32
  let v2303 : BitVec 1 := Scalar.cmpi .slt v2299 c0_i32_1708
  let v2304 : BitVec 1 := Scalar.xori v2302 v2303
  let c0_i32_1706 : BitVec 32 := 0#32
  let v2301 : BitVec 1 := Scalar.cmpi .ne v2300 c0_i32_1706
  let v2305 : BitVec 1 := Scalar.andi v2304 v2301
  let v2306 : BitVec 32 := Scalar.addi v2300 v2299
  let v2307 : BitVec 32 := Scalar.select v2305 v2306 v2300
  let c96_i32_1709 : BitVec 32 := 96#32
  let v2308 : BitVec 32 := Scalar.muli v2307 c96_i32_1709
  let v2309 : BitVec 32 := Scalar.addi v2297 v2308
  let c0_i32_1714 : BitVec 32 := 0#32
  ![v2309.toNat, 0]
def k0_off34_at (r : Fin 12) : BitVec 32 × BitVec 32 :=
  if r.val < 6 then
    if r.val < 3 then
      if r.val < 1 then
        (1#32, 1#32)
      else
        if r.val < 2 then
          (1#32, 0#32)
        else
          (1#32, 4294967295#32)
    else
      if r.val < 4 then
        (1#32, 4294967294#32)
      else
        if r.val < 5 then
          (0#32, 1#32)
        else
          (0#32, 0#32)
  else
    if r.val < 9 then
      if r.val < 7 then
        (0#32, 4294967295#32)
      else
        if r.val < 8 then
          (0#32, 4294967294#32)
        else
          (4294967295#32, 1#32)
    else
      if r.val < 10 then
        (4294967295#32, 0#32)
      else
        if r.val < 11 then
          (4294967295#32, 4294967295#32)
        else
          (4294967295#32, 4294967294#32)
def k0_dev41 (d0 : Dev nD) : Nat :=
  let c0_i32_1713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_1712 : BitVec 32 := 1#32
  let v2310 : BitVec 32 := Scalar.muli v67 c1_i32_1712
  let v2311 : BitVec 32 := Scalar.addi c0_i32_1713 v2310
  v2311.toNat
def k0_dev42 (d0 : Dev nD) : Nat :=
  let c0_i32_1751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1750 : BitVec 32 := 1#32
  let v2368 : BitVec 32 := Scalar.muli v42 c1_i32_1750
  let v2369 : BitVec 32 := Scalar.addi c0_i32_1751 v2368
  v2369.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c_m1_i32_1754 : BitVec 32 := 4294967295#32
  let v2376 : BitVec 32 := Scalar.addi v12 c_m1_i32_1754
  let c4_i32_1756 : BitVec 32 := 4#32
  let c0_i32_1757 : BitVec 32 := 0#32
  let v2378 : BitVec 1 := Scalar.cmpi .eq c4_i32_1756 c0_i32_1757
  let c1_i32_1758 : BitVec 32 := 1#32
  let v2379 : BitVec 32 := Scalar.select v2378 c1_i32_1758 c4_i32_1756
  let v2380 : BitVec 32 := Scalar.remsi v2376 v2379
  let c0_i32_1760 : BitVec 32 := 0#32
  let v2382 : BitVec 1 := Scalar.cmpi .slt v2380 c0_i32_1760
  let c0_i32_1761 : BitVec 32 := 0#32
  let v2383 : BitVec 1 := Scalar.cmpi .slt v2379 c0_i32_1761
  let v2384 : BitVec 1 := Scalar.xori v2382 v2383
  let c0_i32_1759 : BitVec 32 := 0#32
  let v2381 : BitVec 1 := Scalar.cmpi .ne v2380 c0_i32_1759
  let v2385 : BitVec 1 := Scalar.andi v2384 v2381
  let v2386 : BitVec 32 := Scalar.addi v2380 v2379
  let v2387 : BitVec 32 := Scalar.select v2385 v2386 v2380
  let c384_i32_1762 : BitVec 32 := 384#32
  let v2388 : BitVec 32 := Scalar.muli v2387 c384_i32_1762
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c_m1_i32_1755 : BitVec 32 := 4294967295#32
  let v2377 : BitVec 32 := Scalar.addi v29 c_m1_i32_1755
  let c4_i32_1763 : BitVec 32 := 4#32
  let c0_i32_1764 : BitVec 32 := 0#32
  let v2389 : BitVec 1 := Scalar.cmpi .eq c4_i32_1763 c0_i32_1764
  let c1_i32_1765 : BitVec 32 := 1#32
  let v2390 : BitVec 32 := Scalar.select v2389 c1_i32_1765 c4_i32_1763
  let v2391 : BitVec 32 := Scalar.remsi v2377 v2390
  let c0_i32_1767 : BitVec 32 := 0#32
  let v2393 : BitVec 1 := Scalar.cmpi .slt v2391 c0_i32_1767
  let c0_i32_1768 : BitVec 32 := 0#32
  let v2394 : BitVec 1 := Scalar.cmpi .slt v2390 c0_i32_1768
  let v2395 : BitVec 1 := Scalar.xori v2393 v2394
  let c0_i32_1766 : BitVec 32 := 0#32
  let v2392 : BitVec 1 := Scalar.cmpi .ne v2391 c0_i32_1766
  let v2396 : BitVec 1 := Scalar.andi v2395 v2392
  let v2397 : BitVec 32 := Scalar.addi v2391 v2390
  let v2398 : BitVec 32 := Scalar.select v2396 v2397 v2391
  let c96_i32_1769 : BitVec 32 := 96#32
  let v2399 : BitVec 32 := Scalar.muli v2398 c96_i32_1769
  let v2400 : BitVec 32 := Scalar.addi v2388 v2399
  let v2417 : Index := Scalar.indexCast v2400
  let c512_1790 : Index := 512#32
  ![v2417.toNat, 512]
def k0_off36 (d0 : Dev nD) (c_m1_i32_1814 : BitVec 32) (c_m1_i32_1815 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2455 : BitVec 32 := Scalar.addi v12 c_m1_i32_1814
  let c4_i32_1816 : BitVec 32 := 4#32
  let c0_i32_1817 : BitVec 32 := 0#32
  let v2457 : BitVec 1 := Scalar.cmpi .eq c4_i32_1816 c0_i32_1817
  let c1_i32_1818 : BitVec 32 := 1#32
  let v2458 : BitVec 32 := Scalar.select v2457 c1_i32_1818 c4_i32_1816
  let v2459 : BitVec 32 := Scalar.remsi v2455 v2458
  let c0_i32_1820 : BitVec 32 := 0#32
  let v2461 : BitVec 1 := Scalar.cmpi .slt v2459 c0_i32_1820
  let c0_i32_1821 : BitVec 32 := 0#32
  let v2462 : BitVec 1 := Scalar.cmpi .slt v2458 c0_i32_1821
  let v2463 : BitVec 1 := Scalar.xori v2461 v2462
  let c0_i32_1819 : BitVec 32 := 0#32
  let v2460 : BitVec 1 := Scalar.cmpi .ne v2459 c0_i32_1819
  let v2464 : BitVec 1 := Scalar.andi v2463 v2460
  let v2465 : BitVec 32 := Scalar.addi v2459 v2458
  let v2466 : BitVec 32 := Scalar.select v2464 v2465 v2459
  let c384_i32_1822 : BitVec 32 := 384#32
  let v2467 : BitVec 32 := Scalar.muli v2466 c384_i32_1822
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2456 : BitVec 32 := Scalar.addi v29 c_m1_i32_1815
  let c4_i32_1823 : BitVec 32 := 4#32
  let c0_i32_1824 : BitVec 32 := 0#32
  let v2468 : BitVec 1 := Scalar.cmpi .eq c4_i32_1823 c0_i32_1824
  let c1_i32_1825 : BitVec 32 := 1#32
  let v2469 : BitVec 32 := Scalar.select v2468 c1_i32_1825 c4_i32_1823
  let v2470 : BitVec 32 := Scalar.remsi v2456 v2469
  let c0_i32_1827 : BitVec 32 := 0#32
  let v2472 : BitVec 1 := Scalar.cmpi .slt v2470 c0_i32_1827
  let c0_i32_1828 : BitVec 32 := 0#32
  let v2473 : BitVec 1 := Scalar.cmpi .slt v2469 c0_i32_1828
  let v2474 : BitVec 1 := Scalar.xori v2472 v2473
  let c0_i32_1826 : BitVec 32 := 0#32
  let v2471 : BitVec 1 := Scalar.cmpi .ne v2470 c0_i32_1826
  let v2475 : BitVec 1 := Scalar.andi v2474 v2471
  let v2476 : BitVec 32 := Scalar.addi v2470 v2469
  let v2477 : BitVec 32 := Scalar.select v2475 v2476 v2470
  let c96_i32_1829 : BitVec 32 := 96#32
  let v2478 : BitVec 32 := Scalar.muli v2477 c96_i32_1829
  let v2479 : BitVec 32 := Scalar.addi v2467 v2478
  let c512_i32 : BitVec 32 := 512#32
  ![v2479.toNat, 512]
def k0_off36_at (r : Fin 12) : BitVec 32 × BitVec 32 :=
  if r.val < 6 then
    if r.val < 3 then
      if r.val < 1 then
        (4294967295#32, 4294967295#32)
      else
        if r.val < 2 then
          (4294967295#32, 0#32)
        else
          (4294967295#32, 1#32)
    else
      if r.val < 4 then
        (4294967295#32, 2#32)
      else
        if r.val < 5 then
          (0#32, 4294967295#32)
        else
          (0#32, 0#32)
  else
    if r.val < 9 then
      if r.val < 7 then
        (0#32, 1#32)
      else
        if r.val < 8 then
          (0#32, 2#32)
        else
          (1#32, 4294967295#32)
    else
      if r.val < 10 then
        (1#32, 0#32)
      else
        if r.val < 11 then
          (1#32, 1#32)
        else
          (1#32, 2#32)
def k0_dev43 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_1832 : BitVec 32 := 1#32
  let v2480 : BitVec 32 := Scalar.muli v80 c1_i32_1832
  let v2481 : BitVec 32 := Scalar.addi c0_i32_1833 v2480
  v2481.toNat
def k0_dev44 (d0 : Dev nD) : Nat :=
  let c0_i32_1870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_1869 : BitVec 32 := 1#32
  let v2538 : BitVec 32 := Scalar.muli v54 c1_i32_1869
  let v2539 : BitVec 32 := Scalar.addi c0_i32_1870 v2538
  v2539.toNat
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1873 : BitVec 32 := 1#32
  let v2546 : BitVec 32 := Scalar.addi v29 c1_i32_1873
  let c4_i32_1875 : BitVec 32 := 4#32
  let c0_i32_1876 : BitVec 32 := 0#32
  let v2548 : BitVec 1 := Scalar.cmpi .eq c4_i32_1875 c0_i32_1876
  let c1_i32_1877 : BitVec 32 := 1#32
  let v2549 : BitVec 32 := Scalar.select v2548 c1_i32_1877 c4_i32_1875
  let v2550 : BitVec 32 := Scalar.remsi v2546 v2549
  let c0_i32_1879 : BitVec 32 := 0#32
  let v2552 : BitVec 1 := Scalar.cmpi .slt v2550 c0_i32_1879
  let c0_i32_1880 : BitVec 32 := 0#32
  let v2553 : BitVec 1 := Scalar.cmpi .slt v2549 c0_i32_1880
  let v2554 : BitVec 1 := Scalar.xori v2552 v2553
  let c0_i32_1878 : BitVec 32 := 0#32
  let v2551 : BitVec 1 := Scalar.cmpi .ne v2550 c0_i32_1878
  let v2555 : BitVec 1 := Scalar.andi v2554 v2551
  let v2556 : BitVec 32 := Scalar.addi v2550 v2549
  let v2557 : BitVec 32 := Scalar.select v2555 v2556 v2550
  let c384_i32_1881 : BitVec 32 := 384#32
  let v2558 : BitVec 32 := Scalar.muli v2557 c384_i32_1881
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1874 : BitVec 32 := 1#32
  let v2547 : BitVec 32 := Scalar.addi v12 c1_i32_1874
  let c4_i32_1882 : BitVec 32 := 4#32
  let c0_i32_1883 : BitVec 32 := 0#32
  let v2559 : BitVec 1 := Scalar.cmpi .eq c4_i32_1882 c0_i32_1883
  let c1_i32_1884 : BitVec 32 := 1#32
  let v2560 : BitVec 32 := Scalar.select v2559 c1_i32_1884 c4_i32_1882
  let v2561 : BitVec 32 := Scalar.remsi v2547 v2560
  let c0_i32_1886 : BitVec 32 := 0#32
  let v2563 : BitVec 1 := Scalar.cmpi .slt v2561 c0_i32_1886
  let c0_i32_1887 : BitVec 32 := 0#32
  let v2564 : BitVec 1 := Scalar.cmpi .slt v2560 c0_i32_1887
  let v2565 : BitVec 1 := Scalar.xori v2563 v2564
  let c0_i32_1885 : BitVec 32 := 0#32
  let v2562 : BitVec 1 := Scalar.cmpi .ne v2561 c0_i32_1885
  let v2566 : BitVec 1 := Scalar.andi v2565 v2562
  let v2567 : BitVec 32 := Scalar.addi v2561 v2560
  let v2568 : BitVec 32 := Scalar.select v2566 v2567 v2561
  let c96_i32_1888 : BitVec 32 := 96#32
  let v2569 : BitVec 32 := Scalar.muli v2568 c96_i32_1888
  let v2570 : BitVec 32 := Scalar.addi v2558 v2569
  let v2587 : Index := Scalar.indexCast v2570
  let c1024_1909 : Index := 1024#32
  ![v2587.toNat, 1024]
def k0_off38 (d0 : Dev nD) (c1_i32_1933 : BitVec 32) (c1_i32_1934 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2625 : BitVec 32 := Scalar.addi v29 c1_i32_1933
  let c4_i32_1935 : BitVec 32 := 4#32
  let c0_i32_1936 : BitVec 32 := 0#32
  let v2627 : BitVec 1 := Scalar.cmpi .eq c4_i32_1935 c0_i32_1936
  let c1_i32_1937 : BitVec 32 := 1#32
  let v2628 : BitVec 32 := Scalar.select v2627 c1_i32_1937 c4_i32_1935
  let v2629 : BitVec 32 := Scalar.remsi v2625 v2628
  let c0_i32_1939 : BitVec 32 := 0#32
  let v2631 : BitVec 1 := Scalar.cmpi .slt v2629 c0_i32_1939
  let c0_i32_1940 : BitVec 32 := 0#32
  let v2632 : BitVec 1 := Scalar.cmpi .slt v2628 c0_i32_1940
  let v2633 : BitVec 1 := Scalar.xori v2631 v2632
  let c0_i32_1938 : BitVec 32 := 0#32
  let v2630 : BitVec 1 := Scalar.cmpi .ne v2629 c0_i32_1938
  let v2634 : BitVec 1 := Scalar.andi v2633 v2630
  let v2635 : BitVec 32 := Scalar.addi v2629 v2628
  let v2636 : BitVec 32 := Scalar.select v2634 v2635 v2629
  let c384_i32_1941 : BitVec 32 := 384#32
  let v2637 : BitVec 32 := Scalar.muli v2636 c384_i32_1941
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2626 : BitVec 32 := Scalar.addi v12 c1_i32_1934
  let c4_i32_1942 : BitVec 32 := 4#32
  let c0_i32_1943 : BitVec 32 := 0#32
  let v2638 : BitVec 1 := Scalar.cmpi .eq c4_i32_1942 c0_i32_1943
  let c1_i32_1944 : BitVec 32 := 1#32
  let v2639 : BitVec 32 := Scalar.select v2638 c1_i32_1944 c4_i32_1942
  let v2640 : BitVec 32 := Scalar.remsi v2626 v2639
  let c0_i32_1946 : BitVec 32 := 0#32
  let v2642 : BitVec 1 := Scalar.cmpi .slt v2640 c0_i32_1946
  let c0_i32_1947 : BitVec 32 := 0#32
  let v2643 : BitVec 1 := Scalar.cmpi .slt v2639 c0_i32_1947
  let v2644 : BitVec 1 := Scalar.xori v2642 v2643
  let c0_i32_1945 : BitVec 32 := 0#32
  let v2641 : BitVec 1 := Scalar.cmpi .ne v2640 c0_i32_1945
  let v2645 : BitVec 1 := Scalar.andi v2644 v2641
  let v2646 : BitVec 32 := Scalar.addi v2640 v2639
  let v2647 : BitVec 32 := Scalar.select v2645 v2646 v2640
  let c96_i32_1948 : BitVec 32 := 96#32
  let v2648 : BitVec 32 := Scalar.muli v2647 c96_i32_1948
  let v2649 : BitVec 32 := Scalar.addi v2637 v2648
  let c1024_i32 : BitVec 32 := 1024#32
  ![v2649.toNat, 1024]
def k0_off38_at (r : Fin 12) : BitVec 32 × BitVec 32 :=
  if r.val < 6 then
    if r.val < 3 then
      if r.val < 1 then
        (1#32, 1#32)
      else
        if r.val < 2 then
          (1#32, 0#32)
        else
          (1#32, 4294967295#32)
    else
      if r.val < 4 then
        (1#32, 4294967294#32)
      else
        if r.val < 5 then
          (0#32, 1#32)
        else
          (0#32, 0#32)
  else
    if r.val < 9 then
      if r.val < 7 then
        (0#32, 4294967295#32)
      else
        if r.val < 8 then
          (0#32, 4294967294#32)
        else
          (4294967295#32, 1#32)
    else
      if r.val < 10 then
        (4294967295#32, 0#32)
      else
        if r.val < 11 then
          (4294967295#32, 4294967295#32)
        else
          (4294967295#32, 4294967294#32)
def k0_dev45 (d0 : Dev nD) : Nat :=
  let c0_i32_1952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_1951 : BitVec 32 := 1#32
  let v2650 : BitVec 32 := Scalar.muli v42 c1_i32_1951
  let v2651 : BitVec 32 := Scalar.addi c0_i32_1952 v2650
  v2651.toNat
def k0_dev46 (d0 : Dev nD) : Nat :=
  let c0_i32_1989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_1988 : BitVec 32 := 1#32
  let v2708 : BitVec 32 := Scalar.muli v67 c1_i32_1988
  let v2709 : BitVec 32 := Scalar.addi c0_i32_1989 v2708
  v2709.toNat
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c_m1_i32_1992 : BitVec 32 := 4294967295#32
  let v2716 : BitVec 32 := Scalar.addi v29 c_m1_i32_1992
  let c4_i32_1994 : BitVec 32 := 4#32
  let c0_i32_1995 : BitVec 32 := 0#32
  let v2718 : BitVec 1 := Scalar.cmpi .eq c4_i32_1994 c0_i32_1995
  let c1_i32_1996 : BitVec 32 := 1#32
  let v2719 : BitVec 32 := Scalar.select v2718 c1_i32_1996 c4_i32_1994
  let v2720 : BitVec 32 := Scalar.remsi v2716 v2719
  let c0_i32_1998 : BitVec 32 := 0#32
  let v2722 : BitVec 1 := Scalar.cmpi .slt v2720 c0_i32_1998
  let c0_i32_1999 : BitVec 32 := 0#32
  let v2723 : BitVec 1 := Scalar.cmpi .slt v2719 c0_i32_1999
  let v2724 : BitVec 1 := Scalar.xori v2722 v2723
  let c0_i32_1997 : BitVec 32 := 0#32
  let v2721 : BitVec 1 := Scalar.cmpi .ne v2720 c0_i32_1997
  let v2725 : BitVec 1 := Scalar.andi v2724 v2721
  let v2726 : BitVec 32 := Scalar.addi v2720 v2719
  let v2727 : BitVec 32 := Scalar.select v2725 v2726 v2720
  let c384_i32_2000 : BitVec 32 := 384#32
  let v2728 : BitVec 32 := Scalar.muli v2727 c384_i32_2000
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c_m1_i32_1993 : BitVec 32 := 4294967295#32
  let v2717 : BitVec 32 := Scalar.addi v12 c_m1_i32_1993
  let c4_i32_2001 : BitVec 32 := 4#32
  let c0_i32_2002 : BitVec 32 := 0#32
  let v2729 : BitVec 1 := Scalar.cmpi .eq c4_i32_2001 c0_i32_2002
  let c1_i32_2003 : BitVec 32 := 1#32
  let v2730 : BitVec 32 := Scalar.select v2729 c1_i32_2003 c4_i32_2001
  let v2731 : BitVec 32 := Scalar.remsi v2717 v2730
  let c0_i32_2005 : BitVec 32 := 0#32
  let v2733 : BitVec 1 := Scalar.cmpi .slt v2731 c0_i32_2005
  let c0_i32_2006 : BitVec 32 := 0#32
  let v2734 : BitVec 1 := Scalar.cmpi .slt v2730 c0_i32_2006
  let v2735 : BitVec 1 := Scalar.xori v2733 v2734
  let c0_i32_2004 : BitVec 32 := 0#32
  let v2732 : BitVec 1 := Scalar.cmpi .ne v2731 c0_i32_2004
  let v2736 : BitVec 1 := Scalar.andi v2735 v2732
  let v2737 : BitVec 32 := Scalar.addi v2731 v2730
  let v2738 : BitVec 32 := Scalar.select v2736 v2737 v2731
  let c96_i32_2007 : BitVec 32 := 96#32
  let v2739 : BitVec 32 := Scalar.muli v2738 c96_i32_2007
  let v2740 : BitVec 32 := Scalar.addi v2728 v2739
  let v2757 : Index := Scalar.indexCast v2740
  let c1280_2028 : Index := 1280#32
  ![v2757.toNat, 1280]
def k0_off40 (d0 : Dev nD) (c_m1_i32_2052 : BitVec 32) (c_m1_i32_2053 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v2795 : BitVec 32 := Scalar.addi v29 c_m1_i32_2052
  let c4_i32_2054 : BitVec 32 := 4#32
  let c0_i32_2055 : BitVec 32 := 0#32
  let v2797 : BitVec 1 := Scalar.cmpi .eq c4_i32_2054 c0_i32_2055
  let c1_i32_2056 : BitVec 32 := 1#32
  let v2798 : BitVec 32 := Scalar.select v2797 c1_i32_2056 c4_i32_2054
  let v2799 : BitVec 32 := Scalar.remsi v2795 v2798
  let c0_i32_2058 : BitVec 32 := 0#32
  let v2801 : BitVec 1 := Scalar.cmpi .slt v2799 c0_i32_2058
  let c0_i32_2059 : BitVec 32 := 0#32
  let v2802 : BitVec 1 := Scalar.cmpi .slt v2798 c0_i32_2059
  let v2803 : BitVec 1 := Scalar.xori v2801 v2802
  let c0_i32_2057 : BitVec 32 := 0#32
  let v2800 : BitVec 1 := Scalar.cmpi .ne v2799 c0_i32_2057
  let v2804 : BitVec 1 := Scalar.andi v2803 v2800
  let v2805 : BitVec 32 := Scalar.addi v2799 v2798
  let v2806 : BitVec 32 := Scalar.select v2804 v2805 v2799
  let c384_i32_2060 : BitVec 32 := 384#32
  let v2807 : BitVec 32 := Scalar.muli v2806 c384_i32_2060
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2796 : BitVec 32 := Scalar.addi v12 c_m1_i32_2053
  let c4_i32_2061 : BitVec 32 := 4#32
  let c0_i32_2062 : BitVec 32 := 0#32
  let v2808 : BitVec 1 := Scalar.cmpi .eq c4_i32_2061 c0_i32_2062
  let c1_i32_2063 : BitVec 32 := 1#32
  let v2809 : BitVec 32 := Scalar.select v2808 c1_i32_2063 c4_i32_2061
  let v2810 : BitVec 32 := Scalar.remsi v2796 v2809
  let c0_i32_2065 : BitVec 32 := 0#32
  let v2812 : BitVec 1 := Scalar.cmpi .slt v2810 c0_i32_2065
  let c0_i32_2066 : BitVec 32 := 0#32
  let v2813 : BitVec 1 := Scalar.cmpi .slt v2809 c0_i32_2066
  let v2814 : BitVec 1 := Scalar.xori v2812 v2813
  let c0_i32_2064 : BitVec 32 := 0#32
  let v2811 : BitVec 1 := Scalar.cmpi .ne v2810 c0_i32_2064
  let v2815 : BitVec 1 := Scalar.andi v2814 v2811
  let v2816 : BitVec 32 := Scalar.addi v2810 v2809
  let v2817 : BitVec 32 := Scalar.select v2815 v2816 v2810
  let c96_i32_2067 : BitVec 32 := 96#32
  let v2818 : BitVec 32 := Scalar.muli v2817 c96_i32_2067
  let v2819 : BitVec 32 := Scalar.addi v2807 v2818
  let c1280_i32 : BitVec 32 := 1280#32
  ![v2819.toNat, 1280]
def k0_off40_at (r : Fin 12) : BitVec 32 × BitVec 32 :=
  if r.val < 6 then
    if r.val < 3 then
      if r.val < 1 then
        (4294967295#32, 4294967295#32)
      else
        if r.val < 2 then
          (4294967295#32, 0#32)
        else
          (4294967295#32, 1#32)
    else
      if r.val < 4 then
        (4294967295#32, 2#32)
      else
        if r.val < 5 then
          (0#32, 4294967295#32)
        else
          (0#32, 0#32)
  else
    if r.val < 9 then
      if r.val < 7 then
        (0#32, 1#32)
      else
        if r.val < 8 then
          (0#32, 2#32)
        else
          (1#32, 4294967295#32)
    else
      if r.val < 10 then
        (1#32, 0#32)
      else
        if r.val < 11 then
          (1#32, 1#32)
        else
          (1#32, 2#32)
def k0_dev47 (d0 : Dev nD) : Nat :=
  let c0_i32_2071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2070 : BitVec 32 := 1#32
  let v2820 : BitVec 32 := Scalar.muli v54 c1_i32_2070
  let v2821 : BitVec 32 := Scalar.addi c0_i32_2071 v2820
  v2821.toNat
def k0_dev48 (d0 : Dev nD) : Nat :=
  let c0_i32_2108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_2107 : BitVec 32 := 1#32
  let v2878 : BitVec 32 := Scalar.muli v80 c1_i32_2107
  let v2879 : BitVec 32 := Scalar.addi c0_i32_2108 v2878
  v2879.toNat
def k0_dev49 (d0 : Dev nD) : Nat :=
  let c0_i32_2152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_2151 : BitVec 32 := 1#32
  let v2942 : BitVec 32 := Scalar.muli v67 c1_i32_2151
  let v2943 : BitVec 32 := Scalar.addi c0_i32_2152 v2942
  v2943.toNat
def k0_dev50 (d0 : Dev nD) : Nat :=
  let c0_i32_2190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2189 : BitVec 32 := 1#32
  let v3000 : BitVec 32 := Scalar.muli v42 c1_i32_2189
  let v3001 : BitVec 32 := Scalar.addi c0_i32_2190 v3000
  v3001.toNat
def k0_dev51 (d0 : Dev nD) : Nat :=
  let c0_i32_2234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_2233 : BitVec 32 := 1#32
  let v3064 : BitVec 32 := Scalar.muli v80 c1_i32_2233
  let v3065 : BitVec 32 := Scalar.addi c0_i32_2234 v3064
  v3065.toNat
def k0_dev52 (d0 : Dev nD) : Nat :=
  let c0_i32_2272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2271 : BitVec 32 := 1#32
  let v3122 : BitVec 32 := Scalar.muli v54 c1_i32_2271
  let v3123 : BitVec 32 := Scalar.addi c0_i32_2272 v3122
  v3123.toNat
def k0_dev53 (d0 : Dev nD) : Nat :=
  let c0_i32_2316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2315 : BitVec 32 := 1#32
  let v3186 : BitVec 32 := Scalar.muli v42 c1_i32_2315
  let v3187 : BitVec 32 := Scalar.addi c0_i32_2316 v3186
  v3187.toNat
def k0_dev54 (d0 : Dev nD) : Nat :=
  let c0_i32_2354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_2353 : BitVec 32 := 1#32
  let v3244 : BitVec 32 := Scalar.muli v67 c1_i32_2353
  let v3245 : BitVec 32 := Scalar.addi c0_i32_2354 v3244
  v3245.toNat
def k0_dev55 (d0 : Dev nD) : Nat :=
  let c0_i32_2398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2397 : BitVec 32 := 1#32
  let v3308 : BitVec 32 := Scalar.muli v54 c1_i32_2397
  let v3309 : BitVec 32 := Scalar.addi c0_i32_2398 v3308
  v3309.toNat
def k0_dev56 (d0 : Dev nD) : Nat :=
  let c0_i32_2436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_2435 : BitVec 32 := 1#32
  let v3366 : BitVec 32 := Scalar.muli v80 c1_i32_2435
  let v3367 : BitVec 32 := Scalar.addi c0_i32_2436 v3366
  v3367.toNat
def k0_dev57 (d0 : Dev nD) : Nat :=
  let c0_i32_2480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_2479 : BitVec 32 := 1#32
  let v3430 : BitVec 32 := Scalar.muli v67 c1_i32_2479
  let v3431 : BitVec 32 := Scalar.addi c0_i32_2480 v3430
  v3431.toNat
def k0_dev58 (d0 : Dev nD) : Nat :=
  let c0_i32_2518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2517 : BitVec 32 := 1#32
  let v3488 : BitVec 32 := Scalar.muli v42 c1_i32_2517
  let v3489 : BitVec 32 := Scalar.addi c0_i32_2518 v3488
  v3489.toNat
def k0_dev59 (d0 : Dev nD) : Nat :=
  let c0_i32_2562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_2561 : BitVec 32 := 1#32
  let v3552 : BitVec 32 := Scalar.muli v80 c1_i32_2561
  let v3553 : BitVec 32 := Scalar.addi c0_i32_2562 v3552
  v3553.toNat
def k0_dev60 (d0 : Dev nD) : Nat :=
  let c0_i32_2600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2599 : BitVec 32 := 1#32
  let v3610 : BitVec 32 := Scalar.muli v54 c1_i32_2599
  let v3611 : BitVec 32 := Scalar.addi c0_i32_2600 v3610
  v3611.toNat
def k0_dev61 (d0 : Dev nD) : Nat :=
  let c0_i32_2644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2643 : BitVec 32 := 1#32
  let v3674 : BitVec 32 := Scalar.muli v42 c1_i32_2643
  let v3675 : BitVec 32 := Scalar.addi c0_i32_2644 v3674
  v3675.toNat
def k0_dev62 (d0 : Dev nD) : Nat :=
  let c0_i32_2682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_2681 : BitVec 32 := 1#32
  let v3732 : BitVec 32 := Scalar.muli v67 c1_i32_2681
  let v3733 : BitVec 32 := Scalar.addi c0_i32_2682 v3732
  v3733.toNat
def k0_dev63 (d0 : Dev nD) : Nat :=
  let c0_i32_2726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2725 : BitVec 32 := 1#32
  let v3796 : BitVec 32 := Scalar.muli v54 c1_i32_2725
  let v3797 : BitVec 32 := Scalar.addi c0_i32_2726 v3796
  v3797.toNat
def k0_dev64 (d0 : Dev nD) : Nat :=
  let c0_i32_2764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_2763 : BitVec 32 := 1#32
  let v3854 : BitVec 32 := Scalar.muli v80 c1_i32_2763
  let v3855 : BitVec 32 := Scalar.addi c0_i32_2764 v3854
  v3855.toNat
def k0_dev65 (d0 : Dev nD) : Nat :=
  let c0_i32_2808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2807 : BitVec 32 := 1#32
  let v3918 : BitVec 32 := Scalar.muli v42 c1_i32_2807
  let v3919 : BitVec 32 := Scalar.addi c0_i32_2808 v3918
  v3919.toNat
def k0_dev66 (d0 : Dev nD) : Nat :=
  let c0_i32_2852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_2851 : BitVec 32 := 1#32
  let v3982 : BitVec 32 := Scalar.muli v54 c1_i32_2851
  let v3983 : BitVec 32 := Scalar.addi c0_i32_2852 v3982
  v3983.toNat
def k0_dev67 (d0 : Dev nD) : Nat :=
  let c0_i32_2896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_2895 : BitVec 32 := 1#32
  let v4046 : BitVec 32 := Scalar.muli v67 c1_i32_2895
  let v4047 : BitVec 32 := Scalar.addi c0_i32_2896 v4046
  v4047.toNat
def k0_dev68 (d0 : Dev nD) : Nat :=
  let c0_i32_2940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_2939 : BitVec 32 := 1#32
  let v4110 : BitVec 32 := Scalar.muli v80 c1_i32_2939
  let v4111 : BitVec 32 := Scalar.addi c0_i32_2940 v4110
  v4111.toNat
def k0_dev69 (d0 : Dev nD) : Nat :=
  let c0_i32_2984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_2983 : BitVec 32 := 1#32
  let v4174 : BitVec 32 := Scalar.muli v42 c1_i32_2983
  let v4175 : BitVec 32 := Scalar.addi c0_i32_2984 v4174
  v4175.toNat
def k0_dev70 (d0 : Dev nD) : Nat :=
  let c0_i32_3028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3027 : BitVec 32 := 1#32
  let v4238 : BitVec 32 := Scalar.muli v54 c1_i32_3027
  let v4239 : BitVec 32 := Scalar.addi c0_i32_3028 v4238
  v4239.toNat
def k0_dev71 (d0 : Dev nD) : Nat :=
  let c0_i32_3072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_3071 : BitVec 32 := 1#32
  let v4302 : BitVec 32 := Scalar.muli v67 c1_i32_3071
  let v4303 : BitVec 32 := Scalar.addi c0_i32_3072 v4302
  v4303.toNat
def k0_dev72 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_3115 : BitVec 32 := 1#32
  let v4366 : BitVec 32 := Scalar.muli v80 c1_i32_3115
  let v4367 : BitVec 32 := Scalar.addi c0_i32_3116 v4366
  v4367.toNat
def k0_dev73 (d0 : Dev nD) : Nat :=
  let c0_i32_3160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3159 : BitVec 32 := 1#32
  let v4430 : BitVec 32 := Scalar.muli v42 c1_i32_3159
  let v4431 : BitVec 32 := Scalar.addi c0_i32_3160 v4430
  v4431.toNat
def k0_dev74 (d0 : Dev nD) : Nat :=
  let c0_i32_3204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3203 : BitVec 32 := 1#32
  let v4494 : BitVec 32 := Scalar.muli v54 c1_i32_3203
  let v4495 : BitVec 32 := Scalar.addi c0_i32_3204 v4494
  v4495.toNat
def k0_dev75 (d0 : Dev nD) : Nat :=
  let c0_i32_3248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_3247 : BitVec 32 := 1#32
  let v4558 : BitVec 32 := Scalar.muli v67 c1_i32_3247
  let v4559 : BitVec 32 := Scalar.addi c0_i32_3248 v4558
  v4559.toNat
def k0_dev76 (d0 : Dev nD) : Nat :=
  let c0_i32_3292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_3291 : BitVec 32 := 1#32
  let v4622 : BitVec 32 := Scalar.muli v80 c1_i32_3291
  let v4623 : BitVec 32 := Scalar.addi c0_i32_3292 v4622
  v4623.toNat
def k0_dev77 (d0 : Dev nD) : Nat :=
  let c0_i32_3335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3334 : BitVec 32 := 1#32
  let v4686 : BitVec 32 := Scalar.muli v42 c1_i32_3334
  let v4687 : BitVec 32 := Scalar.addi c0_i32_3335 v4686
  v4687.toNat
def k0_dev78 (d0 : Dev nD) : Nat :=
  let c0_i32_3379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3378 : BitVec 32 := 1#32
  let v4750 : BitVec 32 := Scalar.muli v54 c1_i32_3378
  let v4751 : BitVec 32 := Scalar.addi c0_i32_3379 v4750
  v4751.toNat
def k0_dev79 (d0 : Dev nD) : Nat :=
  let c0_i32_3423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_3422 : BitVec 32 := 1#32
  let v4814 : BitVec 32 := Scalar.muli v67 c1_i32_3422
  let v4815 : BitVec 32 := Scalar.addi c0_i32_3423 v4814
  v4815.toNat
def k0_dev80 (d0 : Dev nD) : Nat :=
  let c0_i32_3467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_3466 : BitVec 32 := 1#32
  let v4878 : BitVec 32 := Scalar.muli v80 c1_i32_3466
  let v4879 : BitVec 32 := Scalar.addi c0_i32_3467 v4878
  v4879.toNat
def k0_dev81 (d0 : Dev nD) : Nat :=
  let c0_i32_3510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3509 : BitVec 32 := 1#32
  let v4942 : BitVec 32 := Scalar.muli v42 c1_i32_3509
  let v4943 : BitVec 32 := Scalar.addi c0_i32_3510 v4942
  v4943.toNat
def k0_dev82 (d0 : Dev nD) : Nat :=
  let c0_i32_3554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3553 : BitVec 32 := 1#32
  let v5006 : BitVec 32 := Scalar.muli v54 c1_i32_3553
  let v5007 : BitVec 32 := Scalar.addi c0_i32_3554 v5006
  v5007.toNat
def k0_dev83 (d0 : Dev nD) : Nat :=
  let c0_i32_3598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_3597 : BitVec 32 := 1#32
  let v5070 : BitVec 32 := Scalar.muli v67 c1_i32_3597
  let v5071 : BitVec 32 := Scalar.addi c0_i32_3598 v5070
  v5071.toNat
def k0_dev84 (d0 : Dev nD) : Nat :=
  let c0_i32_3642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_3641 : BitVec 32 := 1#32
  let v5134 : BitVec 32 := Scalar.muli v80 c1_i32_3641
  let v5135 : BitVec 32 := Scalar.addi c0_i32_3642 v5134
  v5135.toNat
def k0_dev85 (d0 : Dev nD) : Nat :=
  let c0_i32_3685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3684 : BitVec 32 := 1#32
  let v5198 : BitVec 32 := Scalar.muli v42 c1_i32_3684
  let v5199 : BitVec 32 := Scalar.addi c0_i32_3685 v5198
  v5199.toNat
def k0_dev86 (d0 : Dev nD) : Nat :=
  let c0_i32_3729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3728 : BitVec 32 := 1#32
  let v5262 : BitVec 32 := Scalar.muli v54 c1_i32_3728
  let v5263 : BitVec 32 := Scalar.addi c0_i32_3729 v5262
  v5263.toNat
def k0_dev87 (d0 : Dev nD) : Nat :=
  let c0_i32_3773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_3772 : BitVec 32 := 1#32
  let v5326 : BitVec 32 := Scalar.muli v67 c1_i32_3772
  let v5327 : BitVec 32 := Scalar.addi c0_i32_3773 v5326
  v5327.toNat
def k0_dev88 (d0 : Dev nD) : Nat :=
  let c0_i32_3817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_3816 : BitVec 32 := 1#32
  let v5390 : BitVec 32 := Scalar.muli v80 c1_i32_3816
  let v5391 : BitVec 32 := Scalar.addi c0_i32_3817 v5390
  v5391.toNat
def k0_dev89 (d0 : Dev nD) : Nat :=
  let c0_i32_3860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_3859 : BitVec 32 := 1#32
  let v5454 : BitVec 32 := Scalar.muli v42 c1_i32_3859
  let v5455 : BitVec 32 := Scalar.addi c0_i32_3860 v5454
  v5455.toNat
def k0_dev90 (d0 : Dev nD) : Nat :=
  let c0_i32_3904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_3903 : BitVec 32 := 1#32
  let v5518 : BitVec 32 := Scalar.muli v54 c1_i32_3903
  let v5519 : BitVec 32 := Scalar.addi c0_i32_3904 v5518
  v5519.toNat
def k0_dev91 (d0 : Dev nD) : Nat :=
  let c0_i32_3948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_3947 : BitVec 32 := 1#32
  let v5582 : BitVec 32 := Scalar.muli v67 c1_i32_3947
  let v5583 : BitVec 32 := Scalar.addi c0_i32_3948 v5582
  v5583.toNat
def k0_dev92 (d0 : Dev nD) : Nat :=
  let c0_i32_3992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_3991 : BitVec 32 := 1#32
  let v5646 : BitVec 32 := Scalar.muli v80 c1_i32_3991
  let v5647 : BitVec 32 := Scalar.addi c0_i32_3992 v5646
  v5647.toNat
def k0_dev93 (d0 : Dev nD) : Nat :=
  let c0_i32_4035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_4034 : BitVec 32 := 1#32
  let v5710 : BitVec 32 := Scalar.muli v42 c1_i32_4034
  let v5711 : BitVec 32 := Scalar.addi c0_i32_4035 v5710
  v5711.toNat
def k0_dev94 (d0 : Dev nD) : Nat :=
  let c0_i32_4079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_4078 : BitVec 32 := 1#32
  let v5774 : BitVec 32 := Scalar.muli v54 c1_i32_4078
  let v5775 : BitVec 32 := Scalar.addi c0_i32_4079 v5774
  v5775.toNat
def k0_dev95 (d0 : Dev nD) : Nat :=
  let c0_i32_4123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_4122 : BitVec 32 := 1#32
  let v5838 : BitVec 32 := Scalar.muli v67 c1_i32_4122
  let v5839 : BitVec 32 := Scalar.addi c0_i32_4123 v5838
  v5839.toNat
def k0_dev96 (d0 : Dev nD) : Nat :=
  let c0_i32_4167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_4166 : BitVec 32 := 1#32
  let v5902 : BitVec 32 := Scalar.muli v80 c1_i32_4166
  let v5903 : BitVec 32 := Scalar.addi c0_i32_4167 v5902
  v5903.toNat
def k0_dev97 (d0 : Dev nD) : Nat :=
  let c0_i32_4210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_11 : BitVec 32 := 1#32
  let v31 : BitVec 32 := Scalar.addi v12 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let v42 : BitVec 32 := Scalar.addi v30 v41
  let c1_i32_4209 : BitVec 32 := 1#32
  let v5966 : BitVec 32 := Scalar.muli v42 c1_i32_4209
  let v5967 : BitVec 32 := Scalar.addi c0_i32_4210 v5966
  v5967.toNat
def k0_dev98 (d0 : Dev nD) : Nat :=
  let c0_i32_4254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.subi v2 v12
  let c1_i32_18 : BitVec 32 := 1#32
  let v43 : BitVec 32 := Scalar.subi v12 c1_i32_18
  let c4_i32_19 : BitVec 32 := 4#32
  let c0_i32_20 : BitVec 32 := 0#32
  let v44 : BitVec 1 := Scalar.cmpi .eq c4_i32_19 c0_i32_20
  let c1_i32_21 : BitVec 32 := 1#32
  let v45 : BitVec 32 := Scalar.select v44 c1_i32_21 c4_i32_19
  let v46 : BitVec 32 := Scalar.remsi v43 v45
  let c0_i32_23 : BitVec 32 := 0#32
  let v48 : BitVec 1 := Scalar.cmpi .slt v46 c0_i32_23
  let c0_i32_24 : BitVec 32 := 0#32
  let v49 : BitVec 1 := Scalar.cmpi .slt v45 c0_i32_24
  let v50 : BitVec 1 := Scalar.xori v48 v49
  let c0_i32_22 : BitVec 32 := 0#32
  let v47 : BitVec 1 := Scalar.cmpi .ne v46 c0_i32_22
  let v51 : BitVec 1 := Scalar.andi v50 v47
  let v52 : BitVec 32 := Scalar.addi v46 v45
  let v53 : BitVec 32 := Scalar.select v51 v52 v46
  let v54 : BitVec 32 := Scalar.addi v30 v53
  let c1_i32_4253 : BitVec 32 := 1#32
  let v6030 : BitVec 32 := Scalar.muli v54 c1_i32_4253
  let v6031 : BitVec 32 := Scalar.addi c0_i32_4254 v6030
  v6031.toNat
def k0_dev99 (d0 : Dev nD) : Nat :=
  let c0_i32_4298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v55 : BitVec 32 := Scalar.addi v29 c1_i32_25
  let c4_i32_26 : BitVec 32 := 4#32
  let c0_i32_27 : BitVec 32 := 0#32
  let v56 : BitVec 1 := Scalar.cmpi .eq c4_i32_26 c0_i32_27
  let c1_i32_28 : BitVec 32 := 1#32
  let v57 : BitVec 32 := Scalar.select v56 c1_i32_28 c4_i32_26
  let v58 : BitVec 32 := Scalar.remsi v55 v57
  let c0_i32_30 : BitVec 32 := 0#32
  let v60 : BitVec 1 := Scalar.cmpi .slt v58 c0_i32_30
  let c0_i32_31 : BitVec 32 := 0#32
  let v61 : BitVec 1 := Scalar.cmpi .slt v57 c0_i32_31
  let v62 : BitVec 1 := Scalar.xori v60 v61
  let c0_i32_29 : BitVec 32 := 0#32
  let v59 : BitVec 1 := Scalar.cmpi .ne v58 c0_i32_29
  let v63 : BitVec 1 := Scalar.andi v62 v59
  let v64 : BitVec 32 := Scalar.addi v58 v57
  let v65 : BitVec 32 := Scalar.select v63 v64 v58
  let c4_i32_32 : BitVec 32 := 4#32
  let v66 : BitVec 32 := Scalar.muli v65 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v67 : BitVec 32 := Scalar.addi v66 v12
  let c1_i32_4297 : BitVec 32 := 1#32
  let v6094 : BitVec 32 := Scalar.muli v67 c1_i32_4297
  let v6095 : BitVec 32 := Scalar.addi c0_i32_4298 v6094
  v6095.toNat
def k0_dev100 (d0 : Dev nD) : Nat :=
  let c0_i32_4342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_33 : BitVec 32 := 1#32
  let v68 : BitVec 32 := Scalar.subi v29 c1_i32_33
  let c4_i32_34 : BitVec 32 := 4#32
  let c0_i32_35 : BitVec 32 := 0#32
  let v69 : BitVec 1 := Scalar.cmpi .eq c4_i32_34 c0_i32_35
  let c1_i32_36 : BitVec 32 := 1#32
  let v70 : BitVec 32 := Scalar.select v69 c1_i32_36 c4_i32_34
  let v71 : BitVec 32 := Scalar.remsi v68 v70
  let c0_i32_38 : BitVec 32 := 0#32
  let v73 : BitVec 1 := Scalar.cmpi .slt v71 c0_i32_38
  let c0_i32_39 : BitVec 32 := 0#32
  let v74 : BitVec 1 := Scalar.cmpi .slt v70 c0_i32_39
  let v75 : BitVec 1 := Scalar.xori v73 v74
  let c0_i32_37 : BitVec 32 := 0#32
  let v72 : BitVec 1 := Scalar.cmpi .ne v71 c0_i32_37
  let v76 : BitVec 1 := Scalar.andi v75 v72
  let v77 : BitVec 32 := Scalar.addi v71 v70
  let v78 : BitVec 32 := Scalar.select v76 v77 v71
  let c4_i32_40 : BitVec 32 := 4#32
  let v79 : BitVec 32 := Scalar.muli v78 c4_i32_40
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v80 : BitVec 32 := Scalar.addi v79 v12
  let c1_i32_4341 : BitVec 32 := 1#32
  let v6158 : BitVec 32 := Scalar.muli v80 c1_i32_4341
  let v6159 : BitVec 32 := Scalar.addi c0_i32_4342 v6158
  v6159.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x12288 : Shape := ⟨2, ![1536, 12288]⟩
abbrev S12288x1536 : Shape := ⟨2, ![12288, 1536]⟩
abbrev S1536x1536 : Shape := ⟨2, ![1536, 1536]⟩

abbrev nBuf : Space → Nat
  | .hbm => 4
  | .vmem => 0
  | .smem => 0
  | _ => 0

abbrev bufTy : (tb : Table) → Fin (tcTables nBuf tb) → BufTy
  | .hbm, ⟨0, _⟩ => ⟨S1536x12288, .bf16⟩
  | .hbm, ⟨1, _⟩ => ⟨S12288x1536, .bf16⟩
  | .hbm, ⟨2, _⟩ => ⟨S1536x1536, .f32⟩
  | .hbm, ⟨3, _⟩ => ⟨S1536x1536, .bf16⟩
  | _, _ => ⟨S1536x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mem.lean ====
module

public import proofs.«01_k».proof.Proof.Gen.KernelIdeal.Frame
public import proofs.«01_k».proof.Proof.Gen.KernelIdeal.Skeleton
public import Idealize.ShloMosaic.Lib.Tactic

/-!
# Loads, stores and remote copies through an owned rectangle

A buffer of the kernel is held in pieces: rectangles of it, each owned at the
values it holds (`owns` of the slice). This module says what a load, a store
and a remote copy do to such pieces, for any memref and any rectangle.
-/

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the staging pipeline's, and that of the kernel's own cells with duties in `Fin 4`. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The piece of memref `m` on device `c` that rectangle `R` covers, at the values `Y`. -/
abbrev piece (c : Dev nD) {sh : Shape} {e : EltTy} (m : Memref sig .tc .vmem sh e) (R : Rect sh) (hR : ∀ a, R.stride a = 1)
    (q : PosShare TreeShare) (Y : R.shape.Idx → Elt F e) : sProp 𝕄 :=
  owns (Ix := Unit) (Name := ℕ) (U := UU) (Lvl := ℕ) (c : Thread nD τ) (m.slice R hR) q Y

section
variable {c : Dev nD} {sh : Shape} {e : EltTy} {m : Memref sig .tc .vmem sh e} {R : Rect sh} {hR : ∀ a, R.stride a = 1}

/-- A load at a rectangle inside an owned piece reads the piece's values there. -/
theorem wp_load_piece {α : Type} {Q : α → sProp 𝕄} {r : Rect sh} {hl} {k : (r.shape.Idx → Elt F e) → Prog (TpuEff nD τ sig (Elt F) Λ₀ .tc) α} {q : PosShare TreeShare} {Y : R.shape.Idx → Elt F e}
    (x : r.shape.Idx → R.shape.Idx) (hx : ∀ i, R.emb (x i) = r.emb i) :
    piece c m R hR q Y ⊢ iprop((piece c m R hR q Y -∗ WP c (k fun i => Y (x i)) Q)
      -∗ WP c (.op (.load m r.toLoadRect hl) k) Q) := by
  unfold piece owns
  iintro ⟨%f, %hf, H⟩ Hk
  have hset : (m.access r).set ⊆ (m.slice R hR).view.set := by
    intro i hi
    change i ∈ (m.view.slice r).set at hi
    rw [View.set_slice, Finset.mem_map] at hi
    obtain ⟨j, hj, rfl⟩ := hi
    obtain ⟨y, rfl⟩ := LoadRect.exists_idx_of_mem _ hj
    show _ ∈ (m.view.slice R).set
    rw [View.set_slice, Finset.mem_map]
    refine ⟨R.emb (x y), ?_, ?_⟩
    · exact LoadRect.idx_mem _ _
    · rw [hx]; rfl
  have hval : (m.access r).read (Elt F) f = fun i => Y (x i) := by
    funext i
    have h1 : (m.access r).read (Elt F) f i = m.view.read (Elt F) f (r.emb i) := rfl
    have h2 : (m.slice R hR).view.read (Elt F) f (x i) = m.view.read (Elt F) f (R.emb (x i)) := rfl
    rw [h1, ← hx i, ← h2, hf]
  iapply (wp_load_rect 𝒱₀ (c : Thread nD τ) none Set.univ (m := m) (r := r) hset) $$ H
  iintro H
  rw [hval]
  iapply Hk
  iexists f
  isplitr; · ipureintro; exact hf
  iexact H

/-- A store over an owned piece leaves the piece at the stored values. -/
theorem wp_store_piece {α : Type} {Q : α → sProp 𝕄} {w : R.shape.Idx → Elt F e} {hx hm} {k : PUnit → Prog (TpuEff nD τ sig (Elt F) Λ₀ .tc) α} {Y : R.shape.Idx → Elt F e} :
    piece c m R hR fullShare Y ⊢ iprop((piece c m R hR fullShare w -∗ WP c (k ⟨⟩) Q)
      -∗ WP c (.op (.store m R w Finset.univ hx hm) k) Q) := by
  unfold piece owns
  iintro ⟨%f, %hf, H⟩ Hk
  iapply (wp_store 𝒱₀ (c : Thread nD τ) none Set.univ (m := m) (r := R) (Mk := Finset.univ) (S := (m.slice R hR).view.set) (by exact Finset.Subset.refl _)) $$ H
  iintro H
  iapply Hk
  iexists _
  isplitr
  swap
  · iexact H
  · ipureintro
    exact View.read_write_univ (v := m.access R) (Val := Elt F) f w
end

end Cert.AllReduce

end
-- ==== Proof.Geom.lean ====
module

public import proofs.«01_k».proof.Proof.Mem

/-!
# The four streams, the torus of sixteen devices, and the copies

Device `c` sits at place `c % 4` of a ring in its plane and at place `c / 4` of a
ring across planes. A stream reduces over one of the two rings first and over the
other second, and each ring runs in one of two directions. This module names the
streams' buffers, their neighbours, the copies a stream makes, the semaphores of
the copies and the rectangles they move.
-/

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Streams -/

/-- A stream's number of columns, -/
abbrev w : Fin 4 → ℕ | 0 => 512 | 1 => 512 | 2 => 256 | 3 => 256
/-- and its first column. -/
abbrev c0 : Fin 4 → ℕ | 0 => 0 | 1 => 512 | 2 => 1024 | 3 => 1280

theorem w_pos (S : Fin 4) : 0 < w S := by revert S; decide

/-- The place of device `c` in the ring stream `S` reduces over first, -/
abbrev q1 (S : Fin 4) (c : Dev nD) : ℕ := match S with | 0 | 1 => c.val % 4 | 2 | 3 => c.val / 4
/-- and in the ring it reduces over second. -/
abbrev q2 (S : Fin 4) (c : Dev nD) : ℕ := match S with | 0 | 1 => c.val / 4 | 2 | 3 => c.val % 4
/-- The place `h` steps back from place `q` in stream `S`'s direction. -/
abbrev bk (S : Fin 4) (q h : ℕ) : ℕ := match S with | 0 | 2 => (q + 3 * h) % 4 | 1 | 3 => (q + h) % 4

theorem bk_lt (S : Fin 4) (q h : ℕ) : bk S q h < 4 := by
  match S with
  | 0 | 2 | 1 | 3 => exact Nat.mod_lt _ (by decide)

/-- That place as a block number. -/
abbrev bF (S : Fin 4) (q h : ℕ) : Fin 4 := ⟨bk S q h, bk_lt S q h⟩

/-! ## Neighbours -/

/-- The four directions: next and previous in the plane, next and previous across planes. -/
abbrev nbr (i : Fin 4) (c : Dev nD) : Dev nD := match i with
  | 0 => ⟨c.val / 4 * 4 + (c.val + 1) % 4, by have := c.isLt; have : nD = 16 := rfl; omega⟩
  | 1 => ⟨c.val / 4 * 4 + (c.val + 3) % 4, by have := c.isLt; have : nD = 16 := rfl; omega⟩
  | 2 => ⟨(c.val / 4 + 1) % 4 * 4 + c.val % 4, by have : nD = 16 := rfl; omega⟩
  | 3 => ⟨(c.val / 4 + 3) % 4 * 4 + c.val % 4, by have : nD = 16 := rfl; omega⟩

/-- The opposite direction. -/
abbrev opp : Fin 4 → Fin 4 | 0 => 1 | 1 => 0 | 2 => 3 | 3 => 2
/-- The direction of a stream's second ring (the first ring's is the stream's own number). -/
abbrev dir2 : Fin 4 → Fin 4 | 0 => 2 | 1 => 3 | 2 => 0 | 3 => 1

theorem opp_opp (i : Fin 4) : opp (opp i) = i := by revert i; decide
theorem nbr_opp (i : Fin 4) (c : Dev nD) : nbr i (nbr (opp i) c) = c := by revert i c; decide +kernel
theorem opp_nbr (i : Fin 4) (c : Dev nD) : nbr (opp i) (nbr i c) = c := by revert i c; decide +kernel

/-- The device that sends to `c` in the first ring, and in the second. -/
abbrev p1 (S : Fin 4) (c : Dev nD) : Dev nD := nbr (opp S) c
abbrev p2 (S : Fin 4) (c : Dev nD) : Dev nD := nbr (opp (dir2 S)) c

theorem bk_p1 (S : Fin 4) (c : Dev nD) (h : ℕ) : bk S (q1 S (p1 S c)) h = bk S (q1 S c) (h + 1) := by
  have : ∀ (S : Fin 4) (c : Dev nD), (q1 S (p1 S c)) = bk S (q1 S c) 1 := by decide +kernel
  rw [this]; match S with | 0 | 2 | 1 | 3 => simp only [bk]; omega
theorem bk_p2 (S : Fin 4) (c : Dev nD) (h : ℕ) : bk S (q2 S (p2 S c)) h = bk S (q2 S c) (h + 1) := by
  have : ∀ (S : Fin 4) (c : Dev nD), (q2 S (p2 S c)) = bk S (q2 S c) 1 := by decide +kernel
  rw [this]; match S with | 0 | 2 | 1 | 3 => simp only [bk]; omega
theorem q2_p1 (S : Fin 4) (c : Dev nD) : q2 S (p1 S c) = q2 S c := by revert S c; decide +kernel
theorem q1_p2 (S : Fin 4) (c : Dev nD) : q1 S (p2 S c) = q1 S c := by revert S c; decide +kernel
theorem bk_add4 (S : Fin 4) (q h : ℕ) : bk S q (h + 4) = bk S q h := by
  match S with | 0 | 2 | 1 | 3 => simp only [bk]; omega

/-! ## The copies of a stream -/

/-- A stream's copies: two whole blocks and four sub-blocks around the first ring (`d1`, `z`), three sub-blocks around
    the second (`d2`), three finished sub-blocks around the second (`d3`) and twelve around the first (`d4`). -/
inductive Cp | d1 (j : Fin 2) | z (k : Fin 4) | d2 (s : Fin 3) | d3 (j : Fin 3) | d4 (i : Fin 12)
  deriving DecidableEq

instance : Fintype Cp :=
  Fintype.ofList ((List.finRange 2).map Cp.d1 ++ (List.finRange 4).map Cp.z ++ (List.finRange 3).map Cp.d2
    ++ (List.finRange 3).map Cp.d3 ++ (List.finRange 12).map Cp.d4) (by intro x; cases x <;> simp)

abbrev X : Type := Fin 4 × Cp

/-- The direction a copy goes. -/
abbrev dirOf (x : X) : Fin 4 := match x.2 with | .d1 _ | .z _ | .d4 _ => x.1 | .d2 _ | .d3 _ => dir2 x.1
/-- Its target from device `c`. -/
abbrev tgt (x : X) (c : Dev nD) : Dev nD := nbr (dirOf x) c
/-- The device whose copy lands on `c`. -/
abbrev frm (x : X) (c : Dev nD) : Dev nD := nbr (opp (dirOf x)) c

/-- The copies of all streams in the order the program starts them, -/
def ordL : List X :=
  let all (f : Cp) : List X := [(0, f), (1, f), (2, f), (3, f)]
  let each (l : List Cp) : List X := (List.finRange 4).flatMap fun S => l.map fun f => (S, f)
  all (.d1 0) ++ all (.d1 1) ++ each [.z 0, .z 1, .z 2, .z 3] ++ all (.d2 0) ++ all (.d2 1) ++ all (.d2 2)
    ++ each [.d3 0, .d4 0] ++ each [.d3 1, .d4 1] ++ each [.d3 2, .d4 2] ++ all (.d4 3)
    ++ all (.d4 4) ++ all (.d4 5) ++ all (.d4 6) ++ all (.d4 7) ++ all (.d4 8) ++ all (.d4 9) ++ all (.d4 10) ++ all (.d4 11)
/-- and in the order it waits for their landings. -/
def rordL : List X :=
  let all (f : Cp) : List X := [(0, f), (1, f), (2, f), (3, f)]
  let each (l : List Cp) : List X := (List.finRange 4).flatMap fun S => l.map fun f => (S, f)
  all (.d1 0) ++ all (.d1 1) ++ all (.z 0) ++ each [.d2 0, .z 1] ++ each [.d2 1, .z 2] ++ each [.d2 2, .z 3]
    ++ all (.d3 0) ++ all (.d3 1) ++ all (.d3 2) ++ all (.d4 0) ++ all (.d4 1) ++ all (.d4 2) ++ all (.d4 3)
    ++ all (.d4 4) ++ all (.d4 5) ++ all (.d4 6) ++ all (.d4 7) ++ all (.d4 8) ++ all (.d4 9) ++ all (.d4 10) ++ all (.d4 11)

theorem ordL_nodup : ordL.Nodup := by decide +kernel
theorem rordL_nodup : rordL.Nodup := by decide +kernel
theorem ordL_univ : ∀ x : X, x ∈ ordL := by decide +kernel
theorem rordL_univ : ∀ x : X, x ∈ rordL := by decide +kernel

/-- A copy's place in the program's order. -/
def ix (x : X) : ℕ := ordL.idxOf x

/-! ## Semaphores -/

/-- A copy's offset among its stream's semaphores: `false` the sender's, `true` the receiver's. -/
abbrev soff : Bool → Cp → ℕ
  | false, .d1 j => j | true, .d1 j => 6 + j
  | false, .z k => 2 + k | true, .z k => 8 + k
  | false, .d2 s => 12 + s | true, .d2 s => 15 + s
  | false, .d3 j => 18 + j | true, .d3 j => 21 + j
  | false, .d4 i => 24 + i | true, .d4 i => 36 + i

theorem soff_lt (b : Bool) (f : Cp) : soff b f < 48 := by revert b f; decide

abbrev Y : Type := Bool × X

/-- The semaphore of a copy's send (`false`) or receive (`true`) end. -/
abbrev sm (y : Y) : DmaSem sig := ⟨3 + 48 * y.2.1.val + soff y.1 y.2.2, by
  have := soff_lt y.1 y.2.2; have := y.2.1.isLt; have : sig.nDmaSem = 195 := rfl; omega⟩

/-- All ends of all copies. -/
def allY : List Y := (ordL.map fun x => (false, x)) ++ ordL.map fun x => (true, x)

/-- The end a semaphore belongs to, if it is one of the copies'. -/
def dec (q : DmaSem sig) : Option Y := allY.find? fun y => sm y = q

theorem dec_sm (y : Y) : dec (sm y) = some y := by revert y; decide +kernel
theorem sm_injective : Function.Injective sm := fun y y' h => by
  have := dec_sm y; rw [h, dec_sm] at this; exact (Option.some.inj this).symm

/-- The runtime's barrier semaphore. -/
abbrev barS : Sem sig := (SemArray.scalar (sig.barrier 0 rfl) : Sems sig S_).sem

theorem reg_eq_bar (s : Sem sig) : s = barS := Subsingleton.elim (α := Fin 1) _ _

abbrev barCell (c : Dev nD) : GSem nD τ sig := ((c : Thread nD τ), .reg barS)
abbrev cell (y : Y) (c : Dev nD) : GSem nD τ sig := ((c : Thread nD τ), .dma (sm y))

/-- The credit of a copy: what its landing, and its source's being read, add to a semaphore. -/
abbrev amt (x : X) : ℕ := match x.2 with
  | .d1 _ => RefSig.tileCredit ⟨2, ![384, w x.1]⟩ .bf16
  | _ => RefSig.tileCredit ⟨2, ![96, w x.1]⟩ .bf16

theorem amt_pos (x : X) : 0 < amt x := by
  have h : ∀ x : X, 0 < (⟨2, ![384, w x.1]⟩ : Shape).numel ∧ 0 < (⟨2, ![96, w x.1]⟩ : Shape).numel := fun x =>
    ⟨Shape.numel_pos fun a => by fin_cases a; exact (by decide : 0 < 384); exact w_pos _,
     Shape.numel_pos fun a => by fin_cases a; exact (by decide : 0 < 96); exact w_pos _⟩
  obtain ⟨S, f⟩ := x
  cases f <;> first | exact RefSig.tileCredit_pos _ _ (h (S, .d1 0)).1 | exact RefSig.tileCredit_pos _ _ (h (S, .d1 0)).2

/-! ## Buffers and rectangles -/

abbrev Sh1 (S : Fin 4) : Shape := ⟨3, ![3, 384, w S]⟩
abbrev Sh2 (S : Fin 4) : Shape := ⟨3, ![3, 96, w S]⟩

/-- The staging buffers of the operands and of the result, the buffer of the local product. -/
abbrev aM : Memref sig .tc .vmem S1536x768 .bf16 := Memref.whole cc0_stg0_0
abbrev bM : Memref sig .tc .vmem S768x1536 .bf16 := Memref.whole cc0_stg1_0
abbrev oM : Memref sig .tc .vmem S1536x1536 .bf16 := Memref.whole cc0_stg2_0
abbrev pM : Memref sig .tc .vmem S1536x1536 .f32 := Memref.whole cc0_scratch0

/-- A stream's four buffers: sent and received in the first ring, sent and received in the second. -/
abbrev p1s : (S : Fin 4) → Memref sig .tc .vmem (Sh1 S) .bf16
  | 0 => Memref.whole cc0_scratch1 | 1 => Memref.whole cc0_scratch5 | 2 => Memref.whole cc0_scratch9 | 3 => Memref.whole cc0_scratch13
abbrev p1r : (S : Fin 4) → Memref sig .tc .vmem (Sh1 S) .bf16
  | 0 => Memref.whole cc0_scratch2 | 1 => Memref.whole cc0_scratch6 | 2 => Memref.whole cc0_scratch10 | 3 => Memref.whole cc0_scratch14
abbrev p2s : (S : Fin 4) → Memref sig .tc .vmem (Sh2 S) .bf16
  | 0 => Memref.whole cc0_scratch3 | 1 => Memref.whole cc0_scratch7 | 2 => Memref.whole cc0_scratch11 | 3 => Memref.whole cc0_scratch15
abbrev p2r : (S : Fin 4) → Memref sig .tc .vmem (Sh2 S) .bf16
  | 0 => Memref.whole cc0_scratch4 | 1 => Memref.whole cc0_scratch8 | 2 => Memref.whole cc0_scratch12 | 3 => Memref.whole cc0_scratch16

/-- Slot `j` of a first-ring buffer, -/
abbrev R1 (S : Fin 4) (j : Fin 2) : Rect (Sh1 S) :=
  Rect.unit (s := Sh1 S) ![j, 0, 0] ![1, 384, w S] (by revert S j; decide +kernel)
/-- sub-block `k` of its slot 2, -/
abbrev Rz (S : Fin 4) (k : Fin 4) : Rect (Sh1 S) :=
  Rect.unit (s := Sh1 S) ![2, 96 * k, 0] ![1, 96, w S] (by revert S k; decide +kernel)
/-- sub-block `k` of its slot 1, -/
abbrev Ry (S : Fin 4) (k : Fin 4) : Rect (Sh1 S) :=
  Rect.unit (s := Sh1 S) ![1, 96 * k, 0] ![1, 96, w S] (by revert S k; decide +kernel)
/-- slot `s` of a second-ring buffer, -/
abbrev R2 (S : Fin 4) (s : Fin 3) : Rect (Sh2 S) :=
  Rect.unit (s := Sh2 S) ![s, 0, 0] ![1, 96, w S] (by revert S s; decide +kernel)
/-- a stream's columns of row block `a`, -/
abbrev Rp (S : Fin 4) (a : Fin 4) : Rect S1536x1536 :=
  Rect.unit (s := S1536x1536) ![384 * a, c0 S] ![384, w S] (by revert S a; decide +kernel)
/-- and of sub-block `b` of row block `a`. -/
abbrev Ro (S : Fin 4) (a b : Fin 4) : Rect S1536x1536 :=
  Rect.unit (s := S1536x1536) ![384 * a + 96 * b, c0 S] ![96, w S] (by revert S a b; decide +kernel)

/-- The sub-block of the result that device `c` holds `s` steps back in stream `S`'s first ring and `k` steps back in its
    second from the one it finishes itself. -/
abbrev oB (S : Fin 4) (c : Dev nD) (s k : ℕ) : Rect S1536x1536 := Ro S (bF S (q1 S c) (s + 3)) (bF S (q2 S c) (k + 3))

end Cert.AllReduce

end
-- ==== Proof.Sched.lean ====
module

public import proofs.«01_k».proof.Proof.Geom
public import Idealize.ShloMosaic.Lib.ValueLayout

/-!
# What the buffers hold, and the schedule of the semaphores

`V1` is what a device sends around a stream's first ring, `V2` what it sends around
the second, `Out` what the result holds at the end. Each copy's two semaphores have one duty, of the copy's credit: the
receiver's hands over the landing with its contents, the sender's the source back. The barrier's four duties
hand a device the places its copies land on.
-/

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

/-! ## Contents -/

/-- The operands of every device, as staged. -/
abbrev Inp (F : FTy → Type) : Type := (Dev nD → S1536x768.Idx → Elt F .bf16) × (Dev nD → S768x1536.Idx → Elt F .bf16)

/-- The rows of the left operand a row block needs, -/
abbrev Ra (a : Fin 4) : Rect S1536x768 := Rect.unit (s := S1536x768) ![384 * a, 0] ![384, 768] (by revert a; decide +kernel)
/-- and the columns of the right operand a stream needs. -/
abbrev Rb (S : Fin 4) : Rect S768x1536 := Rect.unit (s := S768x1536) ![0, c0 S] ![768, w S] (by revert S; decide +kernel)

/-- The local product of a block of rows and a stream's columns, as the program computes it. -/
abbrev kdot : (S : Fin 4) → ((⟨2, ![384, 768]⟩ : Shape).Idx → Elt F .bf16) → ((⟨2, ![768, w S]⟩ : Shape).Idx → Elt F .bf16)
    → (⟨2, ![384, w S]⟩ : Shape).Idx → Elt F .f32
  | 0 => k0_pay4 | 1 => k0_pay4 | 2 => k0_pay7 | 3 => k0_pay7

theorem numel_1ab (a b : ℕ) : (⟨3, ![1, a, b]⟩ : Shape).numel = (⟨2, ![a, b]⟩ : Shape).numel := by
  simp [Shape.numel, Fin.prod_univ_succ]

/-- The index of a block matched with an index that has a unit axis before it, -/
abbrev rs {a b : ℕ} (i : (⟨3, ![1, a, b]⟩ : Shape).Idx) : (⟨2, ![a, b]⟩ : Shape).Idx := Shape.reshapeEquiv (numel_1ab a b) i
/-- and back. -/
abbrev sr {a b : ℕ} (i : (⟨2, ![a, b]⟩ : Shape).Idx) : (⟨3, ![1, a, b]⟩ : Shape).Idx := Shape.reshapeEquiv (numel_1ab a b).symm i

theorem rs_sr {a b : ℕ} (i : (⟨2, ![a, b]⟩ : Shape).Idx) : rs (sr i) = i :=
  (Shape.reshapeEquiv_reshapeEquiv _ _ _).trans (Shape.reshapeEquiv_self _ _)
theorem sr_rs {a b : ℕ} (i : (⟨3, ![1, a, b]⟩ : Shape).Idx) : sr (rs i) = i :=
  (Shape.reshapeEquiv_reshapeEquiv _ _ _).trans (Shape.reshapeEquiv_self _ _)
theorem sr_val {a b : ℕ} (i : (⟨2, ![a, b]⟩ : Shape).Idx) : sr i = ix3 (⟨0, Nat.one_pos⟩ : Fin 1) (i 0) (i 1) := by
  have : i = ix2 (i 0) (i 1) := by funext x; fin_cases x <;> rfl
  rw [this]; exact reshapeEquiv_ix2_1ab _ _ _
theorem rs_val {a b : ℕ} (i : (⟨3, ![1, a, b]⟩ : Shape).Idx) : rs i = (ix2 (i 1) (i 2) : (⟨2, ![a, b]⟩ : Shape).Idx) := by
  have h : i = sr (ix2 (i 1) (i 2) : (⟨2, ![a, b]⟩ : Shape).Idx) := by
    rw [sr_val]; funext x; fin_cases x
    · exact Fin.ext (by have := (i 0).isLt; change (i 0).val < 1 at this; change (i 0).val = 0; omega)
    · rfl
    · rfl
  exact (congrArg rs h).trans (rs_sr _)

/-- Row `i` of sub-block `b` within its block. -/
abbrev sub {n : ℕ} (b : Fin 4) (i : (⟨2, ![96, n]⟩ : Shape).Idx) : (⟨2, ![384, n]⟩ : Shape).Idx :=
  ix2 ⟨96 * b + (i 0).val, by have := (i 0).isLt; have := b.isLt; change (i 0).val < 96 at *; omega⟩ (i 1)

abbrev fadd (x y : Elt F .f32) : Elt F .f32 := FloatOps.addf x y
abbrev fcut (x : Elt F .f32) : Elt F .bf16 := FloatOps.truncf .bf16 bitsLt_bf16_f32 x
abbrev fext (x : Elt F .bf16) : Elt F .f32 := FloatOps.extf .f32 bitsLt_bf16_f32 x

section
variable (ab : Inp F)

/-- Device `c`'s own product at row block `a` and stream `S`'s columns. -/
def T (S a : Fin 4) (c : Dev nD) : (⟨2, ![384, w S]⟩ : Shape).Idx → Elt F .f32 :=
  kdot S (fun i => ab.1 c ((Ra a).emb i)) (fun i => ab.2 c ((Rb S).emb i))

/-- What device `c` sends in step `h` of the first ring: its own product added to what it received. -/
def V1 (S : Fin 4) : ℕ → Dev nD → (⟨2, ![384, w S]⟩ : Shape).Idx → Elt F .bf16
  | 0, c => fun i => fcut (T ab S (bF S (q1 S c) 0) c i)
  | h + 1, c => fun i => fcut (fadd (T ab S (bF S (q1 S c) (h + 1)) c i) (fext (V1 S h (p1 S c) i)))

/-- What device `c` sends in step `s` of the second ring, and after step 3 the finished sub-block. -/
def V2 (S : Fin 4) : ℕ → Dev nD → (⟨2, ![96, w S]⟩ : Shape).Idx → Elt F .bf16
  | 0, c => fun i => fcut (fadd (T ab S (bF S (q1 S c) 3) c (sub (bF S (q2 S c) 0) i))
      (fext (V1 ab S 2 (p1 S c) (sub (bF S (q2 S c) 0) i))))
  | s + 1, c => fun i => fcut (fadd (fadd (T ab S (bF S (q1 S c) 3) c (sub (bF S (q2 S c) (s + 1)) i))
      (fext (V1 ab S 2 (p1 S c) (sub (bF S (q2 S c) (s + 1)) i)))) (fext (V2 S s (p2 S c) i)))

/-- The device that finishes a stream's sub-block `b` of row block `a`. -/
def owner (S a b : Fin 4) : Dev nD := match S with
  | 0 | 1 => ⟨bk S b 1 * 4 + bk S a 1, by have := bk_lt S b 1; have := bk_lt S a 1; have : nD = 16 := rfl; omega⟩
  | 2 | 3 => ⟨bk S a 1 * 4 + bk S b 1, by have := bk_lt S b 1; have := bk_lt S a 1; have : nD = 16 := rfl; omega⟩

theorem owner_own (S : Fin 4) (c : Dev nD) : owner S (bF S (q1 S c) 3) (bF S (q2 S c) 3) = c := by revert S c; decide +kernel

/-- A finished sub-block. -/
def Out (S a b : Fin 4) : (⟨2, ![96, w S]⟩ : Shape).Idx → Elt F .bf16 := V2 ab S 3 (owner S a b)

/-! ## What is held of a copy's ends -/

abbrev one {sh : Shape} (off sz h) : ∀ a, (Rect.unit (s := sh) off sz h).stride a = 1 := fun _ => rfl

/-- Device `c`'s end of a copy that is being sent: the source. -/
def sendPay (x : X) (c : Dev nD) : sProp 𝕄 := match x.2 with
  | .d1 j => piece c (p1s x.1) (R1 x.1 j) (fun _ => rfl) fullShare fun i => V1 ab x.1 j c (rs i)
  | .z k => piece c (p1s x.1) (Rz x.1 k) (fun _ => rfl) fullShare fun i => V1 ab x.1 2 c (sub (bF x.1 (q2 x.1 c) k) (rs i))
  | .d2 s => piece c (p2s x.1) (R2 x.1 s) (fun _ => rfl) fullShare fun i => V2 ab x.1 s c (rs i)
  | .d3 j => piece c oM (oB x.1 c 0 j) (fun _ => rfl) fullShare.left (Out ab x.1 (bF x.1 (q1 x.1 c) 3) (bF x.1 (q2 x.1 c) (j + 3)))
  | .d4 i => piece c oM (oB x.1 c (i / 4) (i % 4)) (fun _ => rfl) (if i.val < 3 then fullShare.right else fullShare)
      (Out ab x.1 (bF x.1 (q1 x.1 c) (i / 4 + 3)) (bF x.1 (q2 x.1 c) (i % 4 + 3)))

/-- Device `r`'s end of a copy from device `f` that has landed. -/
def landed (x : X) (f r : Dev nD) : sProp 𝕄 := match x.2 with
  | .d1 j => piece r (p1r x.1) (R1 x.1 j) (fun _ => rfl) fullShare fun i => V1 ab x.1 j f (rs i)
  | .z k => piece r (p1r x.1) (Rz x.1 k) (fun _ => rfl) fullShare fun i => V1 ab x.1 2 f (sub (bF x.1 (q2 x.1 f) k) (rs i))
  | .d2 s => piece r (p2r x.1) (R2 x.1 s) (fun _ => rfl) fullShare fun i => V2 ab x.1 s f (rs i)
  | .d3 j => piece r oM (oB x.1 f 0 j) (fun _ => rfl) fullShare (Out ab x.1 (bF x.1 (q1 x.1 f) 3) (bF x.1 (q2 x.1 f) (j + 3)))
  | .d4 i => piece r oM (oB x.1 f (i / 4) (i % 4)) (fun _ => rfl) fullShare
      (Out ab x.1 (bF x.1 (q1 x.1 f) (i / 4 + 3)) (bF x.1 (q2 x.1 f) (i % 4 + 3)))

abbrev recvPay (x : X) (r : Dev nD) : sProp 𝕄 := landed ab x (frm x r) r
end

/-- The place on device `r` that a copy from device `f` lands on, at any contents. -/
def slot (x : X) (f r : Dev nD) : sProp 𝕄 := match x.2 with
  | .d1 j => iprop(∃ Y, piece r (p1r x.1) (R1 x.1 j) (fun _ => rfl) fullShare Y)
  | .z k => iprop(∃ Y, piece r (p1r x.1) (Rz x.1 k) (fun _ => rfl) fullShare Y)
  | .d2 s => iprop(∃ Y, piece r (p2r x.1) (R2 x.1 s) (fun _ => rfl) fullShare Y)
  | .d3 j => iprop(∃ Y, piece r oM (oB x.1 f 0 j) (fun _ => rfl) fullShare Y)
  | .d4 i => iprop(∃ Y, piece r oM (oB x.1 f (i / 4) (i % 4)) (fun _ => rfl) fullShare Y)

/-- The place device `c` sends a copy from, if it still has to be filled, at any contents. -/
def src (x : X) (c : Dev nD) : sProp 𝕄 := match x.2 with
  | .d1 j => iprop(∃ Y, piece c (p1s x.1) (R1 x.1 j) (fun _ => rfl) fullShare Y)
  | .z k => iprop(∃ Y, piece c (p1s x.1) (Rz x.1 k) (fun _ => rfl) fullShare Y)
  | .d2 s => iprop(∃ Y, piece c (p2s x.1) (R2 x.1 s) (fun _ => rfl) fullShare Y)
  | .d3 j => if j.val = 0 then iprop(∃ Y, piece c oM (oB x.1 c 0 0) (fun _ => rfl) fullShare Y) else iprop(emp)
  | .d4 _ => iprop(emp)

section
variable (ab : Inp F)
instance (x : X) (c : Dev nD) : BI.Storable (upEmb : UEmb _ 𝕄) (sendPay ab x c) := by
  obtain ⟨S, f⟩ := x; cases f <;> (unfold sendPay; infer_instance)
instance (x : X) (f c : Dev nD) : BI.Storable (upEmb : UEmb _ 𝕄) (landed ab x f c) := by
  obtain ⟨S, f⟩ := x; cases f <;> (unfold landed; infer_instance)
omit [FloatOps F] in
instance slot_storable (x : X) (f c : Dev nD) : BI.Storable (upEmb : UEmb _ 𝕄) (slot (F := F) x f c) := by
  obtain ⟨S, f⟩ := x; cases f <;> (unfold slot; infer_instance)

/-! ## The schedule -/

/-- What the signal from direction `i` hands device `c`: the places on that neighbour that `c`'s copies land on. -/
def barPay (c : Dev nD) (i : Fin 4) : sProp 𝕄 :=
  bigSep Finset.univ fun x : X => if dirOf x = opp i then slot x c (tgt x c) else iprop(emp)

omit [FloatOps F] in
instance barPay_storable (c : Dev nD) (i : Fin 4) : BI.Storable (upEmb : UEmb _ 𝕄) (barPay (F := F) c i) := by
  unfold barPay
  have : ∀ x : X, BI.Storable (upEmb : UEmb _ 𝕄) (if dirOf x = opp i then slot (F := F) x c (tgt x c) else iprop(emp)) := by
    intro x; split <;> infer_instance
  infer_instance

/-- The schedule: one round, round 0. -/
def Rd : Rounds.Schedule (GSem nD τ sig) (Fin 4) 𝕄 where
  duties g r := if r = 0 ∧ g.1.2 = .tc then
      (match g.2 with
        | .reg _ => Finset.univ
        | .dma q => match dec q with | some _ => {0} | none => ∅)
    else ∅
  unitless _ := False
  amount g _ _ := match g.2 with | .reg _ => 1 | .dma q => match dec q with | some y => amt y.2 | none => 1
  payload g _ d := match g.2 with
    | .reg _ => barPay g.1.1 d
    | .dma q => match dec q with
      | some (false, x) => sendPay ab x g.1.1
      | some (true, x) => recvPay ab x g.1.1
      | none => iprop(emp)
  amount_pos g _ _ _ := by
    match g.2 with
    | .reg _ => exact Nat.one_pos
    | .dma q => cases h : dec q with
      | none => simp only [h]; exact Nat.one_pos
      | some y => simp only [h]; exact amt_pos _

instance Rd_payload_storable (g : GSem nD τ sig) (r : ℕ) (d : Fin 4) :
    BI.Storable (upEmb : UEmb _ 𝕄) ((Rd (F := F) ab).payload g r d) := by
  unfold Rd
  match h : g.2 with
  | .reg _ => simp only [h]; infer_instance
  | .dma q => rcases h' : dec q with _ | ⟨_ | _, x⟩ <;> simp only [h, h'] <;> infer_instance

theorem duties_later (g : GSem nD τ sig) (r : ℕ) (hr : 1 ≤ r) : (Rd (F := F) ab).duties g r = ∅ :=
  by
  unfold Rd; exact if_neg (fun h => by omega)

theorem duties_bar (c : Dev nD) : (Rd (F := F) ab).duties (barCell c) 0 = Finset.univ := rfl
theorem duties_cell (y : Y) (c : Dev nD) : (Rd (F := F) ab).duties (cell y c) 0 = {0} := by
  dsimp only [Rd, cell]; rw [dec_sm]; exact if_pos ⟨rfl, rfl⟩
theorem amount_bar (c : Dev nD) (d) : (Rd (F := F) ab).amount (barCell c) 0 d = 1 := rfl
theorem amount_cell (y : Y) (c : Dev nD) (d) : (Rd (F := F) ab).amount (cell y c) 0 d = amt y.2 := by
  show (match dec (sm y) with | some y => amt y.2 | none => 1) = _
  rw [dec_sm]
theorem payload_bar (c : Dev nD) (d) : (Rd (F := F) ab).payload (barCell c) 0 d = barPay c d := rfl
theorem payload_send (x : X) (c : Dev nD) (d) : (Rd (F := F) ab).payload (cell (false, x) c) 0 d = sendPay ab x c := by
  show (match dec (sm (false, x)) with | some (false, x) => sendPay ab x c | some (true, x) => recvPay ab x c | none => iprop(emp)) = _
  rw [dec_sm]
theorem payload_recv (x : X) (c : Dev nD) (d) : (Rd (F := F) ab).payload (cell (true, x) c) 0 d = recvPay ab x c := by
  show (match dec (sm (true, x)) with | some (false, x) => sendPay ab x c | some (true, x) => recvPay ab x c | none => iprop(emp)) = _
  rw [dec_sm]

theorem expect_bar (c : Dev nD) : (Rd (F := F) ab).expect (barCell c) 0 = 4 := by

  unfold Schedule.expect Schedule.amountOf
  rw [duties_bar, Finset.sum_congr rfl fun d _ => amount_bar ab c d]; rfl
theorem expect_cell (y : Y) (c : Dev nD) : (Rd (F := F) ab).expect (cell y c) 0 = amt y.2 := by
  unfold Schedule.expect Schedule.amountOf; rw [duties_cell, Finset.sum_singleton, amount_cell]

/-! ## What a device owes, and the levels -/

def L (g : GSem nD τ sig) : Finset Unit := if g.1.2 = .tc then {()} else ∅
theorem L_of_ne (g : GSem nD τ sig) (h : g.1.2 ≠ .tc) : L g = ∅ := if_neg h
/-- The barrier below the receive semaphores, those in the order their copies are started, all others at the bottom. -/
def lv (g : GSem nD τ sig) (_ : Unit) : ℕ := match g.2 with
  | .reg _ => 1
  | .dma q => match dec q with | some (true, x) => 2 + ix x | _ => 0

theorem lv_bar (c : Dev nD) : lv (barCell c) () = 1 := rfl
theorem lv_recv (x : X) (c : Dev nD) : lv (cell (true, x) c) () = 2 + ix x := by
  show (match dec (sm (true, x)) with | some (true, x) => 2 + ix x | _ => 0) = _
  rw [dec_sm]
theorem lv_send (x : X) (c : Dev nD) : lv (cell (false, x) c) () = 0 := by
  show (match dec (sm (false, x)) with | some (true, x) => 2 + ix x | _ => 0) = _
  rw [dec_sm]

/-- What is owed for a list of copies: the credit of each at its target's receive semaphore. -/
def Ol (c : Dev nD) : List X → CellTallies nD τ sig Unit
  | [] => 0
  | x :: l => Ol c l + tallyAt (cell (true, x) (tgt x c)) () (amt x)
/-- What device `c` owes once it has started `t` copies. -/
abbrev Od (c : Dev nD) (t : ℕ) : CellTallies nD τ sig Unit := Ol c (ordL.drop t)

theorem Od_step (c : Dev nD) (t : ℕ) (x : X) (h : ordL[t]? = some x) :
    Od c t = Od c (t + 1) + tallyAt (cell (true, x) (tgt x c)) () (amt x) := by
  obtain ⟨h1, h2⟩ := List.getElem?_eq_some_iff.mp h
  unfold Od; rw [List.drop_eq_getElem_cons h1, h2]; rfl
end

end Cert.AllReduce

end
-- ==== Proof.Steps.lean ====
module

public import proofs.«01_k».proof.Proof.Sched

/-!
# One wait, one send

The rules for a wait on a copy's semaphore, for a copy's start and for the barrier, in terms of the schedule.
-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

/-! ## Records shared by all devices -/

/-- A device's cells: the barrier's, and the two of each copy. -/
abbrev kcell (ck : Dev nD × Option Y) : GSem nD τ sig := match ck.2 with | none => barCell ck.1 | some y => cell y ck.1

section
variable (ab : Inp F) (K : Dev nD × Option Y → ℕ)

omit [FloatOps F] in
/-- The levels. -/
def lvls : sProp 𝕄 := levAts L lv
omit [FloatOps F] in
instance lvls_persistent : BI.Persistent (lvls (F := F)) := by unfold lvls; infer_instance

/-- Every cell's invariant, that every cell has reached its round, and the levels. -/
def records : sProp 𝕄 :=
  iprop((bigSep Finset.univ fun ck : Dev nD × Option Y => cellInv ER (Rd ab) (K ck) (kcell ck))
    ∗ (bigSep Finset.univ fun ck : Dev nD × Option Y => reached ER (kcell ck) 0) ∗ (lvls : sProp 𝕄))

instance records_persistent : BI.Persistent (records (F := F) ab K) := by unfold records; infer_instance

theorem inv_at (ck : Dev nD × Option Y) :
    (bigSep Finset.univ fun ck : Dev nD × Option Y => (cellInv ER (Rd ab) (K ck) (kcell ck) : sProp 𝕄)) ⊢ cellInv ER (Rd ab) (K ck) (kcell ck) :=
  bigSep_elim (Finset.mem_univ ck)
omit [FloatOps F] in
theorem reached_at (ck : Dev nD × Option Y) :
    (bigSep Finset.univ fun ck : Dev nD × Option Y => (reached ER (kcell ck) 0 : sProp 𝕄)) ⊢ reached ER (kcell ck) 0 :=
  bigSep_elim (Finset.mem_univ ck)
theorem rec_inv (ck : Dev nD × Option Y) : records ab K ⊢ cellInv ER (Rd ab) (K ck) (kcell ck) := by
  unfold records
  iintro ⟨H, -, -⟩
  iapply (inv_at ab K ck); iexact H
theorem rec_reached (ck : Dev nD × Option Y) : records ab K ⊢ reached ER (kcell ck) 0 := by
  unfold records
  iintro ⟨-, H, -⟩
  iapply (reached_at (F := F) ck); iexact H
theorem rec_lev : records ab K ⊢ (lvls : sProp 𝕄) := by
  unfold records
  iintro ⟨-, -, H⟩
  iexact H

/-- What device `c` owes after starting `t` copies, whatever it has waited on. -/
abbrev OW (c : Dev nD) (t : ℕ) : sProp 𝕄 := iprop(∃ W, owes (c : Thread nD τ) (Od c t) W)

omit [FloatOps F] in
theorem L_tc (c : Dev nD) (s : SemLoc sig) : L ((c : Thread nD τ), s) = {()} := if_pos rfl

theorem ordL_get_ix {t : ℕ} {x : X} (h : ordL[t]? = some x) : ix x = t := by
  obtain ⟨h1, h2⟩ := List.getElem?_eq_some_iff.mp h
  unfold ix; rw [← h2]; exact ordL_nodup.idxOf_getElem t h1

theorem Ol_pos {c : Dev nD} {l : List X} {g : GSem nD τ sig} {u : Unit} (h : 0 < Ol c l g u) :
    ∃ x ∈ l, g = cell (true, x) (tgt x c) := by
  induction l with
  | nil => exact absurd h (Nat.lt_irrefl 0)
  | cons x l ih =>
    unfold Ol at h
    rw [Pi.add_apply, Finsupp.add_apply, tallyAt_apply] at h
    by_cases hg : g = cell (true, x) (tgt x c)
    · exact ⟨x, List.mem_cons_self, hg⟩
    · rw [if_neg (fun h' => hg h'.1), Nat.add_zero] at h
      obtain ⟨y, hy, e⟩ := ih h
      exact ⟨y, List.mem_cons_of_mem _ hy, e⟩

theorem ix_drop {t : ℕ} {x : X} (h : x ∈ ordL.drop t) : t ≤ ix x := by
  obtain ⟨i, hi, e⟩ := List.getElem_of_mem h
  rw [List.getElem_drop] at e
  have h2 : t + i < ordL.length := by rw [List.length_drop] at hi; omega
  have := ordL_get_ix (List.getElem?_eq_some_iff.mpr ⟨h2, e⟩)
  omega

omit [FloatOps F] in
/-- A device may wait on a semaphore below everything it still owes. -/
theorem mayWait (c : Dev nD) (s : SemLoc sig) (t : ℕ) (h : lv ((c : Thread nD τ), s) () < 2 + t) :
    (lvls : sProp 𝕄) ⊢ MayWait (c : Thread nD τ) s () (Od c t) :=
  show (levAts L lv : sProp 𝕄) ⊢ _ from MayOwe.of_cut (L := L) (lev := lv) (1 + t) (fun p hp => by rw [Finset.mem_singleton.mp hp, L_tc]; exact Finset.mem_singleton_self _)
    (fun g u hg => by obtain ⟨x, _, rfl⟩ := Ol_pos hg; rw [L_tc]; exact Finset.mem_singleton_self _)
    (fun p hp => by rw [Finset.mem_singleton.mp hp]; show lv ((c : Thread nD τ), s) () ≤ 1 + t; omega)
    (fun g u hg => by
      obtain ⟨x, hx, rfl⟩ := Ol_pos hg
      have := ix_drop hx
      show _ < lv _ (); rw [lv_recv]; omega)

/-- What a copy's semaphore hands over. -/
abbrev pay (y : Y) (c : Dev nD) : sProp 𝕄 := (Rd ab).payload (cell y c) 0 0

theorem rest_cell (y : Y) (c : Dev nD) :
    bigSep ((Rd (F := F) ab).duties (cell y c) 0 \ ∅) (fun d => (Rd (F := F) ab).payload (cell y c) 0 d) = pay ab y c := by
  rw [Finset.sdiff_empty, duties_cell, bigSep_singleton]

/-- A wait on a copy's semaphore, with the credit for it: what the semaphore hands over, and the semaphore closed. -/
theorem wp_wait (c : Dev nD) (t : ℕ) (y : Y) (hlv : lv (cell y c) () < 2 + t)
    {α : Type} {Q : α → sProp 𝕄} {sh sh' : Shape} {e e' : EltTy} {sp sp' : Space} {q : DmaSem sig} {dst : Memref sig .tc sp sh e} {src : Memref sig .tc sp' sh' e'} {h1 h2}
    {k : PUnit → Prog (TpuEff nD τ sig (Elt F) Λ₀ .tc) α} (hq : q = sm y) (hN : src.view.dmaCredit = amt y.2) :
    iprop(records ab K ∗ OW c t ∗ cred (tallyAt (cell y c) () (amt y.2)) ∗ atPos ER (cell y c) 0 ∅ 0)
      ⊢ iprop((OW c t ∗ pay ab y c ∗ semVal (cell y c) 0 -∗ WP c (k ⟨⟩) Q)
        -∗ WP c (.op (.waitDma2 q dst src h1 h2) k) Q) := by
  subst hq
  have h1 := rec_lev ab K
  have h0 : lv ((c : Thread nD τ), SemLoc.dma (sm y)) () < 2 + t := hlv
  have h2 := mayWait (F := F) c (.dma (sm y)) t h0
  have h3 := h1.trans h2
  iintro ⟨#HR, ⟨%W, HO⟩, Hc, Hat⟩ Hk
  iapply (Rounds.wp_wait_rest_token 𝒱₀ ER (Rd ab) (c : Thread nD τ) none (κ := K (c, some y))
      (wpE_waitDma2_eq 𝒱₀ (c : Thread nD τ) none Set.univ) (Set.mem_univ _) () (O := Od c t) (W := W) (R := 0) (m := 0) (T := ∅)
      (by rw [Nat.zero_add, expect_cell]; exact hN)) $$ [Hc HO Hat]
  · isplitr; · iapply (rec_inv ab K (c, some y)); iexact HR
    isplitl [Hc]; · rw [hN]; iexact Hc
    isplitl [HO]; · iexact HO
    isplitr
    · iapply h3; iexact HR
    iexact Hat
  iintro ⟨HO, Hat, -, Hpay⟩
  imod (Rounds.cell_close ER (Rd ab) (Set.mem_univ (K (c, some y))) (fun h => h) (R := 0 + 1) (duties_later ab (cell y c))) $$ [Hat] with Hz
  · isplitr; · iapply (rec_inv ab K (c, some y)); iexact HR
    iexact Hat
  ihave Hp := (Entails.of_eq (rest_cell ab y c)) $$ Hpay
  iapply Hk
  isplitl [HO]; · iexists _; iexact HO
  isplitl [Hp]; · iexact Hp
  iexact Hz

/-- A copy's start: its source and the place it lands on are given up, and the sender may wait for the source. -/
theorem wp_send (c n : Dev nD) (t : ℕ) (x : X) (hx : ordL[t]? = some x) (hn : n = tgt x c)
    {α : Type} {Q : α → sProp 𝕄} {sh : Shape} {src : Memref sig .tc .vmem sh .bf16} {dst : Memref sig (Dev.tc n : Thread nD τ).2.kind .vmem sh .bf16} {qs qr : DmaSem sig} {hsc h1 h2 h3}
    {k : PUnit → Prog (TpuEff nD τ sig (Elt F) Λ₀ .tc) α} (hqs : qs = sm (false, x)) (hqr : qr = sm (true, x)) (hN : dst.view.dmaCredit = amt x)
    {q : PosShare TreeShare} {Ys Yd : sh.Idx → Elt F .bf16}
    (hs : (owns (Ix := Unit) (Name := ℕ) (U := UU) (Lvl := ℕ) (c : Thread nD τ) src q Ys : sProp 𝕄) ⊢ sendPay ab x c)
    (hd : (owns (Ix := Unit) (Name := ℕ) (U := UU) (Lvl := ℕ) (n : Thread nD τ) dst fullShare Ys : sProp 𝕄) ⊢ landed ab x c n) :
    iprop(records ab K ∗ OW c t ∗ (dutyTok ER (cell (false, x) c) 0 0 ∗ dutyTok ER (cell (true, x) (tgt x c)) 0 0)
        ∗ owns (Ix := Unit) (Name := ℕ) (U := UU) (Lvl := ℕ) (c : Thread nD τ) src q Ys
        ∗ owns (Ix := Unit) (Name := ℕ) (U := UU) (Lvl := ℕ) (n : Thread nD τ) dst fullShare Yd)
      ⊢ iprop((OW c (t + 1) ∗ cred (tallyAt (cell (false, x) c) () (amt x)) -∗ WP c (k ⟨⟩) Q)
        -∗ WP c (.op (.enqueueDma src (.remote (Dev.tc n : Thread nD τ) dst (.dma qs) hsc) (.dma qr) h1 h2 h3) k) Q) := by
  subst hqs hqr hn
  unfold owns
  iintro ⟨#HR, ⟨%W, HO⟩, ⟨Ht1, Ht2⟩, ⟨%fs, %hfs, Hs⟩, ⟨%fd, %hfd, Hd⟩⟩ Hk
  iapply (Rounds.wp_send_pointsTo 𝒱₀ ER (Rd ab) (c : Thread nD τ) none (κ₁ := K (c, some (false, x))) (κ₂ := K (tgt x c, some (true, x)))
    (dst := dst) (sem := .dma (sm (true, x))) (r₁ := 0) (r₂ := 0) (d₁ := 0) (d₂ := 0) (fd := fd) (fs := fs) (q := q)
    (by rw [duties_cell]; exact Finset.mem_singleton_self _) (by rw [duties_cell]; exact Finset.mem_singleton_self _)
    () () (amt x) hN (amount_cell ab (false, x) c 0) (amount_cell ab (true, x) (tgt x c) 0) (Od c (t + 1)) (Od_step c t x hx) (W := W)
    (by
      rw [payload_send]
      refine BIBase.Entails.trans ?_ hs
      unfold owns
      iintro H; iexists fs; isplitr; · ipureintro; exact hfs
      iexact H)
    (by
      rw [payload_recv]
      unfold recvPay frm tgt
      rw [opp_nbr]
      refine BIBase.Entails.trans ?_ hd
      unfold owns
      iintro H; iexists _; isplitr
      swap; · iexact H
      ipureintro; rw [hfs]; exact View.read_write_univ _ _)) $$ [HO Ht1 Ht2 Hs Hd]
  · isplitr; · iapply (rec_inv ab K (c, some (false, x))); iexact HR
    isplitr; · iapply (rec_inv ab K (tgt x c, some (true, x))); iexact HR
    isplitl [Hs]; · iexact Hs
    isplitl [Hd]; · iexact Hd
    isplitl [HO]; · iexact HO
    isplitl [Ht1]; · iexact Ht1
    isplitr; · iapply (rec_reached ab K (c, some (false, x))); iexact HR
    isplitl [Ht2]; · iexact Ht2
    iapply (rec_reached ab K (tgt x c, some (true, x))); iexact HR
  iintro ⟨Hc, HO⟩
  iapply Hk
  isplitl [HO]; · iexists W; iexact HO
  iexact Hc

/-- A memref with unit axes dropped is owned as the memref is, its values matched. -/
theorem owns_sq (c : Dev nD) {κ : Thread nD τ} {sh sh' : Shape} {e : EltTy} (m : Memref sig κ.2.kind .vmem sh e) (h : sh.Squeezes sh') (hn : sh'.numel = sh.numel)
    (q : PosShare TreeShare) (Y : sh.Idx → Elt F e) :
    (owns (Ix := Unit) (Name := ℕ) (U := UU) (Lvl := ℕ) κ (m.squeeze sh' h) q (fun j => Y (Shape.reshapeEquiv hn j)) : sProp 𝕄)
      = owns (Ix := Unit) (Name := ℕ) (U := UU) (Lvl := ℕ) κ m q Y := by
  unfold owns
  have hr (f : m.view.ty.Contents (Elt F)) : (m.squeeze sh' h).view.read (Elt F) f = fun j => m.view.read (Elt F) f (Shape.reshapeEquiv hn j) := rfl
  have hset : (m.squeeze sh' h).view.set = m.view.set := View.set_reshape _ _
  have hiff (f : m.view.ty.Contents (Elt F)) : ((fun j => m.view.read (Elt F) f (Shape.reshapeEquiv hn j)) = fun j => Y (Shape.reshapeEquiv hn j)) ↔ m.view.read (Elt F) f = Y := by
    constructor
    · intro h; funext i
      have := congrFun h ((Shape.reshapeEquiv hn).symm i)
      simpa using this
    · intro h; rw [h]
  show iprop(∃ f : m.view.ty.Contents (Elt F), ⌜(m.squeeze sh' h).view.read (Elt F) f = _⌝ ∗ (m.view.loc κ ↦[(m.squeeze sh' h).view.set]{q} f)) = _
  simp only [hr, hset, hiff]
end

end Cert.AllReduce

end
-- ==== Proof.State.lean ====
module

public import proofs.«01_k».proof.Proof.Steps

/-!
# What a device holds between two groups of steps

After starting `t` copies, waiting for `r` landings and computing `n` blocks of its own product, a device holds
for each copy either what its start needs or the credit for its source's return, for each landing either the
credit for it or the landing, and the product's blocks. This module states that, and how one part is taken out and put back.
-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

/-- A landing's place in the order of the waits. -/
def rix (x : X) : ℕ := rordL.idxOf x

section
variable (ab : Inp F) (K : Dev nD × Option Y → ℕ)

/-- What a copy's start needs: the duties it pays, the place it lands on, the place it is sent from. -/
def ticket (c : Dev nD) (x : X) : sProp 𝕄 :=
  iprop((dutyTok ER (cell (false, x) c) 0 0 ∗ dutyTok ER (cell (true, x) (tgt x c)) 0 0) ∗ slot x c (tgt x c)
    ∗ src x c ∗ atPos ER (cell (false, x) c) 0 ∅ 0)
/-- What the wait for its source needs. -/
def sent (c : Dev nD) (x : X) : sProp 𝕄 :=
  iprop(cred (tallyAt (cell (false, x) c) () (amt x)) ∗ atPos ER (cell (false, x) c) 0 ∅ 0)
/-- What the wait for a landing needs. -/
def due (c : Dev nD) (x : X) : sProp 𝕄 :=
  iprop(cred (tallyAt (cell (true, x) c) () (amt x)) ∗ atPos ER (cell (true, x) c) 0 ∅ 0)
/-- What is kept of a landing: all of it, but of a finished sub-block that is sent on nothing. -/
def keep (c : Dev nD) (x : X) : sProp 𝕄 := match x.2 with
  | .d3 _ => iprop(emp)
  | .d4 i => if i.val < 8 then iprop(emp) else recvPay ab x c
  | _ => recvPay ab x c
def done (c : Dev nD) (x : X) : sProp 𝕄 := iprop(keep ab c x ∗ semVal (cell (true, x) c) 0)

def cop (c : Dev nD) (t : ℕ) (x : X) : sProp 𝕄 := if ix x < t then sent c x else ticket c x
def rop (c : Dev nD) (r : ℕ) (x : X) : sProp 𝕄 := if rix x < r then done ab c x else due c x
/-- A block of the product buffer: computed once its turn has come. -/
def tile (c : Dev nD) (n : ℕ) (p : Fin 4 × Fin 4) : sProp 𝕄 :=
  if 4 * p.2.val + p.1.val < n then piece c pM (Rp p.1 (bF p.1 (q1 p.1 c) p.2)) (fun _ => rfl) fullShare (T ab p.1 (bF p.1 (q1 p.1 c) p.2) c)
  else iprop(∃ Y, piece c pM (Rp p.1 (bF p.1 (q1 p.1 c) p.2)) (fun _ => rfl) fullShare Y)

/-- The operands, and the barrier's semaphore once it has been passed. -/
def opnds (c : Dev nD) : sProp 𝕄 :=
  iprop(owns (Ix := Unit) (Name := ℕ) (U := UU) (Lvl := ℕ) (c : Thread nD τ) aM fullShare (ab.1 c)
    ∗ owns (Ix := Unit) (Name := ℕ) (U := UU) (Lvl := ℕ) (c : Thread nD τ) bM fullShare (ab.2 c)
    ∗ semVal (barCell c) 0)

/-- The state after `t` starts, `r` landings and `n` products. -/
def St (c : Dev nD) (t r n : ℕ) : sProp 𝕄 :=
  iprop(records ab K ∗ OW c t ∗ opnds ab c ∗ bigSep Finset.univ (cop c t) ∗ bigSep Finset.univ (rop ab c r) ∗ bigSep Finset.univ (tile ab c n))

omit [FloatOps F] in
/-- A group of operations that ends in a state from which the rest is safe is safe. -/
theorem cut {A B C D : sProp 𝕄} (hc : A ⊢ B) (h : C ⊢ iprop((A -∗ B) -∗ D)) : C ⊢ D := by
  refine h.trans ?_
  iintro H; iapply H; iintro H; iapply hc; iexact H

omit [FloatOps F] in
/-- One part is taken out of a product of parts, and put back changed. -/
theorem bigSep_swap {I : Type} [DecidableEq I] [Fintype I] {Φ Ψ : I → sProp 𝕄} (x : I) (h : ∀ y, y ≠ x → Φ y = Ψ y) :
    bigSep Finset.univ Φ ⊢ iprop(Φ x ∗ (Ψ x -∗ bigSep Finset.univ Ψ)) := by
  rw [bigSep_univ_at Φ x, bigSep_univ_at Ψ x, bigSep_congr (s := Finset.univ.erase x) (fun y hy => h y (Finset.ne_of_mem_erase hy))]
  iintro ⟨H1, H2⟩
  isplitl [H1]; · iexact H1
  iintro H; isplitl [H]; · iexact H
  iexact H2

omit [FloatOps F] in
theorem cop_open (c : Dev nD) {t : ℕ} {x : X} (hx : ordL[t]? = some x) :
    bigSep Finset.univ (cop (F := F) c t) ⊢ iprop(ticket c x ∗ (sent c x -∗ bigSep Finset.univ (cop c (t + 1)))) := by
  have h := ordL_get_ix hx
  have e1 : cop (F := F) c t x = ticket c x := if_neg (by omega)
  have e2 : cop (F := F) c (t + 1) x = sent c x := if_pos (by omega)
  have := bigSep_swap (Φ := cop (F := F) c t) (Ψ := cop c (t + 1)) x (fun y hy => by
    have : ix y ≠ t := fun e => hy (by
      have h1 := List.idxOf_lt_length_of_mem (ordL_univ y); have h2 := List.idxOf_lt_length_of_mem (ordL_univ x)
      have e1 : ordL[ordL.idxOf y] = y := List.getElem_idxOf h1
      have e2 : ordL[ordL.idxOf x] = x := List.getElem_idxOf h2
      have e3 : ordL.idxOf y = ordL.idxOf x := e.trans h.symm
      rw [← e1, ← e2]; congr 1)
    unfold cop; congr 1; exact propext ⟨fun _ => by omega, fun _ => by omega⟩)
  rw [e1, e2] at this; exact this

theorem rop_open (c : Dev nD) {r : ℕ} {x : X} (hx : rordL[r]? = some x) :
    bigSep Finset.univ (rop ab c r) ⊢ iprop(due c x ∗ (done ab c x -∗ bigSep Finset.univ (rop ab c (r + 1)))) := by
  have h : rix x = r := by
    obtain ⟨h1, h2⟩ := List.getElem?_eq_some_iff.mp hx
    unfold rix; rw [← h2]; exact rordL_nodup.idxOf_getElem r h1
  have e1 : rop ab c r x = due c x := if_neg (by omega)
  have e2 : rop ab c (r + 1) x = done ab c x := if_pos (by omega)
  have := bigSep_swap (Φ := rop ab c r) (Ψ := rop ab c (r + 1)) x (fun y hy => by
    have : rix y ≠ r := fun e => hy (by
      have h1 := List.idxOf_lt_length_of_mem (rordL_univ y); have h2 := List.idxOf_lt_length_of_mem (rordL_univ x)
      have e1 : rordL[rordL.idxOf y] = y := List.getElem_idxOf h1
      have e2 : rordL[rordL.idxOf x] = x := List.getElem_idxOf h2
      have e3 : rordL.idxOf y = rordL.idxOf x := e.trans h.symm
      rw [← e1, ← e2]; congr 1)
    unfold rop; congr 1; exact propext ⟨fun _ => by omega, fun _ => by omega⟩)
  rw [e1, e2] at this; exact this

/-- A landing that is kept is there to be read. -/
theorem rop_read (c : Dev nD) {r : ℕ} (x : X) (hr : rix x < r) (hk : keep ab c x = recvPay ab x c) :
    bigSep Finset.univ (rop ab c r) ⊢ iprop(recvPay ab x c ∗ (recvPay ab x c -∗ bigSep Finset.univ (rop ab c r))) := by
  have e1 : rop ab c r x = done ab c x := if_pos hr
  have := bigSep_swap (Φ := rop ab c r) (Ψ := rop ab c r) x (fun _ _ => rfl)
  rw [e1] at this; unfold done at this; rw [hk] at this
  refine this.trans ?_
  iintro ⟨⟨H1, H2⟩, H3⟩
  isplitl [H1]; · iexact H1
  iintro H; iapply H3; isplitl [H]; · iexact H
  iexact H2

theorem tile_open (c : Dev nD) (S r : Fin 4) {n : ℕ} (hn : 4 * r.val + S.val = n) :
    bigSep Finset.univ (tile ab c n) ⊢ iprop((∃ Y, piece c pM (Rp S (bF S (q1 S c) r)) (fun _ => rfl) fullShare Y)
      ∗ (piece c pM (Rp S (bF S (q1 S c) r)) (fun _ => rfl) fullShare (T ab S (bF S (q1 S c) r) c) -∗ bigSep Finset.univ (tile ab c (n + 1)))) := by
  have e1 : tile ab c n (S, r) = iprop(∃ Y, piece c pM (Rp S (bF S (q1 S c) r)) (fun _ => rfl) fullShare Y) := if_neg (by show ¬ (4 * r.val + S.val < n); omega)
  have e2 : tile ab c (n + 1) (S, r) = piece c pM (Rp S (bF S (q1 S c) r)) (fun _ => rfl) fullShare (T ab S (bF S (q1 S c) r) c) := if_pos (by show (4 * r.val + S.val < n + 1); omega)
  have := bigSep_swap (Φ := tile ab c n) (Ψ := tile ab c (n + 1)) (S, r) (fun y hy => by
    have : 4 * y.2.val + y.1.val ≠ n := fun e => hy (by
      obtain ⟨y1, y2⟩ := y; refine Prod.ext (Fin.ext ?_) (Fin.ext ?_) <;> (dsimp only at e ⊢; omega))
    unfold tile; congr 1; exact propext ⟨fun _ => by omega, fun _ => by omega⟩)
  rw [e1, e2] at this; exact this

theorem tile_read (c : Dev nD) (S r : Fin 4) {n : ℕ} (hn : 4 * r.val + S.val < n) :
    bigSep Finset.univ (tile ab c n) ⊢ iprop(piece c pM (Rp S (bF S (q1 S c) r)) (fun _ => rfl) fullShare (T ab S (bF S (q1 S c) r) c)
      ∗ (piece c pM (Rp S (bF S (q1 S c) r)) (fun _ => rfl) fullShare (T ab S (bF S (q1 S c) r) c) -∗ bigSep Finset.univ (tile ab c n))) := by
  have e1 : tile ab c n (S, r) = piece c pM (Rp S (bF S (q1 S c) r)) (fun _ => rfl) fullShare (T ab S (bF S (q1 S c) r) c) := if_pos hn
  have := bigSep_swap (Φ := tile ab c n) (Ψ := tile ab c n) (S, r) (fun _ _ => rfl)
  rw [e1] at this; exact this
end

end Cert.AllReduce

end
-- ==== Proof.Groups.lean ====
module

public import proofs.«01_k».proof.Proof.State

/-!
# The groups of operations the body repeats

Each theorem takes one group of operations from one state to the next: a block's product, a landing, a start of a copy
of the first ring. The stream, the place in the order and the rectangles are parameters.
-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

section
variable (ab : Inp F) (K : Dev nD × Option Y → ℕ)

/-- A load from an owned memref reads its values on the rectangle. -/
theorem wp_load_owns {c : Dev nD} {sh : Shape} {e : EltTy} {m : Memref sig .tc .vmem sh e} {α : Type} {Q : α → sProp 𝕄} {r : Rect sh} {hl} {k : (r.shape.Idx → Elt F e) → Prog (TpuEff nD τ sig (Elt F) Λ₀ .tc) α} {q : PosShare TreeShare} {Y : sh.Idx → Elt F e} :
    (owns (Ix := Unit) (Name := ℕ) (U := UU) (Lvl := ℕ) (c : Thread nD τ) m q Y : sProp 𝕄)
      ⊢ iprop((owns (Ix := Unit) (Name := ℕ) (U := UU) (Lvl := ℕ) (c : Thread nD τ) m q Y -∗ WP c (k fun i => Y (r.emb i)) Q)
      -∗ WP c (.op (.load m r.toLoadRect hl) k) Q) := by
  unfold owns
  iintro ⟨%f, %hf, H⟩ Hk
  have hset : (m.access r).set ⊆ m.view.set := by
    intro i hi
    change i ∈ (m.view.slice r).set at hi
    rw [View.set_slice, Finset.mem_map] at hi
    obtain ⟨j, -, rfl⟩ := hi
    exact Finset.mem_map_of_mem _ (Finset.mem_univ _)
  have hval : (m.access r).read (Elt F) f = fun i => Y (r.emb i) := by
    funext i; rw [← hf]; rfl
  iapply (wp_load_rect 𝒱₀ (c : Thread nD τ) none Set.univ (m := m) (r := r) hset) $$ H
  iintro H
  rw [hval]
  iapply Hk
  iexists f
  isplitr; · ipureintro; exact hf
  iexact H

/-- A copy's start between pieces whose unit axes are dropped. -/
theorem wp_send_sq (c n : Dev nD) (t : ℕ) (x : X) (hx : ordL[t]? = some x) (hn : n = tgt x c)
    {α : Type} {Q : α → sProp 𝕄} {sh sh' : Shape} {ms mr : Memref sig .tc .vmem sh .bf16} {R : Rect sh} {hR hR' : ∀ a, R.stride a = 1} {hq hq' : R.shape.Squeezes sh'} {qs qr : DmaSem sig} {hsc h1 h2 h3}
    {k : PUnit → Prog (TpuEff nD τ sig (Elt F) Λ₀ .tc) α} (hqs : qs = sm (false, x)) (hqr : qr = sm (true, x))
    (hN : ((mr.slice R hR').squeeze sh' hq').view.dmaCredit = amt x)
    {Ys Yd : R.shape.Idx → Elt F .bf16}
    (hs : piece c ms R hR fullShare Ys ⊢ sendPay ab x c)
    (hd : piece n mr R hR' fullShare Ys ⊢ landed ab x c n) :
    iprop(records ab K ∗ OW c t ∗ (dutyTok ER (cell (false, x) c) 0 0 ∗ dutyTok ER (cell (true, x) (tgt x c)) 0 0)
        ∗ piece c ms R hR fullShare Ys ∗ piece n mr R hR' fullShare Yd)
      ⊢ iprop((OW c (t + 1) ∗ cred (tallyAt (cell (false, x) c) () (amt x)) -∗ WP c (k ⟨⟩) Q)
        -∗ WP c (.op (.enqueueDma ((ms.slice R hR).squeeze sh' hq)
          (.remote (Dev.tc n : Thread nD τ) (((mr.slice R hR').squeeze sh' hq' : Memref sig .tc .vmem sh' .bf16) : Memref sig (Dev.tc n : Thread nD τ).2.kind .vmem sh' .bf16) (.dma qs) hsc) (.dma qr) h1 h2 h3) k) Q) := by
  have e1 := owns_sq (F := F) c (κ := (c : Thread nD τ)) (ms.slice R hR) hq hq.numel_eq fullShare Ys
  have e2 := owns_sq (F := F) c (κ := (n : Thread nD τ)) (mr.slice R hR') hq' hq.numel_eq fullShare Ys
  have e3 := owns_sq (F := F) c (κ := (n : Thread nD τ)) (mr.slice R hR') hq' hq.numel_eq fullShare Yd
  have := wp_send (Q := Q) ab K c n t x hx hn (src := (ms.slice R hR).squeeze sh' hq) (dst := (mr.slice R hR').squeeze sh' hq') (hsc := hsc) (h1 := h1) (h2 := h2) (h3 := h3) (k := k) hqs hqr hN
    (BIBase.Entails.trans (Entails.of_eq e1) hs) (BIBase.Entails.trans (Entails.of_eq e2) hd) (Yd := fun j => Yd (Shape.reshapeEquiv hq.numel_eq j))
  rw [e1, e3] at this
  exact this

/-- A landing is waited for, and kept. -/
theorem waitC (c : Dev nD) (x : X) {t r n : ℕ} (hx : rordL[r]? = some x) (hlt : ix x < t) (hk : keep ab c x = recvPay ab x c)
    {α : Type} {Q : α → sProp 𝕄} {sh sh' : Shape} {e e' : EltTy} {sp sp' : Space} {q : DmaSem sig} {dst : Memref sig .tc sp sh e} {src : Memref sig .tc sp' sh' e'} {h1 h2}
    {k : PUnit → Prog (TpuEff nD τ sig (Elt F) Λ₀ .tc) α} (hq : q = sm (true, x)) (hN : src.view.dmaCredit = amt x)
    (hc : St ab K c t (r + 1) n ⊢ WP c (k ⟨⟩) Q) :
    St ab K c t r n ⊢ WP c (.op (.waitDma2 q dst src h1 h2) k) Q := by
  have ho := rop_open ab c hx
  unfold due at ho
  have hw := wp_wait ab K c t (true, x) (by rw [lv_recv]; omega) (Q := Q) (dst := dst) (src := src) (h1 := h1) (h2 := h2) (k := k) hq hN
  refine cut hc ?_
  unfold St
  iintro ⟨#HR, HO, Hab, Hc, Hr, Ht⟩
  ihave ⟨⟨H1, H2⟩, H3⟩ := ho $$ Hr
  iintro Hk
  iapply hw $$ [HO H1 H2]
  · isplitr; · iexact HR
    isplitl [HO]; · iexact HO
    isplitl [H1]; · iexact H1
    iexact H2
  iintro ⟨HO, Hp, Hz⟩
  ihave Hp := (Entails.of_eq (show pay ab (true, x) c = recvPay ab x c from payload_recv ab x c 0)) $$ Hp
  iapply Hk
  isplitr; · iexact HR
  isplitl [HO]; · iexact HO
  isplitl [Hab]; · iexact Hab
  isplitl [Hc]; · iexact Hc
  isplitr [Ht]
  · iapply H3
    unfold done; rw [hk]
    isplitl [Hp]; · iexact Hp
    iexact Hz
  · iexact Ht

/-- A block of the local product is computed into its place. -/
theorem dotC (c : Dev nD) (S a : Fin 4) {t r n : ℕ} (hn : 4 * a.val + S.val = n)
    {α : Type} {Q : α → sProp 𝕄} {oA oB oP : Fin 2 → ℕ} {hA hB hP hl1 hl2 hl3 hx hm}
    {pay : ((⟨2, ![384, 768]⟩ : Shape).Idx → Elt F .bf16) → ((⟨2, ![768, w S]⟩ : Shape).Idx → Elt F .bf16) → (⟨2, ![384, w S]⟩ : Shape).Idx → Elt F .f32}
    {k : PUnit → Prog (TpuEff nD τ sig (Elt F) Λ₀ .tc) α}
    (hoA : oA = ![384 * (bF S (q1 S c) a).val, 0]) (hoB : oB = ![0, c0 S]) (hoP : oP = ![384 * (bF S (q1 S c) a).val, c0 S])
    (hp : ∀ va vb, pay va vb = kdot S va vb)
    (hc : St ab K c t r (n + 1) ⊢ WP c (k ⟨⟩) Q) :
    St ab K c t r n ⊢ WP c (.op (.load aM (Rect.unit (s := S1536x768) oA ![384, 768] hA).toLoadRect hl1) fun va =>
      .op (.load bM (Rect.unit (s := S768x1536) oB ![768, w S] hB).toLoadRect hl2) fun vb =>
      .op (.load pM (Rect.unit (s := S1536x1536) oP ![384, w S] hP).toLoadRect hl3) fun _ =>
      .op (.store pM (Rect.unit (s := S1536x1536) oP ![384, w S] hP) (pay va vb) Finset.univ hx hm) k) Q := by
  subst hoA hoB hoP
  have ho := tile_open ab c S a hn
  refine cut hc ?_
  unfold St opnds
  iintro ⟨#HR, HO, ⟨HA, HB, Hz⟩, Hc, Hr, Ht⟩ Hk
  ihave ⟨⟨%Y, H1⟩, H2⟩ := ho $$ Ht
  iapply wp_load_owns $$ HA; iintro HA
  iapply wp_load_owns $$ HB; iintro HB
  iapply (wp_load_piece (R := Rp S (bF S (q1 S c) a)) id (fun _ => rfl)) $$ H1; iintro H1
  iapply (wp_store_piece (R := Rp S (bF S (q1 S c) a)) (hR := fun _ => rfl)) $$ H1; iintro H1
  iapply Hk
  isplitr; · iexact HR
  isplitl [HO]; · iexact HO
  isplitl [HA HB Hz]
  · isplitl [HA]; · iexact HA
    isplitl [HB]; · iexact HB
    iexact Hz
  isplitl [Hc]; · iexact Hc
  isplitl [Hr]; · iexact Hr
  iapply H2
  rw [hp]
  iexact H1

/-- A load from a block of the local product that has been computed. -/
theorem ldT (c : Dev nD) (S a : Fin 4) {t r n : ℕ} (hlt : 4 * a.val + S.val < n)
    {α : Type} {Q : α → sProp 𝕄} {rr : Rect S1536x1536} {hl} {k : (rr.shape.Idx → Elt F .f32) → Prog (TpuEff nD τ sig (Elt F) Λ₀ .tc) α}
    (x : rr.shape.Idx → (Rp S (bF S (q1 S c) a)).shape.Idx) (hx : ∀ i, (Rp S (bF S (q1 S c) a)).emb (x i) = rr.emb i)
    (hc : St ab K c t r n ⊢ WP c (k fun i => T ab S (bF S (q1 S c) a) c (x i)) Q) :
    St ab K c t r n ⊢ WP c (.op (.load pM rr.toLoadRect hl) k) Q := by
  have hr := tile_read ab c S a hlt
  refine cut hc ?_
  unfold St
  iintro ⟨#HR, HO, Hab, Hc, Hr, Ht⟩ Hk
  ihave ⟨H1, Ht⟩ := hr $$ Ht
  iapply (wp_load_piece x hx) $$ H1; iintro H1
  iapply Hk
  isplitr; · iexact HR
  isplitl [HO]; · iexact HO
  isplitl [Hab]; · iexact Hab
  isplitl [Hc]; · iexact Hc
  isplitl [Hr]; · iexact Hr
  iapply Ht; iexact H1

/-- The whole block, -/
theorem ldP (c : Dev nD) (S a : Fin 4) {t r n : ℕ} (hlt : 4 * a.val + S.val < n)
    {α : Type} {Q : α → sProp 𝕄} {o : Fin 2 → ℕ} {ho hl} {k : ((⟨2, ![384, w S]⟩ : Shape).Idx → Elt F .f32) → Prog (TpuEff nD τ sig (Elt F) Λ₀ .tc) α}
    (h : o = ![384 * (bF S (q1 S c) a).val, c0 S])
    (hc : St ab K c t r n ⊢ WP c (k (T ab S (bF S (q1 S c) a) c)) Q) :
    St ab K c t r n ⊢ WP c (.op (.load pM (Rect.unit (s := S1536x1536) o ![384, w S] ho).toLoadRect hl) k) Q := by
  subst h
  exact ldT ab K c S a hlt id (fun _ => rfl) hc

/-- and sub-block `b` of one. -/
theorem ldQ (c : Dev nD) (S a b : Fin 4) {t r n : ℕ} (hlt : 4 * a.val + S.val < n)
    {α : Type} {Q : α → sProp 𝕄} {o : Fin 2 → ℕ} {ho hl} {k : ((⟨2, ![96, w S]⟩ : Shape).Idx → Elt F .f32) → Prog (TpuEff nD τ sig (Elt F) Λ₀ .tc) α}
    (h : o = ![384 * (bF S (q1 S c) a).val + 96 * (bF S (q2 S c) b).val, c0 S])
    (hc : St ab K c t r n ⊢ WP c (k fun i => T ab S (bF S (q1 S c) a) c (sub (bF S (q2 S c) b) i)) Q) :
    St ab K c t r n ⊢ WP c (.op (.load pM (Rect.unit (s := S1536x1536) o ![96, w S] ho).toLoadRect hl) k) Q := by
  subst h
  refine ldT ab K c S a hlt (fun i => sub (bF S (q2 S c) b) i) (fun i => ?_) hc
  funext e
  refine Fin.ext ?_
  rw [Rect.emb_apply, Rect.emb_apply]
  fin_cases e
  · show 384 * _ + 1 * (96 * _ + (i 0).val) = 384 * _ + 96 * _ + 1 * (i 0).val
    exact (by intros; omega : ∀ x y z : ℕ, 384 * x + 1 * (96 * y + z) = 384 * x + 96 * y + 1 * z) _ _ _
  · rfl

/-- A load from a landing that is kept. -/
theorem ldR (c : Dev nD) (x : X) {t r n : ℕ} (hlt : rix x < r) (hk : keep ab c x = recvPay ab x c)
    {α : Type} {Q : α → sProp 𝕄} {sh : Shape} {m : Memref sig .tc .vmem sh .bf16} {R rr : Rect sh} {hR hl} {Y : R.shape.Idx → Elt F .bf16} {k : (rr.shape.Idx → Elt F .bf16) → Prog (TpuEff nD τ sig (Elt F) Λ₀ .tc) α}
    (hp : recvPay ab x c = piece c m R hR fullShare Y)
    (f : rr.shape.Idx → R.shape.Idx) (hf : ∀ i, R.emb (f i) = rr.emb i)
    (hc : St ab K c t r n ⊢ WP c (k fun i => Y (f i)) Q) :
    St ab K c t r n ⊢ WP c (.op (.load m rr.toLoadRect hl) k) Q := by
  have hr := rop_read ab c x hlt hk
  rw [hp] at hr
  refine cut hc ?_
  unfold St
  iintro ⟨#HR, HO, Hab, Hc, Hr, Ht⟩ Hk
  ihave ⟨H1, Hr⟩ := hr $$ Hr
  iapply (wp_load_piece f hf) $$ H1; iintro H1
  iapply Hk
  isplitr; · iexact HR
  isplitl [HO]; · iexact HO
  isplitl [Hab]; · iexact Hab
  isplitl [Hc]; · iexact Hc
  isplitl [H1 Hr]
  · iapply Hr; iexact H1
  iexact Ht

theorem frm_1 : ∀ (S : Fin 4) (c : Dev nD) (j : Fin 2), frm (S, .d1 j) c = p1 S c := by decide +kernel
theorem frm_z : ∀ (S : Fin 4) (c : Dev nD) (k : Fin 4), frm (S, .z k) c = p1 S c := by decide +kernel
theorem frm_2 : ∀ (S : Fin 4) (c : Dev nD) (s : Fin 3), frm (S, .d2 s) c = p2 S c := by decide +kernel

/-- The first ring's landing 0, -/
theorem ldA (c : Dev nD) (S : Fin 4) {t r n : ℕ} (hlt : rix (S, .d1 0) < r)
    {α : Type} {Q : α → sProp 𝕄} {o : Fin 3 → ℕ} {ho hl} {k : ((⟨3, ![1, 384, w S]⟩ : Shape).Idx → Elt F .bf16) → Prog (TpuEff nD τ sig (Elt F) Λ₀ .tc) α}
    (h : o = ![0, 0, 0])
    (hc : St ab K c t r n ⊢ WP c (k fun i => V1 ab S 0 (p1 S c) (rs i)) Q) :
    St ab K c t r n ⊢ WP c (.op (.load (p1r S) (Rect.unit (s := Sh1 S) o ![1, 384, w S] ho).toLoadRect hl) k) Q := by
  subst h
  have hf := frm_1 S c 0
  refine ldR ab K c (S, .d1 0) hlt rfl (R := R1 S 0) (hR := fun _ => rfl) rfl id (fun _ => rfl) ?_
  rw [hf]; exact hc

/-- sub-block `b` of its landing 1, -/
theorem ldB (c : Dev nD) (S k' : Fin 4) {t r n : ℕ} (hlt : rix (S, .d1 1) < r)
    {α : Type} {Q : α → sProp 𝕄} {o : Fin 3 → ℕ} {ho hl} {k : ((⟨3, ![1, 96, w S]⟩ : Shape).Idx → Elt F .bf16) → Prog (TpuEff nD τ sig (Elt F) Λ₀ .tc) α}
    (h : o = ![1, 96 * (bF S (q2 S c) k').val, 0])
    (hc : St ab K c t r n ⊢ WP c (k fun i => V1 ab S 1 (p1 S c) (sub (bF S (q2 S c) k') (rs i))) Q) :
    St ab K c t r n ⊢ WP c (.op (.load (p1r S) (Rect.unit (s := Sh1 S) o ![1, 96, w S] ho).toLoadRect hl) k) Q := by
  subst h
  have hf := frm_1 S c 1
  refine ldR ab K c (S, .d1 1) hlt rfl (R := R1 S 1) (hR := fun _ => rfl) rfl (fun i => sr (sub (bF S (q2 S c) k') (rs i))) (fun i => ?_) ?_
  · rw [sr_val, rs_val]
    funext a
    refine Fin.ext (((R1 S 1).emb_apply _ a).trans (Eq.trans ?_ (Rect.emb_apply _ i a).symm))
    have h0 := (i 0).isLt
    change (i 0).val < 1 at h0
    fin_cases a
    · show 1 + 1 * 0 = 1 + 1 * (i 0).val
      omega
    · show 0 + 1 * (96 * _ + (i 1).val) = 96 * _ + 1 * (i 1).val
      exact (by intros; omega : ∀ x y : ℕ, 0 + 1 * (96 * x + y) = 96 * x + 1 * y) _ _
    · rfl
  · simp only [rs_sr]
    rw [hf]; exact hc

/-- sub-block `k` of its landing 2, -/
theorem ldZ (c : Dev nD) (S k' : Fin 4) {t r n : ℕ} (hlt : rix (S, .z k') < r)
    {α : Type} {Q : α → sProp 𝕄} {o : Fin 3 → ℕ} {ho hl} {k : ((⟨3, ![1, 96, w S]⟩ : Shape).Idx → Elt F .bf16) → Prog (TpuEff nD τ sig (Elt F) Λ₀ .tc) α}
    (h : o = ![2, 96 * k'.val, 0])
    (hc : St ab K c t r n ⊢ WP c (k fun i => V1 ab S 2 (p1 S c) (sub (bF S (q2 S c) k') (rs i))) Q) :
    St ab K c t r n ⊢ WP c (.op (.load (p1r S) (Rect.unit (s := Sh1 S) o ![1, 96, w S] ho).toLoadRect hl) k) Q := by
  subst h
  have hf := frm_z S c k'
  have hq : q2 S (p1 S c) = q2 S c := q2_p1 S c
  refine ldR ab K c (S, .z k') hlt rfl (R := Rz S k') (hR := fun _ => rfl) rfl id (fun _ => rfl) ?_
  rw [hf, hq]; exact hc

/-- the second ring's landing `s`. -/
theorem ldD (c : Dev nD) (S : Fin 4) (s : Fin 3) {t r n : ℕ} (hlt : rix (S, .d2 s) < r)
    {α : Type} {Q : α → sProp 𝕄} {o : Fin 3 → ℕ} {ho hl} {k : ((⟨3, ![1, 96, w S]⟩ : Shape).Idx → Elt F .bf16) → Prog (TpuEff nD τ sig (Elt F) Λ₀ .tc) α}
    (h : o = ![s.val, 0, 0])
    (hc : St ab K c t r n ⊢ WP c (k fun i => V2 ab S s (p2 S c) (rs i)) Q) :
    St ab K c t r n ⊢ WP c (.op (.load (p2r S) (Rect.unit (s := Sh2 S) o ![1, 96, w S] ho).toLoadRect hl) k) Q := by
  subst h
  have hf := frm_2 S c s
  refine ldR ab K c (S, .d2 s) hlt rfl (R := R2 S s) (hR := fun _ => rfl) rfl id (fun _ => rfl) ?_
  rw [hf]; exact hc

/-- A place is filled and sent. -/
theorem pushX (c n' : Dev nD) (x : X) {t r n : ℕ} (hx : ordL[t]? = some x) (hn : n' = tgt x c)
    {α : Type} {Q : α → sProp 𝕄} {sh sh' : Shape} {ms mr : Memref sig .tc .vmem sh .bf16} {R : Rect sh} {hR hR' : ∀ a, R.stride a = 1} {hl hm1 hm2 hq hq'}
    {wv Ys : R.shape.Idx → Elt F .bf16} {qs qr : DmaSem sig} {hsc h1 h2 h3}
    {k : PUnit → Prog (TpuEff nD τ sig (Elt F) Λ₀ .tc) α} (hqs : qs = sm (false, x)) (hqr : qr = sm (true, x))
    (hN : ((mr.slice R hR').squeeze sh' hq').view.dmaCredit = amt x)
    (hsrc : src (F := F) x c = iprop(∃ Y, piece c ms R hR fullShare Y))
    (hslot : slot (F := F) x c (tgt x c) = iprop(∃ Y, piece (tgt x c) mr R hR' fullShare Y))
    (hs : sendPay ab x c = piece c ms R hR fullShare Ys)
    (hd : landed ab x c (tgt x c) = piece (tgt x c) mr R hR' fullShare Ys) (hw : wv = Ys)
    (hc : St ab K c (t + 1) r n ⊢ WP c (k ⟨⟩) Q) :
    St ab K c t r n ⊢ WP c (.op (.load ms R.toLoadRect hl) fun _ =>
      .op (.store ms R wv Finset.univ hm1 hm2) fun _ =>
      .op (.enqueueDma ((ms.slice R hR).squeeze sh' hq)
          (.remote (Dev.tc n' : Thread nD τ) (((mr.slice R hR').squeeze sh' hq' : Memref sig .tc .vmem sh' .bf16) : Memref sig (Dev.tc n' : Thread nD τ).2.kind .vmem sh' .bf16) (.dma qs) hsc) (.dma qr) h1 h2 h3) k) Q := by
  subst hn hw
  have ho := cop_open (F := F) c hx
  unfold ticket at ho
  rw [hsrc, hslot] at ho
  have hs := fun Yd => wp_send_sq ab K c (tgt x c) t x hx rfl (Q := Q) (ms := ms) (mr := mr) (R := R) (hR := hR) (hR' := hR') (sh' := sh') (hq := hq) (hq' := hq') (hsc := hsc) (h1 := h1) (h2 := h2) (h3 := h3) (k := k) hqs hqr hN
    (Ys := wv) (Entails.of_eq hs.symm) (Entails.of_eq hd.symm) (Yd := Yd)
  refine cut hc ?_
  unfold St
  iintro ⟨#HR, HO, Hab, Hc, Hr, Ht⟩ Hk
  ihave ⟨⟨Htok, ⟨%Yd, Hd⟩, ⟨%Y, Hs⟩, Hat⟩, Hc⟩ := ho $$ Hc
  iapply (wp_load_piece (R := R) id (fun _ => rfl)) $$ Hs; iintro Hs
  iapply (wp_store_piece (R := R) (hR := hR)) $$ Hs; iintro Hs
  iapply (hs Yd) $$ [HO Htok Hs Hd]
  · isplitr; · iexact HR
    isplitl [HO]; · iexact HO
    isplitl [Htok]; · iexact Htok
    isplitl [Hs]; · iexact Hs
    iexact Hd
  iintro ⟨HO, Hcr⟩
  iapply Hk
  isplitr; · iexact HR
  isplitl [HO]; · iexact HO
  isplitl [Hab]; · iexact Hab
  isplitl [Hc Hcr Hat]
  · iapply Hc; unfold sent
    isplitl [Hcr]; · iexact Hcr
    iexact Hat
  isplitl [Hr]; · iexact Hr
  iexact Ht

/-- The first ring, step 0: a block of the local product is sent, -/
theorem psA (c n' : Dev nD) (S : Fin 4) {t r n : ℕ} (hx : ordL[t]? = some (S, .d1 0)) (hn : n' = tgt (S, .d1 0) c)
    {α : Type} {Q : α → sProp 𝕄} {o : Fin 3 → ℕ} {hS hl hm1 hm2} {wv : (⟨3, ![1, 384, w S]⟩ : Shape).Idx → Elt F .bf16}
    {sh' : Shape} {hR hR' : ∀ a, (Rect.unit (s := Sh1 S) o ![1, 384, w S] hS).stride a = 1} {hq hq'} {qs qr : DmaSem sig} {hsc h1 h2 h3}
    {k : PUnit → Prog (TpuEff nD τ sig (Elt F) Λ₀ .tc) α} (hqs : qs = sm (false, (S, .d1 0))) (hqr : qr = sm (true, (S, .d1 0)))
    (hN : (((p1r S).slice (Rect.unit (s := Sh1 S) o ![1, 384, w S] hS) hR').squeeze sh' hq').view.dmaCredit = amt (S, .d1 0))
    (h : o = ![0, 0, 0])
    (hw : ∀ j, wv j = fcut (T ab S (bF S (q1 S c) 0) c (rs j)))
    (hc : St ab K c (t + 1) r n ⊢ WP c (k ⟨⟩) Q) :
    St ab K c t r n ⊢ WP c (.op (.load (p1s S) (Rect.unit (s := Sh1 S) o ![1, 384, w S] hS).toLoadRect hl) fun _ =>
      .op (.store (p1s S) (Rect.unit (s := Sh1 S) o ![1, 384, w S] hS) wv Finset.univ hm1 hm2) fun _ =>
      .op (.enqueueDma (((p1s S).slice (Rect.unit (s := Sh1 S) o ![1, 384, w S] hS) hR).squeeze sh' hq)
          (.remote (Dev.tc n' : Thread nD τ) ((((p1r S).slice (Rect.unit (s := Sh1 S) o ![1, 384, w S] hS) hR').squeeze sh' hq' : Memref sig .tc .vmem sh' .bf16) : Memref sig (Dev.tc n' : Thread nD τ).2.kind .vmem sh' .bf16) (.dma qs) hsc) (.dma qr) h1 h2 h3) k) Q := by
  subst h
  exact pushX ab K c n' (S, .d1 0) hx hn (hR := hR) (hR' := hR') hqs hqr hN rfl rfl rfl rfl (by
    funext j; refine (hw j).trans ?_
    simp only [sr_rs, rs_sr]; rfl) hc

/-- step 1: the landing is added to the next block, and the sum sent, -/
theorem psB (c n' : Dev nD) (S : Fin 4) {t r n : ℕ} (hx : ordL[t]? = some (S, .d1 1)) (hn : n' = tgt (S, .d1 1) c)
    {α : Type} {Q : α → sProp 𝕄} {o : Fin 3 → ℕ} {hS hl hm1 hm2} {wv : (⟨3, ![1, 384, w S]⟩ : Shape).Idx → Elt F .bf16}
    {sh' : Shape} {hR hR' : ∀ a, (Rect.unit (s := Sh1 S) o ![1, 384, w S] hS).stride a = 1} {hq hq'} {qs qr : DmaSem sig} {hsc h1 h2 h3}
    {k : PUnit → Prog (TpuEff nD τ sig (Elt F) Λ₀ .tc) α} (hqs : qs = sm (false, (S, .d1 1))) (hqr : qr = sm (true, (S, .d1 1)))
    (hN : (((p1r S).slice (Rect.unit (s := Sh1 S) o ![1, 384, w S] hS) hR').squeeze sh' hq').view.dmaCredit = amt (S, .d1 1))
    (h : o = ![1, 0, 0])
    (hw : ∀ j, wv j = fcut (fadd (T ab S (bF S (q1 S c) 1) c (rs j)) (fext (V1 ab S 0 (p1 S c) (rs (sr (rs j)))))))
    (hc : St ab K c (t + 1) r n ⊢ WP c (k ⟨⟩) Q) :
    St ab K c t r n ⊢ WP c (.op (.load (p1s S) (Rect.unit (s := Sh1 S) o ![1, 384, w S] hS).toLoadRect hl) fun _ =>
      .op (.store (p1s S) (Rect.unit (s := Sh1 S) o ![1, 384, w S] hS) wv Finset.univ hm1 hm2) fun _ =>
      .op (.enqueueDma (((p1s S).slice (Rect.unit (s := Sh1 S) o ![1, 384, w S] hS) hR).squeeze sh' hq)
          (.remote (Dev.tc n' : Thread nD τ) ((((p1r S).slice (Rect.unit (s := Sh1 S) o ![1, 384, w S] hS) hR').squeeze sh' hq' : Memref sig .tc .vmem sh' .bf16) : Memref sig (Dev.tc n' : Thread nD τ).2.kind .vmem sh' .bf16) (.dma qs) hsc) (.dma qr) h1 h2 h3) k) Q := by
  subst h
  exact pushX ab K c n' (S, .d1 1) hx hn (hR := hR) (hR' := hR') hqs hqr hN rfl rfl rfl rfl (by
    funext j; refine (hw j).trans ?_
    simp only [sr_rs, rs_sr]; rfl) hc

/-- step 2, by sub-blocks. -/
theorem psZ (c n' : Dev nD) (S : Fin 4) (k' : Fin 4) {t r n : ℕ} (hx : ordL[t]? = some (S, .z k')) (hn : n' = tgt (S, .z k') c)
    {α : Type} {Q : α → sProp 𝕄} {o : Fin 3 → ℕ} {hS hl hm1 hm2} {wv : (⟨3, ![1, 96, w S]⟩ : Shape).Idx → Elt F .bf16}
    {sh' : Shape} {hR hR' : ∀ a, (Rect.unit (s := Sh1 S) o ![1, 96, w S] hS).stride a = 1} {hq hq'} {qs qr : DmaSem sig} {hsc h1 h2 h3}
    {k : PUnit → Prog (TpuEff nD τ sig (Elt F) Λ₀ .tc) α} (hqs : qs = sm (false, (S, .z k'))) (hqr : qr = sm (true, (S, .z k')))
    (hN : (((p1r S).slice (Rect.unit (s := Sh1 S) o ![1, 96, w S] hS) hR').squeeze sh' hq').view.dmaCredit = amt (S, .z k'))
    (h : o = ![2, 96 * k'.val, 0])
    (hw : ∀ j, wv j = fcut (fadd (T ab S (bF S (q1 S c) 2) c (sub (bF S (q2 S c) k') (rs j))) (fext (V1 ab S 1 (p1 S c) (sub (bF S (q2 S c) k') (rs (sr (rs j))))))))
    (hc : St ab K c (t + 1) r n ⊢ WP c (k ⟨⟩) Q) :
    St ab K c t r n ⊢ WP c (.op (.load (p1s S) (Rect.unit (s := Sh1 S) o ![1, 96, w S] hS).toLoadRect hl) fun _ =>
      .op (.store (p1s S) (Rect.unit (s := Sh1 S) o ![1, 96, w S] hS) wv Finset.univ hm1 hm2) fun _ =>
      .op (.enqueueDma (((p1s S).slice (Rect.unit (s := Sh1 S) o ![1, 96, w S] hS) hR).squeeze sh' hq)
          (.remote (Dev.tc n' : Thread nD τ) ((((p1r S).slice (Rect.unit (s := Sh1 S) o ![1, 96, w S] hS) hR').squeeze sh' hq' : Memref sig .tc .vmem sh' .bf16) : Memref sig (Dev.tc n' : Thread nD τ).2.kind .vmem sh' .bf16) (.dma qs) hsc) (.dma qr) h1 h2 h3) k) Q := by
  subst h
  exact pushX ab K c n' (S, .z k') hx hn (hR := hR) (hR' := hR') hqs hqr hN rfl rfl rfl rfl (by
    funext j; refine (hw j).trans ?_
    simp only [sr_rs, rs_sr]; rfl) hc

/-- The second ring, step 0: the first ring's sum of a sub-block is sent, -/
theorem psD (c n' : Dev nD) (S : Fin 4) {t r n : ℕ} (hx : ordL[t]? = some (S, .d2 0)) (hn : n' = tgt (S, .d2 0) c)
    {α : Type} {Q : α → sProp 𝕄} {o : Fin 3 → ℕ} {hS hl hm1 hm2} {wv : (⟨3, ![1, 96, w S]⟩ : Shape).Idx → Elt F .bf16}
    {sh' : Shape} {hR hR' : ∀ a, (Rect.unit (s := Sh2 S) o ![1, 96, w S] hS).stride a = 1} {hq hq'} {qs qr : DmaSem sig} {hsc h1 h2 h3}
    {k : PUnit → Prog (TpuEff nD τ sig (Elt F) Λ₀ .tc) α} (hqs : qs = sm (false, (S, .d2 0))) (hqr : qr = sm (true, (S, .d2 0)))
    (hN : (((p2r S).slice (Rect.unit (s := Sh2 S) o ![1, 96, w S] hS) hR').squeeze sh' hq').view.dmaCredit = amt (S, .d2 0))
    (h : o = ![0, 0, 0])
    (hw : ∀ j, wv j = fcut (fadd (T ab S (bF S (q1 S c) 3) c (sub (bF S (q2 S c) 0) (rs j))) (fext (V1 ab S 2 (p1 S c) (sub (bF S (q2 S c) 0) (rs (sr (rs j))))))))
    (hc : St ab K c (t + 1) r n ⊢ WP c (k ⟨⟩) Q) :
    St ab K c t r n ⊢ WP c (.op (.load (p2s S) (Rect.unit (s := Sh2 S) o ![1, 96, w S] hS).toLoadRect hl) fun _ =>
      .op (.store (p2s S) (Rect.unit (s := Sh2 S) o ![1, 96, w S] hS) wv Finset.univ hm1 hm2) fun _ =>
      .op (.enqueueDma (((p2s S).slice (Rect.unit (s := Sh2 S) o ![1, 96, w S] hS) hR).squeeze sh' hq)
          (.remote (Dev.tc n' : Thread nD τ) ((((p2r S).slice (Rect.unit (s := Sh2 S) o ![1, 96, w S] hS) hR').squeeze sh' hq' : Memref sig .tc .vmem sh' .bf16) : Memref sig (Dev.tc n' : Thread nD τ).2.kind .vmem sh' .bf16) (.dma qs) hsc) (.dma qr) h1 h2 h3) k) Q := by
  subst h
  exact pushX ab K c n' (S, .d2 0) hx hn (hR := hR) (hR' := hR') hqs hqr hN rfl rfl rfl rfl (by
    funext j; refine (hw j).trans ?_
    simp only [sr_rs, rs_sr]; rfl) hc

/-- and a later step: the landing is added to the next one. -/
theorem psE (c n' : Dev nD) (S : Fin 4) (s : Fin 2) {t r n : ℕ} (hx : ordL[t]? = some (S, .d2 s.succ)) (hn : n' = tgt (S, .d2 s.succ) c)
    {α : Type} {Q : α → sProp 𝕄} {o : Fin 3 → ℕ} {hS hl hm1 hm2} {wv : (⟨3, ![1, 96, w S]⟩ : Shape).Idx → Elt F .bf16}
    {sh' : Shape} {hR hR' : ∀ a, (Rect.unit (s := Sh2 S) o ![1, 96, w S] hS).stride a = 1} {hq hq'} {qs qr : DmaSem sig} {hsc h1 h2 h3}
    {k : PUnit → Prog (TpuEff nD τ sig (Elt F) Λ₀ .tc) α} (hqs : qs = sm (false, (S, .d2 s.succ))) (hqr : qr = sm (true, (S, .d2 s.succ)))
    (hN : (((p2r S).slice (Rect.unit (s := Sh2 S) o ![1, 96, w S] hS) hR').squeeze sh' hq').view.dmaCredit = amt (S, .d2 s.succ))
    (h : o = ![s.val + 1, 0, 0])
    (hw : ∀ j, wv j = fcut (fadd (fadd (T ab S (bF S (q1 S c) 3) c (sub (bF S (q2 S c) (s.val + 1)) (rs j))) (fext (V1 ab S 2 (p1 S c) (sub (bF S (q2 S c) (s.val + 1)) (rs (sr (rs j))))))) (fext (V2 ab S s (p2 S c) (rs (sr (rs j)))))))
    (hc : St ab K c (t + 1) r n ⊢ WP c (k ⟨⟩) Q) :
    St ab K c t r n ⊢ WP c (.op (.load (p2s S) (Rect.unit (s := Sh2 S) o ![1, 96, w S] hS).toLoadRect hl) fun _ =>
      .op (.store (p2s S) (Rect.unit (s := Sh2 S) o ![1, 96, w S] hS) wv Finset.univ hm1 hm2) fun _ =>
      .op (.enqueueDma (((p2s S).slice (Rect.unit (s := Sh2 S) o ![1, 96, w S] hS) hR).squeeze sh' hq)
          (.remote (Dev.tc n' : Thread nD τ) ((((p2r S).slice (Rect.unit (s := Sh2 S) o ![1, 96, w S] hS) hR').squeeze sh' hq' : Memref sig .tc .vmem sh' .bf16) : Memref sig (Dev.tc n' : Thread nD τ).2.kind .vmem sh' .bf16) (.dma qs) hsc) (.dma qr) h1 h2 h3) k) Q := by
  subst h
  exact pushX ab K c n' (S, .d2 s.succ) hx hn (hR := hR) (hR' := hR') hqs hqr hN rfl rfl rfl rfl (by
    funext j; refine (hw j).trans ?_
    simp only [sr_rs, rs_sr]; rfl) hc
end

end Cert.AllReduce

end
-- ==== Proof.Blocks.lean ====
module

public import proofs.«01_k».proof.Proof.Groups

/-!
# The groups that move finished sub-blocks

A device stores the sub-block it finishes and sends it round both rings; a landed sub-block is sent on, the same place
being the source. At the end every source's return is waited for.
-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

section
variable (ab : Inp F) (K : Dev nD × Option Y → ℕ)

/-- A finished sub-block of the result on device `c`. -/
def blk (c : Dev nD) (q : PosShare TreeShare) (S a b : Fin 4) : sProp 𝕄 :=
  piece c oM (Ro S a b) (fun _ => rfl) q (Out ab S a b)

theorem blk_split (c : Dev nD) (S a b : Fin 4) : blk ab c fullShare S a b ⊢ iprop(blk ab c fullShare.left S a b ∗ blk ab c fullShare.right S a b) := by
  unfold blk piece owns
  iintro ⟨%f, %hf, H⟩
  ihave ⟨H1, H2⟩ := ((pointsTo_share (PosShare.mem_left_op_right fullShare)).1) $$ H
  isplitl [H1]
  · iexists f; isplitr; · ipureintro; exact hf
    iexact H1
  · iexists f; isplitr; · ipureintro; exact hf
    iexact H2

/-! ## The copies of finished sub-blocks, by the sub-block -/

theorem send_d3 (S : Fin 4) (c : Dev nD) (j : Fin 3) : sendPay ab (S, .d3 j) c = blk ab c fullShare.left S (bF S (q1 S c) 3) (bF S (q2 S c) (j.val + 3)) := rfl
theorem send_d4 (S : Fin 4) (c : Dev nD) (i : Fin 12) : sendPay ab (S, .d4 i) c
    = blk ab c (if i.val < 3 then fullShare.right else fullShare) S (bF S (q1 S c) (i.val / 4 + 3)) (bF S (q2 S c) (i.val % 4 + 3)) := rfl

/-- The place of a sub-block on device `c`, at any contents. -/
def spot (c : Dev nD) (S a b : Fin 4) : sProp 𝕄 := iprop(∃ Y, piece (F := F) c oM (Ro S a b) (fun _ => rfl) fullShare Y)
theorem landed_d4 (S : Fin 4) (f c : Dev nD) (i : Fin 12) : landed ab (S, .d4 i) f c = blk ab c fullShare S (bF S (q1 S f) (i.val / 4 + 3)) (bF S (q2 S f) (i.val % 4 + 3)) := rfl
omit [FloatOps F] in
theorem slot_d4 (S : Fin 4) (f c : Dev nD) (i : Fin 12) : slot (F := F) (S, .d4 i) f c = spot c S (bF S (q1 S f) (i.val / 4 + 3)) (bF S (q2 S f) (i.val % 4 + 3)) := rfl

theorem idx_d3 : ∀ (S : Fin 4) (c : Dev nD) (j : Fin 3), bF S (q1 S (frm (S, .d3 j) c)) 3 = bF S (q1 S c) 3
    ∧ bF S (q2 S (frm (S, .d3 j) c)) (j.val + 3) = bF S (q2 S c) (j.val + 4) := by decide +kernel
theorem idx_d4 : ∀ (S : Fin 4) (c : Dev nD) (i : Fin 12), bF S (q1 S (frm (S, .d4 i) c)) (i.val / 4 + 3) = bF S (q1 S c) (i.val / 4 + 4)
    ∧ bF S (q2 S (frm (S, .d4 i) c)) (i.val % 4 + 3) = bF S (q2 S c) (i.val % 4 + 3) := by decide +kernel

theorem recv_d3 (S : Fin 4) (c : Dev nD) (j : Fin 3) : recvPay ab (S, .d3 j) c = blk ab c fullShare S (bF S (q1 S c) 3) (bF S (q2 S c) (j.val + 4)) := by
  obtain ⟨h1, h2⟩ := idx_d3 S c j
  rw [← h1, ← h2]; rfl
theorem recv_d4 (S : Fin 4) (c : Dev nD) (i : Fin 12) : recvPay ab (S, .d4 i) c = blk ab c fullShare S (bF S (q1 S c) (i.val / 4 + 4)) (bF S (q2 S c) (i.val % 4 + 3)) := by
  obtain ⟨h1, h2⟩ := idx_d4 S c i
  rw [← h1, ← h2]; rfl

/-- The start of a copy of a finished sub-block. -/
theorem wp_send_blk (c : Dev nD) (t : ℕ) (x : X) (hx : ordL[t]? = some x) (S a b : Fin 4) (q : PosShare TreeShare)
    {α : Type} {Q : α → sProp 𝕄}
    {n : Dev nD} {o o' : Fin 2 → ℕ} {hb hb'} {hR : ∀ a, (Rect.unit (s := S1536x1536) o ![96, w S] hb).stride a = 1} {hR' : ∀ a, (Rect.unit (s := S1536x1536) o' ![96, w S] hb').stride a = 1} {qs qr : DmaSem sig} {hsc h1 h2 h3}
    (hn : n = tgt x c) (hqs : qs = sm (false, x)) (hqr : qr = sm (true, x))
    (hN : (oM.slice (Rect.unit (s := S1536x1536) o' ![96, w S] hb') hR').view.dmaCredit = amt x)
    (ho : o = ![384 * (a).val + 96 * (b).val, c0 S]) (ho' : o' = ![384 * (a).val + 96 * (b).val, c0 S])
    {k : PUnit → Prog (TpuEff nD τ sig (Elt F) Λ₀ .tc) α}
    (hs : sendPay ab x c = blk ab c q S a b) (hd : landed ab x c (tgt x c) = blk ab (tgt x c) fullShare S a b)
    (hsl : slot (F := F) x c (tgt x c) = iprop(∃ Y, piece (tgt x c) oM (Ro S a b) (fun _ => rfl) fullShare Y)) :
    iprop(records ab K ∗ OW c t ∗ (dutyTok ER (cell (false, x) c) 0 0 ∗ dutyTok ER (cell (true, x) (tgt x c)) 0 0)
        ∗ slot x c (tgt x c) ∗ atPos ER (cell (false, x) c) 0 ∅ 0 ∗ blk ab c q S a b)
      ⊢ iprop((OW c (t + 1) ∗ sent c x -∗ WP c (k ⟨⟩) Q)
        -∗ WP c (.op (.enqueueDma (oM.slice (Rect.unit (s := S1536x1536) o ![96, w S] hb) hR)
          (.remote (Dev.tc n : Thread nD τ) ((oM.slice (Rect.unit (s := S1536x1536) o' ![96, w S] hb') hR' : Memref sig .tc .vmem ⟨2, ![96, w S]⟩ .bf16) : Memref sig (Dev.tc n : Thread nD τ).2.kind .vmem ⟨2, ![96, w S]⟩ .bf16) (.dma qs) hsc) (.dma qr) h1 h2 h3) k) Q) := by
  subst hn ho ho'
  have hw := fun Yd => wp_send ab K c (tgt x c) t x hx rfl (Q := Q) (src := oM.slice (Ro S a b) hR) (dst := oM.slice (Ro S a b) hR') (hsc := hsc) (h1 := h1) (h2 := h2) (h3 := h3) (k := k) hqs hqr hN
    (q := q) (Ys := Out ab S a b) (Entails.of_eq hs.symm) (Entails.of_eq hd.symm) (Yd := Yd)
  rw [hsl]
  unfold blk
  iintro ⟨#HR, HO, Htok, ⟨%Yd, Hd⟩, Hat, Hs⟩ Hk
  iapply (hw Yd) $$ [HO Htok Hs Hd]
  · isplitr; · iexact HR
    isplitl [HO]; · iexact HO
    isplitl [Htok]; · iexact Htok
    isplitl [Hs]; · iexact Hs
    iexact Hd
  iintro ⟨HO, Hcr⟩
  iapply Hk
  isplitl [HO]; · iexact HO
  unfold sent
  isplitl [Hcr]; · iexact Hcr
  iexact Hat

/-- The same, from the copies' state: the source's place need not be filled first. -/
theorem wp_send_cop (c : Dev nD) (t : ℕ) (x : X) (hx : ordL[t]? = some x) (S a b : Fin 4) (q : PosShare TreeShare)
    {α : Type} {Q : α → sProp 𝕄}
    {n : Dev nD} {o o' : Fin 2 → ℕ} {hb hb'} {hR : ∀ a, (Rect.unit (s := S1536x1536) o ![96, w S] hb).stride a = 1} {hR' : ∀ a, (Rect.unit (s := S1536x1536) o' ![96, w S] hb').stride a = 1} {qs qr : DmaSem sig} {hsc h1 h2 h3}
    (hn : n = tgt x c) (hqs : qs = sm (false, x)) (hqr : qr = sm (true, x))
    (hN : (oM.slice (Rect.unit (s := S1536x1536) o' ![96, w S] hb') hR').view.dmaCredit = amt x)
    (ho : o = ![384 * (a).val + 96 * (b).val, c0 S]) (ho' : o' = ![384 * (a).val + 96 * (b).val, c0 S])
    {k : PUnit → Prog (TpuEff nD τ sig (Elt F) Λ₀ .tc) α}
    (hs : sendPay ab x c = blk ab c q S a b) (hd : landed ab x c (tgt x c) = blk ab (tgt x c) fullShare S a b)
    (hsl : slot (F := F) x c (tgt x c) = iprop(∃ Y, piece (tgt x c) oM (Ro S a b) (fun _ => rfl) fullShare Y)) (he : src (F := F) x c = iprop(emp)) :
    iprop(records ab K ∗ OW c t ∗ bigSep Finset.univ (cop (F := F) c t) ∗ blk ab c q S a b)
      ⊢ iprop((OW c (t + 1) ∗ bigSep Finset.univ (cop (F := F) c (t + 1)) -∗ WP c (k ⟨⟩) Q)
        -∗ WP c (.op (.enqueueDma (oM.slice (Rect.unit (s := S1536x1536) o ![96, w S] hb) hR)
          (.remote (Dev.tc n : Thread nD τ) ((oM.slice (Rect.unit (s := S1536x1536) o' ![96, w S] hb') hR' : Memref sig .tc .vmem ⟨2, ![96, w S]⟩ .bf16) : Memref sig (Dev.tc n : Thread nD τ).2.kind .vmem ⟨2, ![96, w S]⟩ .bf16) (.dma qs) hsc) (.dma qr) h1 h2 h3) k) Q) := by
  have hcop := cop_open (F := F) c hx
  unfold ticket at hcop
  rw [he] at hcop
  have hw := wp_send_blk ab K c t x hx S a b q (Q := Q) (hsc := hsc) (h1 := h1) (h2 := h2) (h3 := h3) (hR := hR) (hR' := hR') (k := k) hn hqs hqr hN ho ho' hs hd hsl
  iintro ⟨#HR, HO, Hc, Hs⟩ Hk
  ihave ⟨⟨Htok, Hsl, -, Hat⟩, Hc⟩ := hcop $$ Hc
  iapply hw $$ [HO Htok Hsl Hat Hs]
  · isplitr; · iexact HR
    isplitl [HO]; · iexact HO
    isplitl [Htok]; · iexact Htok
    isplitl [Hsl]; · iexact Hsl
    isplitl [Hat]; · iexact Hat
    iexact Hs
  iintro ⟨HO, Hst⟩
  iapply Hk
  isplitl [HO]; · iexact HO
  iapply Hc; iexact Hst

/-- The sub-block a device finishes is stored, and sent in both rings. -/
theorem ownC (c : Dev nD) (S : Fin 4) {t r n : ℕ} (hx : ordL[t]? = some (S, .d3 0)) (hx' : ordL[t + 1]? = some (S, .d4 0))
    {α : Type} {Q : α → sProp 𝕄} {o : Fin 2 → ℕ} {hS hl hm1 hm2} {wv : (⟨2, ![96, w S]⟩ : Shape).Idx → Elt F .bf16}
    {n1 : Dev nD} {o1 o1' : Fin 2 → ℕ} {hb1 hb1'} {hR1 : ∀ a, (Rect.unit (s := S1536x1536) o1 ![96, w S] hb1).stride a = 1} {hR1' : ∀ a, (Rect.unit (s := S1536x1536) o1' ![96, w S] hb1').stride a = 1} {qs1 qr1 : DmaSem sig} {hsc1 h11 h21 h31}
    (hn1 : n1 = tgt (S, .d3 0) c) (hqs1 : qs1 = sm (false, (S, .d3 0))) (hqr1 : qr1 = sm (true, (S, .d3 0)))
    (hN1 : (oM.slice (Rect.unit (s := S1536x1536) o1' ![96, w S] hb1') hR1').view.dmaCredit = amt (S, .d3 0))
    (ho1 : o1 = ![384 * (bF S (q1 S c) 3).val + 96 * (bF S (q2 S c) 3).val, c0 S]) (ho1' : o1' = ![384 * (bF S (q1 S c) 3).val + 96 * (bF S (q2 S c) 3).val, c0 S])
    {n2 : Dev nD} {o2 o2' : Fin 2 → ℕ} {hb2 hb2'} {hR2 : ∀ a, (Rect.unit (s := S1536x1536) o2 ![96, w S] hb2).stride a = 1} {hR2' : ∀ a, (Rect.unit (s := S1536x1536) o2' ![96, w S] hb2').stride a = 1} {qs2 qr2 : DmaSem sig} {hsc2 h12 h22 h32}
    (hn2 : n2 = tgt (S, .d4 0) c) (hqs2 : qs2 = sm (false, (S, .d4 0))) (hqr2 : qr2 = sm (true, (S, .d4 0)))
    (hN2 : (oM.slice (Rect.unit (s := S1536x1536) o2' ![96, w S] hb2') hR2').view.dmaCredit = amt (S, .d4 0))
    (ho2 : o2 = ![384 * (bF S (q1 S c) 3).val + 96 * (bF S (q2 S c) 3).val, c0 S]) (ho2' : o2' = ![384 * (bF S (q1 S c) 3).val + 96 * (bF S (q2 S c) 3).val, c0 S])
    {k : PUnit → Prog (TpuEff nD τ sig (Elt F) Λ₀ .tc) α}
    (ho : o = ![384 * (bF S (q1 S c) 3).val + 96 * (bF S (q2 S c) 3).val, c0 S])
    (hw : ∀ j, wv j = fcut (fadd (fadd (T ab S (bF S (q1 S c) 3) c (sub (bF S (q2 S c) 3) j)) (fext (V1 ab S 2 (p1 S c) (sub (bF S (q2 S c) 3) (rs (sr j)))))) (fext (V2 ab S 2 (p2 S c) (rs (sr j))))))
    (hc : St ab K c (t + 2) r n ⊢ WP c (k ⟨⟩) Q) :
    St ab K c t r n ⊢ WP c (.op (.load oM (Rect.unit (s := S1536x1536) o ![96, w S] hS).toLoadRect hl) fun _ =>
      .op (.store oM (Rect.unit (s := S1536x1536) o ![96, w S] hS) wv Finset.univ hm1 hm2) fun _ =>
      (.op (.enqueueDma (oM.slice (Rect.unit (s := S1536x1536) o1 ![96, w S] hb1) hR1)
          (.remote (Dev.tc n1 : Thread nD τ) ((oM.slice (Rect.unit (s := S1536x1536) o1' ![96, w S] hb1') hR1' : Memref sig .tc .vmem ⟨2, ![96, w S]⟩ .bf16) : Memref sig (Dev.tc n1 : Thread nD τ).2.kind .vmem ⟨2, ![96, w S]⟩ .bf16) (.dma qs1) hsc1) (.dma qr1) h11 h21 h31) fun _ => (.op (.enqueueDma (oM.slice (Rect.unit (s := S1536x1536) o2 ![96, w S] hb2) hR2)
          (.remote (Dev.tc n2 : Thread nD τ) ((oM.slice (Rect.unit (s := S1536x1536) o2' ![96, w S] hb2') hR2' : Memref sig .tc .vmem ⟨2, ![96, w S]⟩ .bf16) : Memref sig (Dev.tc n2 : Thread nD τ).2.kind .vmem ⟨2, ![96, w S]⟩ .bf16) (.dma qs2) hsc2) (.dma qr2) h12 h22 h32) k))) Q := by
  subst ho
  have hv : wv = Out ab S (bF S (q1 S c) 3) (bF S (q2 S c) 3) := by
    funext j; refine (hw j).trans ?_
    unfold Out
    rw [owner_own]
    simp only [rs_sr]; rfl
  have hcop := cop_open (F := F) c hx
  unfold ticket at hcop
  rw [show src (F := F) (S, .d3 0) c = iprop(∃ Y, piece c oM (Ro S (bF S (q1 S c) 3) (bF S (q2 S c) 3)) (fun _ => rfl) fullShare Y) from rfl] at hcop
  have hsp := blk_split ab c S (bF S (q1 S c) 3) (bF S (q2 S c) 3)
  refine cut hc ?_
  unfold St
  iintro ⟨#HR, HO, Hab, Hc, Hr, Ht⟩ Hk
  ihave ⟨⟨Htok, Hsl, ⟨%Y, Hs⟩, Hat⟩, Hc⟩ := hcop $$ Hc
  iapply (wp_load_piece (R := Ro S (bF S (q1 S c) 3) (bF S (q2 S c) 3)) id (fun _ => rfl)) $$ Hs; iintro Hs
  iapply (wp_store_piece (R := Ro S (bF S (q1 S c) 3) (bF S (q2 S c) 3)) (hR := fun _ => rfl)) $$ Hs; iintro Hs
  rw [hv]
  ihave Hs := (Entails.of_eq (show piece c oM (Ro S (bF S (q1 S c) 3) (bF S (q2 S c) 3)) (fun _ => rfl) fullShare (Out ab S (bF S (q1 S c) 3) (bF S (q2 S c) 3)) = blk ab c fullShare S (bF S (q1 S c) 3) (bF S (q2 S c) 3) from rfl)) $$ Hs
  ihave ⟨Hs1, Hs2⟩ := hsp $$ Hs
  iapply (wp_send_blk ab K c t (S, .d3 0) hx S (bF S (q1 S c) 3) (bF S (q2 S c) 3) fullShare.left hn1 hqs1 hqr1 hN1 ho1 ho1' rfl rfl rfl) $$ [HO Htok Hsl Hat Hs1]
  · isplitr; · iexact HR
    isplitl [HO]; · iexact HO
    isplitl [Htok]; · iexact Htok
    isplitl [Hsl]; · iexact Hsl
    isplitl [Hat]; · iexact Hat
    iexact Hs1
  iintro ⟨HO, Hst⟩
  ihave Hc := Hc $$ Hst
  iapply (wp_send_cop ab K c (t + 1) (S, .d4 0) hx' S (bF S (q1 S c) 3) (bF S (q2 S c) 3) fullShare.right hn2 hqs2 hqr2 hN2 ho2 ho2' rfl rfl rfl rfl) $$ [HO Hc Hs2]
  · isplitr; · iexact HR
    isplitl [HO]; · iexact HO
    isplitl [Hc]; · iexact Hc
    iexact Hs2
  iintro ⟨HO, Hc⟩
  iapply Hk
  isplitr; · iexact HR
  isplitl [HO]; · iexact HO
  isplitl [Hab]; · iexact Hab
  isplitl [Hc]; · iexact Hc
  isplitl [Hr]; · iexact Hr
  iexact Ht

/-- A landing that is sent on is waited for. -/
theorem wp_wait_on (c : Dev nD) (x : X) {t r : ℕ} (hx : rordL[r]? = some x) (hlt : ix x < t) (hk : keep ab c x = iprop(emp))
    {α : Type} {Q : α → sProp 𝕄} {sh sh' : Shape} {e e' : EltTy} {sp sp' : Space} {q : DmaSem sig} {dst : Memref sig .tc sp sh e} {src : Memref sig .tc sp' sh' e'} {h1 h2}
    {k : PUnit → Prog (TpuEff nD τ sig (Elt F) Λ₀ .tc) α}
    (hq : q = sm (true, x)) (hN : src.view.dmaCredit = amt x) :
    iprop(records ab K ∗ OW c t ∗ bigSep Finset.univ (rop ab c r)) ⊢ iprop((OW c t ∗ recvPay ab x c ∗ bigSep Finset.univ (rop ab c (r + 1)) -∗ WP c (k ⟨⟩) Q)
      -∗ WP c (.op (.waitDma2 q dst src h1 h2) k) Q) := by
  have ho := rop_open ab c hx
  unfold due at ho
  have hw := wp_wait ab K c t (true, x) (by rw [lv_recv]; omega) (Q := Q) (dst := dst) (src := src) (h1 := h1) (h2 := h2) (k := k) hq hN
  iintro ⟨#HR, HO, Hr⟩
  ihave ⟨⟨H1, H2⟩, H3⟩ := ho $$ Hr
  iintro Hk
  iapply hw $$ [HO H1 H2]
  · isplitr; · iexact HR
    isplitl [HO]; · iexact HO
    isplitl [H1]; · iexact H1
    iexact H2
  iintro ⟨HO, Hp, Hz⟩
  ihave Hp := (Entails.of_eq (show pay ab (true, x) c = recvPay ab x c from payload_recv ab x c 0)) $$ Hp
  iapply Hk
  isplitl [HO]; · iexact HO
  isplitl [Hp]; · iexact Hp
  iapply H3
  unfold done; rw [hk]
  isplitr; · iempintro
  iexact Hz

/-- A finished sub-block that came round the second ring is sent on in both rings. -/
theorem fwdC (c : Dev nD) (S : Fin 4) (j : Fin 2) {t r n : ℕ} (hx : ordL[t]? = some (S, .d3 j.succ)) (hx' : ordL[t + 1]? = some (S, .d4 ⟨j.val + 1, by omega⟩))
    (hr : rordL[r]? = some (S, .d3 j.castSucc)) (hlt : ix (S, .d3 j.castSucc) < t)
    {α : Type} {Q : α → sProp 𝕄} {sh sh' : Shape} {e e' : EltTy} {sp sp' : Space} {q : DmaSem sig} {dst : Memref sig .tc sp sh e} {src : Memref sig .tc sp' sh' e'} {h1 h2}
    (hq : q = sm (true, (S, .d3 j.castSucc))) (hN : src.view.dmaCredit = amt (S, .d3 j.castSucc))
    {n1 : Dev nD} {o1 o1' : Fin 2 → ℕ} {hb1 hb1'} {hR1 : ∀ a, (Rect.unit (s := S1536x1536) o1 ![96, w S] hb1).stride a = 1} {hR1' : ∀ a, (Rect.unit (s := S1536x1536) o1' ![96, w S] hb1').stride a = 1} {qs1 qr1 : DmaSem sig} {hsc1 h11 h21 h31}
    (hn1 : n1 = tgt (S, .d3 j.succ) c) (hqs1 : qs1 = sm (false, (S, .d3 j.succ))) (hqr1 : qr1 = sm (true, (S, .d3 j.succ)))
    (hN1 : (oM.slice (Rect.unit (s := S1536x1536) o1' ![96, w S] hb1') hR1').view.dmaCredit = amt (S, .d3 j.succ))
    (ho1 : o1 = ![384 * (bF S (q1 S c) 3).val + 96 * (bF S (q2 S c) (j.val + 4)).val, c0 S]) (ho1' : o1' = ![384 * (bF S (q1 S c) 3).val + 96 * (bF S (q2 S c) (j.val + 4)).val, c0 S])
    {n2 : Dev nD} {o2 o2' : Fin 2 → ℕ} {hb2 hb2'} {hR2 : ∀ a, (Rect.unit (s := S1536x1536) o2 ![96, w S] hb2).stride a = 1} {hR2' : ∀ a, (Rect.unit (s := S1536x1536) o2' ![96, w S] hb2').stride a = 1} {qs2 qr2 : DmaSem sig} {hsc2 h12 h22 h32}
    (hn2 : n2 = tgt (S, .d4 ⟨j.val + 1, by omega⟩) c) (hqs2 : qs2 = sm (false, (S, .d4 ⟨j.val + 1, by omega⟩))) (hqr2 : qr2 = sm (true, (S, .d4 ⟨j.val + 1, by omega⟩)))
    (hN2 : (oM.slice (Rect.unit (s := S1536x1536) o2' ![96, w S] hb2') hR2').view.dmaCredit = amt (S, .d4 ⟨j.val + 1, by omega⟩))
    (ho2 : o2 = ![384 * (bF S (q1 S c) 3).val + 96 * (bF S (q2 S c) (j.val + 4)).val, c0 S]) (ho2' : o2' = ![384 * (bF S (q1 S c) 3).val + 96 * (bF S (q2 S c) (j.val + 4)).val, c0 S])
    {k : PUnit → Prog (TpuEff nD τ sig (Elt F) Λ₀ .tc) α}
    (hc : St ab K c (t + 2) (r + 1) n ⊢ WP c (k ⟨⟩) Q) :
    St ab K c t r n ⊢ WP c (.op (.waitDma2 q dst src h1 h2) fun _ =>
      (.op (.enqueueDma (oM.slice (Rect.unit (s := S1536x1536) o1 ![96, w S] hb1) hR1)
          (.remote (Dev.tc n1 : Thread nD τ) ((oM.slice (Rect.unit (s := S1536x1536) o1' ![96, w S] hb1') hR1' : Memref sig .tc .vmem ⟨2, ![96, w S]⟩ .bf16) : Memref sig (Dev.tc n1 : Thread nD τ).2.kind .vmem ⟨2, ![96, w S]⟩ .bf16) (.dma qs1) hsc1) (.dma qr1) h11 h21 h31) fun _ => (.op (.enqueueDma (oM.slice (Rect.unit (s := S1536x1536) o2 ![96, w S] hb2) hR2)
          (.remote (Dev.tc n2 : Thread nD τ) ((oM.slice (Rect.unit (s := S1536x1536) o2' ![96, w S] hb2') hR2' : Memref sig .tc .vmem ⟨2, ![96, w S]⟩ .bf16) : Memref sig (Dev.tc n2 : Thread nD τ).2.kind .vmem ⟨2, ![96, w S]⟩ .bf16) (.dma qs2) hsc2) (.dma qr2) h12 h22 h32) k))) Q := by
  have hsp := blk_split ab c S (bF S (q1 S c) 3) (bF S (q2 S c) (j.val + 4))
  have hrc : recvPay ab (S, .d3 j.castSucc) c = blk ab c fullShare S (bF S (q1 S c) 3) (bF S (q2 S c) (j.val + 4)) := recv_d3 ab S c j.castSucc
  refine cut hc ?_
  unfold St
  iintro ⟨#HR, HO, Hab, Hc, Hr, Ht⟩ Hk
  iapply (wp_wait_on ab K c (S, .d3 j.castSucc) hr hlt rfl hq hN) $$ [HO Hr]
  · isplitr; · iexact HR
    isplitl [HO]; · iexact HO
    iexact Hr
  iintro ⟨HO, Hs, Hr⟩
  ihave Hs := (Entails.of_eq hrc) $$ Hs
  ihave ⟨Hs1, Hs2⟩ := hsp $$ Hs
  have i1 : j.val + 1 < 3 := by omega
  have i2 : (j.val + 1) / 4 = 0 := by omega
  have i3 : (j.val + 1) % 4 = j.val + 1 := by omega
  have hsd : sendPay ab (S, .d4 ⟨j.val + 1, by omega⟩) c = blk ab c fullShare.right S (bF S (q1 S c) 3) (bF S (q2 S c) (j.val + 4)) := by
    rw [send_d4]; simp only [i2, i3, if_pos i1]
  have hld : ∀ n, landed ab (S, .d4 ⟨j.val + 1, by omega⟩) c n = blk ab n fullShare S (bF S (q1 S c) 3) (bF S (q2 S c) (j.val + 4)) := by
    intro n; rw [landed_d4]; simp only [i2, i3]
  have hsl : ∀ n, slot (F := F) (S, .d4 ⟨j.val + 1, by omega⟩) c n = iprop(∃ Y, piece n oM (Ro S (bF S (q1 S c) 3) (bF S (q2 S c) (j.val + 4))) (fun _ => rfl) fullShare Y) := by
    intro n; rw [slot_d4]; simp only [i2, i3]; rfl
  iapply (wp_send_cop ab K c t (S, .d3 j.succ) hx S (bF S (q1 S c) 3) (bF S (q2 S c) (j.val + 4)) fullShare.left hn1 hqs1 hqr1 hN1 ho1 ho1' rfl rfl rfl rfl) $$ [HO Hc Hs1]
  · isplitr; · iexact HR
    isplitl [HO]; · iexact HO
    isplitl [Hc]; · iexact Hc
    iexact Hs1
  iintro ⟨HO, Hc⟩
  iapply (wp_send_cop ab K c (t + 1) (S, .d4 ⟨j.val + 1, by omega⟩) hx' S (bF S (q1 S c) 3) (bF S (q2 S c) (j.val + 4)) fullShare.right hn2 hqs2 hqr2 hN2 ho2 ho2' hsd (hld _) (hsl _) rfl) $$ [HO Hc Hs2]
  · isplitr; · iexact HR
    isplitl [HO]; · iexact HO
    isplitl [Hc]; · iexact Hc
    iexact Hs2
  iintro ⟨HO, Hc⟩
  iapply Hk
  isplitr; · iexact HR
  isplitl [HO]; · iexact HO
  isplitl [Hab]; · iexact Hab
  isplitl [Hc]; · iexact Hc
  isplitl [Hr]; · iexact Hr
  iexact Ht

/-- A landed finished sub-block is sent on once, in the first ring. -/
theorem onC (c : Dev nD) (S : Fin 4) (x y : X) (a b : Fin 4) {t r n : ℕ} (hx : ordL[t]? = some y)
    (hr : rordL[r]? = some x) (hlt : ix x < t) (hk : keep ab c x = iprop(emp))
    (hrc : recvPay ab x c = blk ab c fullShare S a b) (hs : sendPay ab y c = blk ab c fullShare S a b) (hd : landed ab y c (tgt y c) = blk ab (tgt y c) fullShare S a b)
    (hsl : slot (F := F) y c (tgt y c) = iprop(∃ Y, piece (tgt y c) oM (Ro S a b) (fun _ => rfl) fullShare Y)) (he : Cert.AllReduce.src (F := F) y c = iprop(emp))
    {α : Type} {Q : α → sProp 𝕄} {sh sh' : Shape} {e e' : EltTy} {sp sp' : Space} {q : DmaSem sig} {dst : Memref sig .tc sp sh e} {src : Memref sig .tc sp' sh' e'} {h1 h2}
    (hq : q = sm (true, x)) (hN : src.view.dmaCredit = amt x)
    {n1 : Dev nD} {o1 o1' : Fin 2 → ℕ} {hb1 hb1'} {hR1 : ∀ a, (Rect.unit (s := S1536x1536) o1 ![96, w S] hb1).stride a = 1} {hR1' : ∀ a, (Rect.unit (s := S1536x1536) o1' ![96, w S] hb1').stride a = 1} {qs1 qr1 : DmaSem sig} {hsc1 h11 h21 h31}
    (hn1 : n1 = tgt y c) (hqs1 : qs1 = sm (false, y)) (hqr1 : qr1 = sm (true, y))
    (hN1 : (oM.slice (Rect.unit (s := S1536x1536) o1' ![96, w S] hb1') hR1').view.dmaCredit = amt y)
    (ho1 : o1 = ![384 * (a).val + 96 * (b).val, c0 S]) (ho1' : o1' = ![384 * (a).val + 96 * (b).val, c0 S])
    {k : PUnit → Prog (TpuEff nD τ sig (Elt F) Λ₀ .tc) α}
    (hc : St ab K c (t + 1) (r + 1) n ⊢ WP c (k ⟨⟩) Q) :
    St ab K c t r n ⊢ WP c (.op (.waitDma2 q dst src h1 h2) fun _ =>
      (.op (.enqueueDma (oM.slice (Rect.unit (s := S1536x1536) o1 ![96, w S] hb1) hR1)
          (.remote (Dev.tc n1 : Thread nD τ) ((oM.slice (Rect.unit (s := S1536x1536) o1' ![96, w S] hb1') hR1' : Memref sig .tc .vmem ⟨2, ![96, w S]⟩ .bf16) : Memref sig (Dev.tc n1 : Thread nD τ).2.kind .vmem ⟨2, ![96, w S]⟩ .bf16) (.dma qs1) hsc1) (.dma qr1) h11 h21 h31) k)) Q := by
  refine cut hc ?_
  unfold St
  iintro ⟨#HR, HO, Hab, Hc, Hr, Ht⟩ Hk
  iapply (wp_wait_on ab K c x hr hlt hk hq hN) $$ [HO Hr]
  · isplitr; · iexact HR
    isplitl [HO]; · iexact HO
    iexact Hr
  iintro ⟨HO, Hs, Hr⟩
  ihave Hs := (Entails.of_eq hrc) $$ Hs
  iapply (wp_send_cop ab K c t y hx S a b fullShare hn1 hqs1 hqr1 hN1 ho1 ho1' hs hd hsl he) $$ [HO Hc Hs]
  · isplitr; · iexact HR
    isplitl [HO]; · iexact HO
    isplitl [Hc]; · iexact Hc
    iexact Hs
  iintro ⟨HO, Hc⟩
  iapply Hk
  isplitr; · iexact HR
  isplitl [HO]; · iexact HO
  isplitl [Hab]; · iexact Hab
  isplitl [Hc]; · iexact Hc
  isplitl [Hr]; · iexact Hr
  iexact Ht

/-- The last landing of the second ring, -/
theorem on3C (c : Dev nD) (S : Fin 4) {t r n : ℕ} (hx : ordL[t]? = some (S, .d4 3))
    (hr : rordL[r]? = some (S, .d3 2)) (hlt : ix (S, .d3 2) < t)
    {α : Type} {Q : α → sProp 𝕄} {sh sh' : Shape} {e e' : EltTy} {sp sp' : Space} {q : DmaSem sig} {dst : Memref sig .tc sp sh e} {src : Memref sig .tc sp' sh' e'} {h1 h2}
    (hq : q = sm (true, (S, .d3 2))) (hN : src.view.dmaCredit = amt (S, .d3 2))
    {n1 : Dev nD} {o1 o1' : Fin 2 → ℕ} {hb1 hb1'} {hR1 : ∀ a, (Rect.unit (s := S1536x1536) o1 ![96, w S] hb1).stride a = 1} {hR1' : ∀ a, (Rect.unit (s := S1536x1536) o1' ![96, w S] hb1').stride a = 1} {qs1 qr1 : DmaSem sig} {hsc1 h11 h21 h31}
    (hn1 : n1 = tgt (S, .d4 3) c) (hqs1 : qs1 = sm (false, (S, .d4 3))) (hqr1 : qr1 = sm (true, (S, .d4 3)))
    (hN1 : (oM.slice (Rect.unit (s := S1536x1536) o1' ![96, w S] hb1') hR1').view.dmaCredit = amt (S, .d4 3))
    (ho1 : o1 = ![384 * (bF S (q1 S c) 3).val + 96 * (bF S (q2 S c) 6).val, c0 S]) (ho1' : o1' = ![384 * (bF S (q1 S c) 3).val + 96 * (bF S (q2 S c) 6).val, c0 S])
    {k : PUnit → Prog (TpuEff nD τ sig (Elt F) Λ₀ .tc) α}
    (hc : St ab K c (t + 1) (r + 1) n ⊢ WP c (k ⟨⟩) Q) :
    St ab K c t r n ⊢ WP c (.op (.waitDma2 q dst src h1 h2) fun _ =>
      (.op (.enqueueDma (oM.slice (Rect.unit (s := S1536x1536) o1 ![96, w S] hb1) hR1)
          (.remote (Dev.tc n1 : Thread nD τ) ((oM.slice (Rect.unit (s := S1536x1536) o1' ![96, w S] hb1') hR1' : Memref sig .tc .vmem ⟨2, ![96, w S]⟩ .bf16) : Memref sig (Dev.tc n1 : Thread nD τ).2.kind .vmem ⟨2, ![96, w S]⟩ .bf16) (.dma qs1) hsc1) (.dma qr1) h11 h21 h31) k)) Q :=
  onC ab K c S (S, .d3 2) (S, .d4 3) (bF S (q1 S c) 3) (bF S (q2 S c) 6) hx hr hlt rfl (recv_d3 ab S c 2) rfl rfl rfl rfl hq hN hn1 hqs1 hqr1 hN1 ho1 ho1' hc

/-- and a landing of the first ring. -/
theorem on4C (c : Dev nD) (S : Fin 4) (i : Fin 8) {t r n : ℕ} (hx : ordL[t]? = some (S, .d4 ⟨i.val + 4, by omega⟩))
    (hr : rordL[r]? = some (S, .d4 ⟨i.val, by omega⟩)) (hlt : ix (S, .d4 ⟨i.val, by omega⟩) < t)
    {α : Type} {Q : α → sProp 𝕄} {sh sh' : Shape} {e e' : EltTy} {sp sp' : Space} {q : DmaSem sig} {dst : Memref sig .tc sp sh e} {src : Memref sig .tc sp' sh' e'} {h1 h2}
    (hq : q = sm (true, (S, .d4 ⟨i.val, by omega⟩))) (hN : src.view.dmaCredit = amt (S, .d4 ⟨i.val, by omega⟩))
    {n1 : Dev nD} {o1 o1' : Fin 2 → ℕ} {hb1 hb1'} {hR1 : ∀ a, (Rect.unit (s := S1536x1536) o1 ![96, w S] hb1).stride a = 1} {hR1' : ∀ a, (Rect.unit (s := S1536x1536) o1' ![96, w S] hb1').stride a = 1} {qs1 qr1 : DmaSem sig} {hsc1 h11 h21 h31}
    (hn1 : n1 = tgt (S, .d4 ⟨i.val + 4, by omega⟩) c) (hqs1 : qs1 = sm (false, (S, .d4 ⟨i.val + 4, by omega⟩))) (hqr1 : qr1 = sm (true, (S, .d4 ⟨i.val + 4, by omega⟩)))
    (hN1 : (oM.slice (Rect.unit (s := S1536x1536) o1' ![96, w S] hb1') hR1').view.dmaCredit = amt (S, .d4 ⟨i.val + 4, by omega⟩))
    (ho1 : o1 = ![384 * (bF S (q1 S c) (i.val / 4 + 4)).val + 96 * (bF S (q2 S c) (i.val % 4 + 3)).val, c0 S]) (ho1' : o1' = ![384 * (bF S (q1 S c) (i.val / 4 + 4)).val + 96 * (bF S (q2 S c) (i.val % 4 + 3)).val, c0 S])
    {k : PUnit → Prog (TpuEff nD τ sig (Elt F) Λ₀ .tc) α}
    (hc : St ab K c (t + 1) (r + 1) n ⊢ WP c (k ⟨⟩) Q) :
    St ab K c t r n ⊢ WP c (.op (.waitDma2 q dst src h1 h2) fun _ =>
      (.op (.enqueueDma (oM.slice (Rect.unit (s := S1536x1536) o1 ![96, w S] hb1) hR1)
          (.remote (Dev.tc n1 : Thread nD τ) ((oM.slice (Rect.unit (s := S1536x1536) o1' ![96, w S] hb1') hR1' : Memref sig .tc .vmem ⟨2, ![96, w S]⟩ .bf16) : Memref sig (Dev.tc n1 : Thread nD τ).2.kind .vmem ⟨2, ![96, w S]⟩ .bf16) (.dma qs1) hsc1) (.dma qr1) h11 h21 h31) k)) Q := by
  have i2 : (i.val + 4) / 4 = i.val / 4 + 1 := by omega
  have i3 : (i.val + 4) % 4 = i.val % 4 := by omega
  have i4 : ¬ i.val + 4 < 3 := by omega
  refine onC ab K c S (S, .d4 ⟨i.val, by omega⟩) (S, .d4 ⟨i.val + 4, by omega⟩) (bF S (q1 S c) (i.val / 4 + 4)) (bF S (q2 S c) (i.val % 4 + 3)) hx hr hlt
    (if_pos i.isLt) (recv_d4 ab S c ⟨i.val, by omega⟩) ?_ ?_ ?_ rfl hq hN hn1 hqs1 hqr1 hN1 ho1 ho1' hc
  · rw [send_d4]; simp only [i2, i3, if_neg i4]
  · rw [landed_d4]; simp only [i2, i3]
  · rw [slot_d4]; simp only [i2, i3]; rfl

/-! ## The waits for the sources -/

/-- A copy's source, once its return has been waited for. -/
def eop (c : Dev nD) (m : ℕ) (x : X) : sProp 𝕄 := if ix x < m then iprop(sendPay ab x c ∗ semVal (cell (false, x) c) 0) else sent c x
def Se (c : Dev nD) (m : ℕ) : sProp 𝕄 :=
  iprop(records ab K ∗ OW c 96 ∗ opnds ab c ∗ bigSep Finset.univ (eop ab c m) ∗ bigSep Finset.univ (rop ab c 96) ∗ bigSep Finset.univ (tile ab c 16))

theorem St_Se (c : Dev nD) : St ab K c 96 96 16 ⊢ Se ab K c 0 := by
  unfold St Se
  have h : cop (F := F) c 96 = eop ab c 0 := by
    funext x
    have : ix x < 96 := List.idxOf_lt_length_of_mem (ordL_univ x)
    unfold cop eop
    rw [if_pos this, if_neg (Nat.not_lt_zero _)]
  rw [h]

theorem endC (c : Dev nD) (x : X) {m : ℕ} (hx : ordL[m]? = some x)
    {α : Type} {Q : α → sProp 𝕄} {sh sh' : Shape} {e e' : EltTy} {sp sp' : Space} {q : DmaSem sig} {dst : Memref sig .tc sp sh e} {src : Memref sig .tc sp' sh' e'} {h1 h2}
    {k : PUnit → Prog (TpuEff nD τ sig (Elt F) Λ₀ .tc) α}
    (hq : q = sm (false, x)) (hN : src.view.dmaCredit = amt x)
    (hc : Se ab K c (m + 1) ⊢ WP c (k ⟨⟩) Q) :
    Se ab K c m ⊢ WP c (.op (.waitDma2 q dst src h1 h2) k) Q := by
  have h := ordL_get_ix hx
  have e1 : eop ab c m x = sent c x := if_neg (by omega)
  have e2 : eop ab c (m + 1) x = iprop(sendPay ab x c ∗ semVal (cell (false, x) c) 0) := if_pos (by omega)
  have ho := bigSep_swap (Φ := eop ab c m) (Ψ := eop ab c (m + 1)) x (fun y hy => by
    have : ix y ≠ m := fun e => hy (by
      have h1 := List.idxOf_lt_length_of_mem (ordL_univ y); have h2 := List.idxOf_lt_length_of_mem (ordL_univ x)
      have e1 : ordL[ordL.idxOf y] = y := List.getElem_idxOf h1
      have e2 : ordL[ordL.idxOf x] = x := List.getElem_idxOf h2
      have e3 : ordL.idxOf y = ordL.idxOf x := e.trans h.symm
      rw [← e1, ← e2]; congr 1)
    unfold eop; congr 1; exact propext ⟨fun _ => by omega, fun _ => by omega⟩)
  rw [e1, e2] at ho
  unfold sent at ho
  have hw := wp_wait ab K c 96 (false, x) (by rw [lv_send]; omega) (Q := Q) (dst := dst) (src := src) (h1 := h1) (h2 := h2) (k := k) hq hN
  refine cut hc ?_
  unfold Se
  iintro ⟨#HR, HO, Hab, Hc, Hr, Ht⟩
  ihave ⟨⟨H1, H2⟩, H3⟩ := ho $$ Hc
  iintro Hk
  iapply hw $$ [HO H1 H2]
  · isplitr; · iexact HR
    isplitl [HO]; · iexact HO
    isplitl [H1]; · iexact H1
    iexact H2
  iintro ⟨HO, Hp, Hz⟩
  ihave Hp := (Entails.of_eq (show pay ab (false, x) c = sendPay ab x c from payload_send ab x c 0)) $$ Hp
  iapply Hk
  isplitr; · iexact HR
  isplitl [HO]; · iexact HO
  isplitl [Hab]; · iexact Hab
  isplitl [Hp Hz H3]
  · iapply H3
    isplitl [Hp]; · iexact Hp
    iexact Hz
  isplitl [Hr]; · iexact Hr
  iexact Ht
end

end Cert.AllReduce

end
-- ==== Proof.Barrier.lean ====
module

public import proofs.«01_k».proof.Proof.State

/-!
# The barrier at the start

Each device signals its four neighbours, and hands each the places of its own that the neighbour's copies land on; it
then waits for four signals, and holds the places its own copies land on.
-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

section
variable (ab : Inp F) (K : Dev nD × Option Y → ℕ)

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A product over the copies, by direction. -/
theorem by_dir (Φ : X → sProp 𝕄) : bigSep Finset.univ Φ = bigSep Finset.univ fun i : Fin 4 => bigSep Finset.univ fun x : X => if dirOf x = opp i then Φ x else iprop(emp) := by
  have he (P : sProp 𝕄) : iprop(emp ∗ P) = P := equiv_iff.mp BI.emp_sep
  have hs (P : sProp 𝕄) : iprop(P ∗ emp) = P := equiv_iff.mp BI.sep_emp
  have key : ∀ (d : Fin 4) (P : sProp 𝕄), P = iprop((if d = opp 0 then P else emp) ∗ (if d = opp 1 then P else emp) ∗ (if d = opp 2 then P else emp) ∗ (if d = opp 3 then P else emp)) := by
    intro d P
    fin_cases d <;> simp +decide only [if_true, if_false, he, hs]
  rw [four, ← bigSep_sep', ← bigSep_sep', ← bigSep_sep']
  exact bigSep_congr fun x _ => key (dirOf x) (Φ x)

omit [FloatOps F] in
/-- The places a device hands its neighbours, together: all that is landed on it. -/
theorem slots_out (c : Dev nD) : bigSep Finset.univ (fun x => slot (F := F) x (frm x c) c) = bigSep Finset.univ fun i => barPay (nbr i c) i := by
  rw [by_dir]
  refine bigSep_congr fun i _ => bigSep_congr fun x _ => ?_
  by_cases h : dirOf x = opp i
  · rw [if_pos h, if_pos h]
    unfold tgt frm
    rw [h, opp_opp, opp_nbr]
  · rw [if_neg h, if_neg h]

omit [FloatOps F] in
/-- The places a device is handed, together: all that its copies land on. -/
theorem slots_in (c : Dev nD) : bigSep Finset.univ (fun i => barPay (F := F) c i) = bigSep Finset.univ fun x => slot (F := F) x c (tgt x c) :=
  (by_dir _).symm

/-- What a device owes at the start: its copies, and the four signals, the first on top. -/
def Os (c : Dev nD) : ℕ → CellTallies nD τ sig Unit
  | 0 => Od c 0
  | 1 => Od c 0 + tallyAt (barCell (nbr 3 c)) () 1
  | 2 => Od c 0 + tallyAt (barCell (nbr 3 c)) () 1 + tallyAt (barCell (nbr 2 c)) () 1
  | 3 => Od c 0 + tallyAt (barCell (nbr 3 c)) () 1 + tallyAt (barCell (nbr 2 c)) () 1 + tallyAt (barCell (nbr 1 c)) () 1
  | _ => Od c 0 + tallyAt (barCell (nbr 3 c)) () 1 + tallyAt (barCell (nbr 2 c)) () 1 + tallyAt (barCell (nbr 1 c)) () 1 + tallyAt (barCell (nbr 0 c)) () 1

/-- A ticket without the place the copy lands on. -/
def stub (c : Dev nD) (x : X) : sProp 𝕄 :=
  iprop((dutyTok ER (cell (false, x) c) 0 0 ∗ dutyTok ER (cell (true, x) (tgt x c)) 0 0) ∗ src x c ∗ atPos ER (cell (false, x) c) 0 ∅ 0)

/-- The state before the barrier. -/
def Pre (c : Dev nD) : sProp 𝕄 :=
  iprop(records ab K ∗ (∃ W, owes c (Os c 4) W)
    ∗ (bigSep Finset.univ fun i => dutyTok ER (barCell (nbr i c)) 0 i) ∗ (bigSep Finset.univ fun x => slot (F := F) x (frm x c) c)
    ∗ cred (tallyAt (barCell c) () 4) ∗ atPos ER (barCell c) 0 ∅ 0
    ∗ (owns (Ix := Unit) (Name := ℕ) (U := UU) (Lvl := ℕ) (c : Thread nD τ) aM fullShare (ab.1 c)
      ∗ owns (Ix := Unit) (Name := ℕ) (U := UU) (Lvl := ℕ) (c : Thread nD τ) bM fullShare (ab.2 c))
    ∗ (bigSep Finset.univ (stub (F := F) c)) ∗ (bigSep Finset.univ (due (F := F) c)) ∗ bigSep Finset.univ (tile ab c 0))

/-- One signal. -/
theorem wp_sig (c n : Dev nD) (i : Fin 4) (hn : n = nbr i c) (O : CellTallies nD τ sig Unit) (O' : CellTallies nD τ sig Unit) (hO : O' = O + tallyAt (barCell (nbr i c)) () 1)
    {α : Type} {Q : α → sProp 𝕄} {k : PUnit → Prog (TpuEff nD τ sig (Elt F) Λ₀ .tc) α} :
    iprop(records ab K ∗ (∃ W, owes c O' W) ∗ dutyTok ER (barCell (nbr i c)) 0 i ∗ barPay (nbr i c) i)
      ⊢ iprop(((∃ W, owes c O W) -∗ WP c (k ⟨⟩) Q) -∗ WP c (.op (.semSignal (n, Proc.tc) barS (1#32).toInt) k) Q) := by
  subst hn hO
  iintro ⟨#HR, ⟨%W, HO⟩, Ht, Hp⟩ Hk
  iapply (Rounds.wp_signal 𝒱₀ ER (Rd ab) (c : Thread nD τ) none (dst := (nbr i c : Thread nD τ)) (κ := K (nbr i c, none))
      (d := i) (by rw [duties_bar]; exact Finset.mem_univ _) ((amount_bar ab (nbr i c) i).trans (by decide)) () O rfl)
    $$ [HO Ht Hp]
  · isplitr; · iapply (rec_inv ab K (nbr i c, none)); iexact HR
    isplitl [HO]; · iexact HO
    isplitl [Ht]; · iexact Ht
    isplitl [Hp]; · rw [payload_bar]; iexact Hp
    iapply (rec_reached ab K (nbr i c, none)); iexact HR
  iintro HO
  iapply Hk; iexists W; iexact HO

omit [FloatOps F] in
theorem stub_one (c : Dev nD) (x : X) : iprop(stub (F := F) c x ∗ slot (F := F) x c (tgt x c)) ⊢ cop (F := F) c 0 x := by
  have : cop (F := F) c 0 x = ticket c x := if_neg (Nat.not_lt_zero _)
  rw [this]
  unfold stub ticket
  iintro ⟨⟨H1, H2, H3⟩, H4⟩
  isplitl [H1]; · iexact H1
  isplitl [H4]; · iexact H4
  isplitl [H2]; · iexact H2
  iexact H3

omit [FloatOps F] in
theorem stub_ticket (c : Dev nD) : iprop(bigSep Finset.univ (stub (F := F) c) ∗ bigSep Finset.univ fun x => slot (F := F) x c (tgt x c)) ⊢ bigSep Finset.univ (cop (F := F) c 0) := by
  rw [← bigSep_sep']
  exact bigSep_mono fun x _ => stub_one c x

theorem barC (c n0 n1 n2 n3 : Dev nD) (h0 : n0 = nbr 0 c) (h1 : n1 = nbr 1 c) (h2 : n2 = nbr 2 c) (h3 : n3 = nbr 3 c)
    {α : Type} {Q : α → sProp 𝕄} {k : PUnit → Prog (TpuEff nD τ sig (Elt F) Λ₀ .tc) α}
    (hc : St ab K c 0 0 0 ⊢ WP c (k ⟨⟩) Q) :
    Pre ab K c ⊢ WP c (.op (.semSignal (n0, Proc.tc) barS (1#32).toInt) fun _ => .op (.semSignal (n1, Proc.tc) barS (1#32).toInt) fun _ =>
      .op (.semSignal (n2, Proc.tc) barS (1#32).toInt) fun _ => .op (.semSignal (n3, Proc.tc) barS (1#32).toInt) fun _ => .op (.semWait barS (4#32).toInt) k) Q := by
  have hlv : records ab K ⊢ MayWait (c : Thread nD τ) (.reg barS) () (Od c 0) := (rec_lev ab K).trans (mayWait c (.reg barS) 0 (by show lv (barCell c) () < 2 + 0; rw [lv_bar]; decide))
  refine cut hc ?_
  unfold Pre
  rw [slots_out, four, four]
  iintro ⟨#HR, HO, ⟨Ht0, Ht1, Ht2, Ht3⟩, ⟨Hp0, Hp1, Hp2, Hp3⟩, Hcr, Hat, ⟨HA, HB⟩, Hst, Hd, Htl⟩ Hk
  iapply (wp_sig ab K c n0 0 h0 (Os c 3) (Os c 4) rfl) $$ [HO Ht0 Hp0]
  · isplitr; · iexact HR
    isplitl [HO]; · iexact HO
    isplitl [Ht0]; · iexact Ht0
    iexact Hp0
  iintro HO
  iapply (wp_sig ab K c n1 1 h1 (Os c 2) (Os c 3) rfl) $$ [HO Ht1 Hp1]
  · isplitr; · iexact HR
    isplitl [HO]; · iexact HO
    isplitl [Ht1]; · iexact Ht1
    iexact Hp1
  iintro HO
  iapply (wp_sig ab K c n2 2 h2 (Os c 1) (Os c 2) rfl) $$ [HO Ht2 Hp2]
  · isplitr; · iexact HR
    isplitl [HO]; · iexact HO
    isplitl [Ht2]; · iexact Ht2
    iexact Hp2
  iintro HO
  iapply (wp_sig ab K c n3 3 h3 (Os c 0) (Os c 1) rfl) $$ [HO Ht3 Hp3]
  · isplitr; · iexact HR
    isplitl [HO]; · iexact HO
    isplitl [Ht3]; · iexact Ht3
    iexact Hp3
  iintro ⟨%W, HO⟩
  iapply (Rounds.wp_wait_rest_token 𝒱₀ ER (Rd ab) (c : Thread nD τ) none (κ := K (c, none))
      (wpE_semWait_eq 𝒱₀ (c : Thread nD τ) none Set.univ) (Set.mem_univ _) () (O := Od c 0) (W := W) (R := 0) (m := 0) (T := ∅)
      (by rw [expect_bar]; decide)) $$ [Hcr HO Hat]
  · isplitr; · iapply (rec_inv ab K (c, none)); iexact HR
    isplitl [Hcr]; · iexact Hcr
    isplitl [HO]; · iexact HO
    isplitr; · iapply hlv; iexact HR
    iexact Hat
  iintro ⟨HO, Hat, -, Hpay⟩
  imod (Rounds.cell_close ER (Rd ab) (Set.mem_univ (K (c, none))) (fun h => h) (R := 0 + 1) (duties_later ab (barCell c))) $$ [Hat] with Hz
  · isplitr; · iapply (rec_inv ab K (c, none)); iexact HR
    iexact Hat
  ihave Hsl := (Entails.of_eq (show bigSep ((Rd (F := F) ab).duties (barCell c) 0 \ ∅) (fun d => (Rd (F := F) ab).payload (barCell c) 0 d) = bigSep Finset.univ fun x => slot (F := F) x c (tgt x c) by
    rw [Finset.sdiff_empty, duties_bar, ← slots_in]; rfl)) $$ Hpay
  iapply Hk
  unfold St opnds
  isplitr; · iexact HR
  isplitl [HO]; · iexists _; iexact HO
  isplitl [HA HB Hz]
  · isplitl [HA]; · iexact HA
    isplitl [HB]; · iexact HB
    iexact Hz
  isplitl [Hst Hsl]
  · iapply (stub_ticket (F := F) c)
    isplitl [Hst]; · iexact Hst
    iexact Hsl
  isplitl [Hd]
  · rw [show rop ab c 0 = due (F := F) c from funext fun x => if_neg (Nat.not_lt_zero _)]
    iexact Hd
  iexact Htl

/-- Reading the device's number, -/
theorem devC (c : Dev nD) {P : sProp 𝕄} {α : Type} {Q : α → sProp 𝕄} {k : Dev nD → Prog (TpuEff nD τ sig (Elt F) Λ₀ .tc) α}
    (h : P ⊢ WP c (k c) Q) : P ⊢ WP c (.op .deviceId k) Q := by
  refine h.trans (Entails.of_eq ?_)
  exact (wp_deviceId 𝒱₀ (c : Thread nD τ) none Set.univ).symm

omit [FloatOps F] in
/-- and the end of a program. -/
theorem retC [FloatOps F] (c : Dev nD) {P : sProp 𝕄} {α : Type} {Q : α → sProp 𝕄} {a : α} (h : P ⊢ Q a) : P ⊢ WP c (.ret a) Q := by
  refine h.trans ?_
  show Q a ⊢ wp frame (wpE (defs₀ (F := F)) 𝒱₀ (c : Thread nD τ) none) Set.univ (.ret a) Q
  rw [wp_ret]
  exact fupd_intro
end

end Cert.AllReduce

end
-- ==== Proof.Walk.lean ====
module

public import proofs.«01_k».proof.Proof.Blocks
public import proofs.«01_k».proof.Proof.Barrier
public import proofs.«01_k».proof.Proof.Gen.KernelIdeal.Points
public import proofs.«01_k».proof.Proof.Gen.KernelIdeal.Skeleton

/-!
# The whole body

The body is the groups one after another, in the four streams by turns.
-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

set_option maxHeartbeats 4000000 in
/-- From the state before the barrier the body runs to the state after its last wait. -/
theorem walk (ab : Inp F) (K : Dev nD × Option Y → ℕ) (c : Dev nD) {Q : Unit → sProp 𝕄} (hQ : Se ab K c 96 ⊢ Q ⟨⟩) : Pre ab K c ⊢ WP c (bodyAt0 t0_0) Q := by
  unfold bodyAt0; rw [cc0_body_eq_skeleton]; unfold cc0_body_skel; rw [k0_part203_eq_skeleton]; unfold k0_part203_skel
  refine devC c ?_
  refine barC ab K c _ _ _ _ (by clear hQ; revert c; decide +kernel) (by clear hQ; revert c; decide +kernel) (by clear hQ; revert c; decide +kernel) (by clear hQ; revert c; decide +kernel) ?_
  refine dotC ab K c 0 0 rfl (by clear hQ; revert c; decide +kernel) rfl (by clear hQ; revert c; decide +kernel) (fun _ _ => rfl) ?_
  refine ldP ab K c 0 0 (by decide) (by clear hQ; revert c; decide +kernel) ?_
  refine psA ab K c _ 0 (by rfl) (by clear hQ; revert c; decide +kernel) (by rfl) (by rfl) (by rfl) (by rfl) (fun _ => rfl) ?_
  refine dotC ab K c 1 0 rfl (by clear hQ; revert c; decide +kernel) rfl (by clear hQ; revert c; decide +kernel) (fun _ _ => rfl) ?_
  refine ldP ab K c 1 0 (by decide) (by clear hQ; revert c; decide +kernel) ?_
  refine psA ab K c _ 1 (by rfl) (by clear hQ; revert c; decide +kernel) (by rfl) (by rfl) (by rfl) (by rfl) (fun _ => rfl) ?_
  refine dotC ab K c 2 0 rfl (by clear hQ; revert c; decide +kernel) rfl (by clear hQ; revert c; decide +kernel) (fun _ _ => rfl) ?_
  refine ldP ab K c 2 0 (by decide) (by clear hQ; revert c; decide +kernel) ?_
  refine psA ab K c _ 2 (by rfl) (by clear hQ; revert c; decide +kernel) (by rfl) (by rfl) (by rfl) (by rfl) (fun _ => rfl) ?_
  refine dotC ab K c 3 0 rfl (by clear hQ; revert c; decide +kernel) rfl (by clear hQ; revert c; decide +kernel) (fun _ _ => rfl) ?_
  refine ldP ab K c 3 0 (by decide) (by clear hQ; revert c; decide +kernel) ?_
  refine psA ab K c _ 3 (by rfl) (by clear hQ; revert c; decide +kernel) (by rfl) (by rfl) (by rfl) (by rfl) (fun _ => rfl) ?_
  refine dotC ab K c 0 1 rfl (by clear hQ; revert c; decide +kernel) rfl (by clear hQ; revert c; decide +kernel) (fun _ _ => rfl) ?_
  refine dotC ab K c 1 1 rfl (by clear hQ; revert c; decide +kernel) rfl (by clear hQ; revert c; decide +kernel) (fun _ _ => rfl) ?_
  refine dotC ab K c 2 1 rfl (by clear hQ; revert c; decide +kernel) rfl (by clear hQ; revert c; decide +kernel) (fun _ _ => rfl) ?_
  refine dotC ab K c 3 1 rfl (by clear hQ; revert c; decide +kernel) rfl (by clear hQ; revert c; decide +kernel) (fun _ _ => rfl) ?_
  refine waitC ab K c (0, .d1 0) (by rfl) (by decide +kernel) rfl (by rfl) (by rfl) ?_
  refine ldP ab K c 0 1 (by decide) (by clear hQ; revert c; decide +kernel) ?_
  refine ldA ab K c 0 (by decide +kernel) (by rfl) ?_
  refine psB ab K c _ 0 (by rfl) (by clear hQ; revert c; decide +kernel) (by rfl) (by rfl) (by rfl) (by rfl) (fun _ => rfl) ?_
  refine waitC ab K c (1, .d1 0) (by rfl) (by decide +kernel) rfl (by rfl) (by rfl) ?_
  refine ldP ab K c 1 1 (by decide) (by clear hQ; revert c; decide +kernel) ?_
  refine ldA ab K c 1 (by decide +kernel) (by rfl) ?_
  refine psB ab K c _ 1 (by rfl) (by clear hQ; revert c; decide +kernel) (by rfl) (by rfl) (by rfl) (by rfl) (fun _ => rfl) ?_
  refine waitC ab K c (2, .d1 0) (by rfl) (by decide +kernel) rfl (by rfl) (by rfl) ?_
  refine ldP ab K c 2 1 (by decide) (by clear hQ; revert c; decide +kernel) ?_
  refine ldA ab K c 2 (by decide +kernel) (by rfl) ?_
  refine psB ab K c _ 2 (by rfl) (by clear hQ; revert c; decide +kernel) (by rfl) (by rfl) (by rfl) (by rfl) (fun _ => rfl) ?_
  refine waitC ab K c (3, .d1 0) (by rfl) (by decide +kernel) rfl (by rfl) (by rfl) ?_
  refine ldP ab K c 3 1 (by decide) (by clear hQ; revert c; decide +kernel) ?_
  refine ldA ab K c 3 (by decide +kernel) (by rfl) ?_
  refine psB ab K c _ 3 (by rfl) (by clear hQ; revert c; decide +kernel) (by rfl) (by rfl) (by rfl) (by rfl) (fun _ => rfl) ?_
  refine dotC ab K c 0 2 rfl (by clear hQ; revert c; decide +kernel) rfl (by clear hQ; revert c; decide +kernel) (fun _ _ => rfl) ?_
  refine dotC ab K c 1 2 rfl (by clear hQ; revert c; decide +kernel) rfl (by clear hQ; revert c; decide +kernel) (fun _ _ => rfl) ?_
  refine dotC ab K c 2 2 rfl (by clear hQ; revert c; decide +kernel) rfl (by clear hQ; revert c; decide +kernel) (fun _ _ => rfl) ?_
  refine dotC ab K c 3 2 rfl (by clear hQ; revert c; decide +kernel) rfl (by clear hQ; revert c; decide +kernel) (fun _ _ => rfl) ?_
  refine waitC ab K c (0, .d1 1) (by rfl) (by decide +kernel) rfl (by rfl) (by rfl) ?_
  refine ldQ ab K c 0 2 0 (by decide) (by clear hQ; revert c; decide +kernel) ?_
  refine ldB ab K c 0 0 (by decide +kernel) (by clear hQ; revert c; decide +kernel) ?_
  refine psZ ab K c _ 0 0 (by rfl) (by clear hQ; revert c; decide +kernel) (by rfl) (by rfl) (by rfl) (by rfl) (fun _ => rfl) ?_
  refine ldQ ab K c 0 2 1 (by decide) (by clear hQ; revert c; decide +kernel) ?_
  refine ldB ab K c 0 1 (by decide +kernel) (by clear hQ; revert c; decide +kernel) ?_
  refine psZ ab K c _ 0 1 (by rfl) (by clear hQ; revert c; decide +kernel) (by rfl) (by rfl) (by rfl) (by rfl) (fun _ => rfl) ?_
  refine ldQ ab K c 0 2 2 (by decide) (by clear hQ; revert c; decide +kernel) ?_
  refine ldB ab K c 0 2 (by decide +kernel) (by clear hQ; revert c; decide +kernel) ?_
  refine psZ ab K c _ 0 2 (by rfl) (by clear hQ; revert c; decide +kernel) (by rfl) (by rfl) (by rfl) (by rfl) (fun _ => rfl) ?_
  refine ldQ ab K c 0 2 3 (by decide) (by clear hQ; revert c; decide +kernel) ?_
  refine ldB ab K c 0 3 (by decide +kernel) (by clear hQ; revert c; decide +kernel) ?_
  refine psZ ab K c _ 0 3 (by rfl) (by clear hQ; revert c; decide +kernel) (by rfl) (by rfl) (by rfl) (by rfl) (fun _ => rfl) ?_
  refine waitC ab K c (1, .d1 1) (by rfl) (by decide +kernel) rfl (by rfl) (by rfl) ?_
  refine ldQ ab K c 1 2 0 (by decide) (by clear hQ; revert c; decide +kernel) ?_
  refine ldB ab K c 1 0 (by decide +kernel) (by clear hQ; revert c; decide +kernel) ?_
  refine psZ ab K c _ 1 0 (by rfl) (by clear hQ; revert c; decide +kernel) (by rfl) (by rfl) (by rfl) (by rfl) (fun _ => rfl) ?_
  refine ldQ ab K c 1 2 1 (by decide) (by clear hQ; revert c; decide +kernel) ?_
  refine ldB ab K c 1 1 (by decide +kernel) (by clear hQ; revert c; decide +kernel) ?_
  refine psZ ab K c _ 1 1 (by rfl) (by clear hQ; revert c; decide +kernel) (by rfl) (by rfl) (by rfl) (by rfl) (fun _ => rfl) ?_
  refine ldQ ab K c 1 2 2 (by decide) (by clear hQ; revert c; decide +kernel) ?_
  refine ldB ab K c 1 2 (by decide +kernel) (by clear hQ; revert c; decide +kernel) ?_
  refine psZ ab K c _ 1 2 (by rfl) (by clear hQ; revert c; decide +kernel) (by rfl) (by rfl) (by rfl) (by rfl) (fun _ => rfl) ?_
  refine ldQ ab K c 1 2 3 (by decide) (by clear hQ; revert c; decide +kernel) ?_
  refine ldB ab K c 1 3 (by decide +kernel) (by clear hQ; revert c; decide +kernel) ?_
  refine psZ ab K c _ 1 3 (by rfl) (by clear hQ; revert c; decide +kernel) (by rfl) (by rfl) (by rfl) (by rfl) (fun _ => rfl) ?_
  refine waitC ab K c (2, .d1 1) (by rfl) (by decide +kernel) rfl (by rfl) (by rfl) ?_
  refine ldQ ab K c 2 2 0 (by decide) (by clear hQ; revert c; decide +kernel) ?_
  refine ldB ab K c 2 0 (by decide +kernel) (by clear hQ; revert c; decide +kernel) ?_
  refine psZ ab K c _ 2 0 (by rfl) (by clear hQ; revert c; decide +kernel) (by rfl) (by rfl) (by rfl) (by rfl) (fun _ => rfl) ?_
  refine ldQ ab K c 2 2 1 (by decide) (by clear hQ; revert c; decide +kernel) ?_
  refine ldB ab K c 2 1 (by decide +kernel) (by clear hQ; revert c; decide +kernel) ?_
  refine psZ ab K c _ 2 1 (by rfl) (by clear hQ; revert c; decide +kernel) (by rfl) (by rfl) (by rfl) (by rfl) (fun _ => rfl) ?_
  refine ldQ ab K c 2 2 2 (by decide) (by clear hQ; revert c; decide +kernel) ?_
  refine ldB ab K c 2 2 (by decide +kernel) (by clear hQ; revert c; decide +kernel) ?_
  refine psZ ab K c _ 2 2 (by rfl) (by clear hQ; revert c; decide +kernel) (by rfl) (by rfl) (by rfl) (by rfl) (fun _ => rfl) ?_
  refine ldQ ab K c 2 2 3 (by decide) (by clear hQ; revert c; decide +kernel) ?_
  refine ldB ab K c 2 3 (by decide +kernel) (by clear hQ; revert c; decide +kernel) ?_
  refine psZ ab K c _ 2 3 (by rfl) (by clear hQ; revert c; decide +kernel) (by rfl) (by rfl) (by rfl) (by rfl) (fun _ => rfl) ?_
  refine waitC ab K c (3, .d1 1) (by rfl) (by decide +kernel) rfl (by rfl) (by rfl) ?_
  refine ldQ ab K c 3 2 0 (by decide) (by clear hQ; revert c; decide +kernel) ?_
  refine ldB ab K c 3 0 (by decide +kernel) (by clear hQ; revert c; decide +kernel) ?_
  refine psZ ab K c _ 3 0 (by rfl) (by clear hQ; revert c; decide +kernel) (by rfl) (by rfl) (by rfl) (by rfl) (fun _ => rfl) ?_
  refine ldQ ab K c 3 2 1 (by decide) (by clear hQ; revert c; decide +kernel) ?_
  refine ldB ab K c 3 1 (by decide +kernel) (by clear hQ; revert c; decide +kernel) ?_
  refine psZ ab K c _ 3 1 (by rfl) (by clear hQ; revert c; decide +kernel) (by rfl) (by rfl) (by rfl) (by rfl) (fun _ => rfl) ?_
  refine ldQ ab K c 3 2 2 (by decide) (by clear hQ; revert c; decide +kernel) ?_
  refine ldB ab K c 3 2 (by decide +kernel) (by clear hQ; revert c; decide +kernel) ?_
  refine psZ ab K c _ 3 2 (by rfl) (by clear hQ; revert c; decide +kernel) (by rfl) (by rfl) (by rfl) (by rfl) (fun _ => rfl) ?_
  refine ldQ ab K c 3 2 3 (by decide) (by clear hQ; revert c; decide +kernel) ?_
  refine ldB ab K c 3 3 (by decide +kernel) (by clear hQ; revert c; decide +kernel) ?_
  refine psZ ab K c _ 3 3 (by rfl) (by clear hQ; revert c; decide +kernel) (by rfl) (by rfl) (by rfl) (by rfl) (fun _ => rfl) ?_
  refine dotC ab K c 0 3 rfl (by clear hQ; revert c; decide +kernel) rfl (by clear hQ; revert c; decide +kernel) (fun _ _ => rfl) ?_
  refine dotC ab K c 1 3 rfl (by clear hQ; revert c; decide +kernel) rfl (by clear hQ; revert c; decide +kernel) (fun _ _ => rfl) ?_
  refine dotC ab K c 2 3 rfl (by clear hQ; revert c; decide +kernel) rfl (by clear hQ; revert c; decide +kernel) (fun _ _ => rfl) ?_
  refine dotC ab K c 3 3 rfl (by clear hQ; revert c; decide +kernel) rfl (by clear hQ; revert c; decide +kernel) (fun _ _ => rfl) ?_
  refine waitC ab K c (0, .z 0) (by rfl) (by decide +kernel) rfl (by rfl) (by rfl) ?_
  refine ldQ ab K c 0 3 0 (by decide) (by clear hQ; revert c; decide +kernel) ?_
  refine ldZ ab K c 0 0 (by decide +kernel) (by rfl) ?_
  refine psD ab K c _ 0 (by rfl) (by clear hQ; revert c; decide +kernel) (by rfl) (by rfl) (by rfl) (by rfl) (fun _ => rfl) ?_
  refine waitC ab K c (1, .z 0) (by rfl) (by decide +kernel) rfl (by rfl) (by rfl) ?_
  refine ldQ ab K c 1 3 0 (by decide) (by clear hQ; revert c; decide +kernel) ?_
  refine ldZ ab K c 1 0 (by decide +kernel) (by rfl) ?_
  refine psD ab K c _ 1 (by rfl) (by clear hQ; revert c; decide +kernel) (by rfl) (by rfl) (by rfl) (by rfl) (fun _ => rfl) ?_
  refine waitC ab K c (2, .z 0) (by rfl) (by decide +kernel) rfl (by rfl) (by rfl) ?_
  refine ldQ ab K c 2 3 0 (by decide) (by clear hQ; revert c; decide +kernel) ?_
  refine ldZ ab K c 2 0 (by decide +kernel) (by rfl) ?_
  refine psD ab K c _ 2 (by rfl) (by clear hQ; revert c; decide +kernel) (by rfl) (by rfl) (by rfl) (by rfl) (fun _ => rfl) ?_
  refine waitC ab K c (3, .z 0) (by rfl) (by decide +kernel) rfl (by rfl) (by rfl) ?_
  refine ldQ ab K c 3 3 0 (by decide) (by clear hQ; revert c; decide +kernel) ?_
  refine ldZ ab K c 3 0 (by decide +kernel) (by rfl) ?_
  refine psD ab K c _ 3 (by rfl) (by clear hQ; revert c; decide +kernel) (by rfl) (by rfl) (by rfl) (by rfl) (fun _ => rfl) ?_
  refine waitC ab K c (0, .d2 0) (by rfl) (by decide +kernel) rfl (by rfl) (by rfl) ?_
  refine waitC ab K c (0, .z 1) (by rfl) (by decide +kernel) rfl (by rfl) (by rfl) ?_
  refine ldQ ab K c 0 3 1 (by decide) (by clear hQ; revert c; decide +kernel) ?_
  refine ldZ ab K c 0 1 (by decide +kernel) (by rfl) ?_
  refine ldD ab K c 0 0 (by decide +kernel) (by rfl) ?_
  refine psE ab K c _ 0 0 (by rfl) (by clear hQ; revert c; decide +kernel) (by rfl) (by rfl) (by rfl) (by rfl) (fun _ => rfl) ?_
  refine waitC ab K c (1, .d2 0) (by rfl) (by decide +kernel) rfl (by rfl) (by rfl) ?_
  refine waitC ab K c (1, .z 1) (by rfl) (by decide +kernel) rfl (by rfl) (by rfl) ?_
  refine ldQ ab K c 1 3 1 (by decide) (by clear hQ; revert c; decide +kernel) ?_
  refine ldZ ab K c 1 1 (by decide +kernel) (by rfl) ?_
  refine ldD ab K c 1 0 (by decide +kernel) (by rfl) ?_
  refine psE ab K c _ 1 0 (by rfl) (by clear hQ; revert c; decide +kernel) (by rfl) (by rfl) (by rfl) (by rfl) (fun _ => rfl) ?_
  refine waitC ab K c (2, .d2 0) (by rfl) (by decide +kernel) rfl (by rfl) (by rfl) ?_
  refine waitC ab K c (2, .z 1) (by rfl) (by decide +kernel) rfl (by rfl) (by rfl) ?_
  refine ldQ ab K c 2 3 1 (by decide) (by clear hQ; revert c; decide +kernel) ?_
  refine ldZ ab K c 2 1 (by decide +kernel) (by rfl) ?_
  refine ldD ab K c 2 0 (by decide +kernel) (by rfl) ?_
  refine psE ab K c _ 2 0 (by rfl) (by clear hQ; revert c; decide +kernel) (by rfl) (by rfl) (by rfl) (by rfl) (fun _ => rfl) ?_
  refine waitC ab K c (3, .d2 0) (by rfl) (by decide +kernel) rfl (by rfl) (by rfl) ?_
  refine waitC ab K c (3, .z 1) (by rfl) (by decide +kernel) rfl (by rfl) (by rfl) ?_
  refine ldQ ab K c 3 3 1 (by decide) (by clear hQ; revert c; decide +kernel) ?_
  refine ldZ ab K c 3 1 (by decide +kernel) (by rfl) ?_
  refine ldD ab K c 3 0 (by decide +kernel) (by rfl) ?_
  refine psE ab K c _ 3 0 (by rfl) (by clear hQ; revert c; decide +kernel) (by rfl) (by rfl) (by rfl) (by rfl) (fun _ => rfl) ?_
  refine waitC ab K c (0, .d2 1) (by rfl) (by decide +kernel) rfl (by rfl) (by rfl) ?_
  refine waitC ab K c (0, .z 2) (by rfl) (by decide +kernel) rfl (by rfl) (by rfl) ?_
  refine ldQ ab K c 0 3 2 (by decide) (by clear hQ; revert c; decide +kernel) ?_
  refine ldZ ab K c 0 2 (by decide +kernel) (by rfl) ?_
  refine ldD ab K c 0 1 (by decide +kernel) (by rfl) ?_
  refine psE ab K c _ 0 1 (by rfl) (by clear hQ; revert c; decide +kernel) (by rfl) (by rfl) (by rfl) (by rfl) (fun _ => rfl) ?_
  refine waitC ab K c (1, .d2 1) (by rfl) (by decide +kernel) rfl (by rfl) (by rfl) ?_
  refine waitC ab K c (1, .z 2) (by rfl) (by decide +kernel) rfl (by rfl) (by rfl) ?_
  refine ldQ ab K c 1 3 2 (by decide) (by clear hQ; revert c; decide +kernel) ?_
  refine ldZ ab K c 1 2 (by decide +kernel) (by rfl) ?_
  refine ldD ab K c 1 1 (by decide +kernel) (by rfl) ?_
  refine psE ab K c _ 1 1 (by rfl) (by clear hQ; revert c; decide +kernel) (by rfl) (by rfl) (by rfl) (by rfl) (fun _ => rfl) ?_
  refine waitC ab K c (2, .d2 1) (by rfl) (by decide +kernel) rfl (by rfl) (by rfl) ?_
  refine waitC ab K c (2, .z 2) (by rfl) (by decide +kernel) rfl (by rfl) (by rfl) ?_
  refine ldQ ab K c 2 3 2 (by decide) (by clear hQ; revert c; decide +kernel) ?_
  refine ldZ ab K c 2 2 (by decide +kernel) (by rfl) ?_
  refine ldD ab K c 2 1 (by decide +kernel) (by rfl) ?_
  refine psE ab K c _ 2 1 (by rfl) (by clear hQ; revert c; decide +kernel) (by rfl) (by rfl) (by rfl) (by rfl) (fun _ => rfl) ?_
  refine waitC ab K c (3, .d2 1) (by rfl) (by decide +kernel) rfl (by rfl) (by rfl) ?_
  refine waitC ab K c (3, .z 2) (by rfl) (by decide +kernel) rfl (by rfl) (by rfl) ?_
  refine ldQ ab K c 3 3 2 (by decide) (by clear hQ; revert c; decide +kernel) ?_
  refine ldZ ab K c 3 2 (by decide +kernel) (by rfl) ?_
  refine ldD ab K c 3 1 (by decide +kernel) (by rfl) ?_
  refine psE ab K c _ 3 1 (by rfl) (by clear hQ; revert c; decide +kernel) (by rfl) (by rfl) (by rfl) (by rfl) (fun _ => rfl) ?_
  refine waitC ab K c (0, .d2 2) (by rfl) (by decide +kernel) rfl (by rfl) (by rfl) ?_
  refine waitC ab K c (0, .z 3) (by rfl) (by decide +kernel) rfl (by rfl) (by rfl) ?_
  refine ldQ ab K c 0 3 3 (by decide) (by clear hQ; revert c; decide +kernel) ?_
  refine ldZ ab K c 0 3 (by decide +kernel) (by rfl) ?_
  refine ldD ab K c 0 2 (by decide +kernel) (by rfl) ?_
  refine ownC ab K c 0 (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) (by clear hQ; revert c; decide +kernel) (fun _ => rfl) ?_
  refine waitC ab K c (1, .d2 2) (by rfl) (by decide +kernel) rfl (by rfl) (by rfl) ?_
  refine waitC ab K c (1, .z 3) (by rfl) (by decide +kernel) rfl (by rfl) (by rfl) ?_
  refine ldQ ab K c 1 3 3 (by decide) (by clear hQ; revert c; decide +kernel) ?_
  refine ldZ ab K c 1 3 (by decide +kernel) (by rfl) ?_
  refine ldD ab K c 1 2 (by decide +kernel) (by rfl) ?_
  refine ownC ab K c 1 (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) (by clear hQ; revert c; decide +kernel) (fun _ => rfl) ?_
  refine waitC ab K c (2, .d2 2) (by rfl) (by decide +kernel) rfl (by rfl) (by rfl) ?_
  refine waitC ab K c (2, .z 3) (by rfl) (by decide +kernel) rfl (by rfl) (by rfl) ?_
  refine ldQ ab K c 2 3 3 (by decide) (by clear hQ; revert c; decide +kernel) ?_
  refine ldZ ab K c 2 3 (by decide +kernel) (by rfl) ?_
  refine ldD ab K c 2 2 (by decide +kernel) (by rfl) ?_
  refine ownC ab K c 2 (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) (by clear hQ; revert c; decide +kernel) (fun _ => rfl) ?_
  refine waitC ab K c (3, .d2 2) (by rfl) (by decide +kernel) rfl (by rfl) (by rfl) ?_
  refine waitC ab K c (3, .z 3) (by rfl) (by decide +kernel) rfl (by rfl) (by rfl) ?_
  refine ldQ ab K c 3 3 3 (by decide) (by clear hQ; revert c; decide +kernel) ?_
  refine ldZ ab K c 3 3 (by decide +kernel) (by rfl) ?_
  refine ldD ab K c 3 2 (by decide +kernel) (by rfl) ?_
  refine ownC ab K c 3 (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) (by clear hQ; revert c; decide +kernel) (fun _ => rfl) ?_
  refine fwdC ab K c 0 0 (by rfl) (by rfl) (by rfl) (by decide +kernel) (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) ?_
  refine fwdC ab K c 1 0 (by rfl) (by rfl) (by rfl) (by decide +kernel) (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) ?_
  refine fwdC ab K c 2 0 (by rfl) (by rfl) (by rfl) (by decide +kernel) (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) ?_
  refine fwdC ab K c 3 0 (by rfl) (by rfl) (by rfl) (by decide +kernel) (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) ?_
  refine fwdC ab K c 0 1 (by rfl) (by rfl) (by rfl) (by decide +kernel) (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) ?_
  refine fwdC ab K c 1 1 (by rfl) (by rfl) (by rfl) (by decide +kernel) (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) ?_
  refine fwdC ab K c 2 1 (by rfl) (by rfl) (by rfl) (by decide +kernel) (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) ?_
  refine fwdC ab K c 3 1 (by rfl) (by rfl) (by rfl) (by decide +kernel) (by rfl) (by rfl) (by clear hQ; revert c; decide +kernel) (by rfl) (by rfl) (by rfl) (by clear hQ; revert c; decide +kernel) (by clear hQ; revert c; decide +kernel) (by clear hQ; revert c; decide +kernel) (by rfl) (by rfl) (by rfl) (by clear hQ; revert c; decide +kernel) (by clear hQ; revert c; decide +kernel) ?_
  refine on3C ab K c 0 (by rfl) (by rfl) (by decide +kernel) (by rfl) (by rfl) (by clear hQ; revert c; decide +kernel) (by rfl) (by rfl) (by rfl) (by clear hQ; revert c; decide +kernel) (by clear hQ; revert c; decide +kernel) ?_
  refine on3C ab K c 1 (by rfl) (by rfl) (by decide +kernel) (by rfl) (by rfl) (by clear hQ; revert c; decide +kernel) (by rfl) (by rfl) (by rfl) (by clear hQ; revert c; decide +kernel) (by clear hQ; revert c; decide +kernel) ?_
  refine on3C ab K c 2 (by rfl) (by rfl) (by decide +kernel) (by rfl) (by rfl) (by clear hQ; revert c; decide +kernel) (by rfl) (by rfl) (by rfl) (by clear hQ; revert c; decide +kernel) (by clear hQ; revert c; decide +kernel) ?_
  refine on3C ab K c 3 (by rfl) (by rfl) (by decide +kernel) (by rfl) (by rfl) (by clear hQ; revert c; decide +kernel) (by rfl) (by rfl) (by rfl) (by clear hQ; revert c; decide +kernel) (by clear hQ; revert c; decide +kernel) ?_
  refine on4C ab K c 0 0 (by rfl) (by rfl) (by decide +kernel) (by rfl) (by rfl) (by clear hQ; revert c; decide +kernel) (by rfl) (by rfl) (by rfl) (by clear hQ; revert c; decide +kernel) (by clear hQ; revert c; decide +kernel) ?_
  refine on4C ab K c 1 0 (by rfl) (by rfl) (by decide +kernel) (by rfl) (by rfl) (by clear hQ; revert c; decide +kernel) (by rfl) (by rfl) (by rfl) (by clear hQ; revert c; decide +kernel) (by clear hQ; revert c; decide +kernel) ?_
  refine on4C ab K c 2 0 (by rfl) (by rfl) (by decide +kernel) (by rfl) (by rfl) (by clear hQ; revert c; decide +kernel) (by rfl) (by rfl) (by rfl) (by clear hQ; revert c; decide +kernel) (by clear hQ; revert c; decide +kernel) ?_
  refine on4C ab K c 3 0 (by rfl) (by rfl) (by decide +kernel) (by rfl) (by rfl) (by clear hQ; revert c; decide +kernel) (by rfl) (by rfl) (by rfl) (by clear hQ; revert c; decide +kernel) (by clear hQ; revert c; decide +kernel) ?_
  refine on4C ab K c 0 1 (by rfl) (by rfl) (by decide +kernel) (by rfl) (by rfl) (by clear hQ; revert c; decide +kernel) (by rfl) (by rfl) (by rfl) (by clear hQ; revert c; decide +kernel) (by clear hQ; revert c; decide +kernel) ?_
  refine on4C ab K c 1 1 (by rfl) (by rfl) (by decide +kernel) (by rfl) (by rfl) (by clear hQ; revert c; decide +kernel) (by rfl) (by rfl) (by rfl) (by clear hQ; revert c; decide +kernel) (by clear hQ; revert c; decide +kernel) ?_
  refine on4C ab K c 2 1 (by rfl) (by rfl) (by decide +kernel) (by rfl) (by rfl) (by clear hQ; revert c; decide +kernel) (by rfl) (by rfl) (by rfl) (by clear hQ; revert c; decide +kernel) (by clear hQ; revert c; decide +kernel) ?_
  refine on4C ab K c 3 1 (by rfl) (by rfl) (by decide +kernel) (by rfl) (by rfl) (by clear hQ; revert c; decide +kernel) (by rfl) (by rfl) (by rfl) (by clear hQ; revert c; decide +kernel) (by clear hQ; revert c; decide +kernel) ?_
  refine on4C ab K c 0 2 (by rfl) (by rfl) (by decide +kernel) (by rfl) (by rfl) (by clear hQ; revert c; decide +kernel) (by rfl) (by rfl) (by rfl) (by clear hQ; revert c; decide +kernel) (by clear hQ; revert c; decide +kernel) ?_
  refine on4C ab K c 1 2 (by rfl) (by rfl) (by decide +kernel) (by rfl) (by rfl) (by clear hQ; revert c; decide +kernel) (by rfl) (by rfl) (by rfl) (by clear hQ; revert c; decide +kernel) (by clear hQ; revert c; decide +kernel) ?_
  refine on4C ab K c 2 2 (by rfl) (by rfl) (by decide +kernel) (by rfl) (by rfl) (by clear hQ; revert c; decide +kernel) (by rfl) (by rfl) (by rfl) (by clear hQ; revert c; decide +kernel) (by clear hQ; revert c; decide +kernel) ?_
  refine on4C ab K c 3 2 (by rfl) (by rfl) (by decide +kernel) (by rfl) (by rfl) (by clear hQ; revert c; decide +kernel) (by rfl) (by rfl) (by rfl) (by clear hQ; revert c; decide +kernel) (by clear hQ; revert c; decide +kernel) ?_
  refine on4C ab K c 0 3 (by rfl) (by rfl) (by decide +kernel) (by rfl) (by rfl) (by clear hQ; revert c; decide +kernel) (by rfl) (by rfl) (by rfl) (by clear hQ; revert c; decide +kernel) (by clear hQ; revert c; decide +kernel) ?_
  refine on4C ab K c 1 3 (by rfl) (by rfl) (by decide +kernel) (by rfl) (by rfl) (by clear hQ; revert c; decide +kernel) (by rfl) (by rfl) (by rfl) (by clear hQ; revert c; decide +kernel) (by clear hQ; revert c; decide +kernel) ?_
  refine on4C ab K c 2 3 (by rfl) (by rfl) (by decide +kernel) (by rfl) (by rfl) (by clear hQ; revert c; decide +kernel) (by rfl) (by rfl) (by rfl) (by clear hQ; revert c; decide +kernel) (by clear hQ; revert c; decide +kernel) ?_
  refine on4C ab K c 3 3 (by rfl) (by rfl) (by decide +kernel) (by rfl) (by rfl) (by clear hQ; revert c; decide +kernel) (by rfl) (by rfl) (by rfl) (by clear hQ; revert c; decide +kernel) (by clear hQ; revert c; decide +kernel) ?_
  refine on4C ab K c 0 4 (by rfl) (by rfl) (by decide +kernel) (by rfl) (by rfl) (by clear hQ; revert c; decide +kernel) (by rfl) (by rfl) (by rfl) (by clear hQ; revert c; decide +kernel) (by clear hQ; revert c; decide +kernel) ?_
  refine on4C ab K c 1 4 (by rfl) (by rfl) (by decide +kernel) (by rfl) (by rfl) (by clear hQ; revert c; decide +kernel) (by rfl) (by rfl) (by rfl) (by clear hQ; revert c; decide +kernel) (by clear hQ; revert c; decide +kernel) ?_
  refine on4C ab K c 2 4 (by rfl) (by rfl) (by decide +kernel) (by rfl) (by rfl) (by clear hQ; revert c; decide +kernel) (by rfl) (by rfl) (by rfl) (by clear hQ; revert c; decide +kernel) (by clear hQ; revert c; decide +kernel) ?_
  refine on4C ab K c 3 4 (by rfl) (by rfl) (by decide +kernel) (by rfl) (by rfl) (by clear hQ; revert c; decide +kernel) (by rfl) (by rfl) (by rfl) (by clear hQ; revert c; decide +kernel) (by clear hQ; revert c; decide +kernel) ?_
  refine on4C ab K c 0 5 (by rfl) (by rfl) (by decide +kernel) (by rfl) (by rfl) (by clear hQ; revert c; decide +kernel) (by rfl) (by rfl) (by rfl) (by clear hQ; revert c; decide +kernel) (by clear hQ; revert c; decide +kernel) ?_
  refine on4C ab K c 1 5 (by rfl) (by rfl) (by decide +kernel) (by rfl) (by rfl) (by clear hQ; revert c; decide +kernel) (by rfl) (by rfl) (by rfl) (by clear hQ; revert c; decide +kernel) (by clear hQ; revert c; decide +kernel) ?_
  refine on4C ab K c 2 5 (by rfl) (by rfl) (by decide +kernel) (by rfl) (by rfl) (by clear hQ; revert c; decide +kernel) (by rfl) (by rfl) (by rfl) (by clear hQ; revert c; decide +kernel) (by clear hQ; revert c; decide +kernel) ?_
  refine on4C ab K c 3 5 (by rfl) (by rfl) (by decide +kernel) (by rfl) (by rfl) (by clear hQ; revert c; decide +kernel) (by rfl) (by rfl) (by rfl) (by clear hQ; revert c; decide +kernel) (by clear hQ; revert c; decide +kernel) ?_
  refine on4C ab K c 0 6 (by rfl) (by rfl) (by decide +kernel) (by rfl) (by rfl) (by clear hQ; revert c; decide +kernel) (by rfl) (by rfl) (by rfl) (by clear hQ; revert c; decide +kernel) (by clear hQ; revert c; decide +kernel) ?_
  refine on4C ab K c 1 6 (by rfl) (by rfl) (by decide +kernel) (by rfl) (by rfl) (by clear hQ; revert c; decide +kernel) (by rfl) (by rfl) (by rfl) (by clear hQ; revert c; decide +kernel) (by clear hQ; revert c; decide +kernel) ?_
  refine on4C ab K c 2 6 (by rfl) (by rfl) (by decide +kernel) (by rfl) (by rfl) (by clear hQ; revert c; decide +kernel) (by rfl) (by rfl) (by rfl) (by clear hQ; revert c; decide +kernel) (by clear hQ; revert c; decide +kernel) ?_
  refine on4C ab K c 3 6 (by rfl) (by rfl) (by decide +kernel) (by rfl) (by rfl) (by clear hQ; revert c; decide +kernel) (by rfl) (by rfl) (by rfl) (by clear hQ; revert c; decide +kernel) (by clear hQ; revert c; decide +kernel) ?_
  refine on4C ab K c 0 7 (by rfl) (by rfl) (by decide +kernel) (by rfl) (by rfl) (by clear hQ; revert c; decide +kernel) (by rfl) (by rfl) (by rfl) (by clear hQ; revert c; decide +kernel) (by clear hQ; revert c; decide +kernel) ?_
  refine on4C ab K c 1 7 (by rfl) (by rfl) (by decide +kernel) (by rfl) (by rfl) (by clear hQ; revert c; decide +kernel) (by rfl) (by rfl) (by rfl) (by clear hQ; revert c; decide +kernel) (by clear hQ; revert c; decide +kernel) ?_
  refine on4C ab K c 2 7 (by rfl) (by rfl) (by decide +kernel) (by rfl) (by rfl) (by clear hQ; revert c; decide +kernel) (by rfl) (by rfl) (by rfl) (by clear hQ; revert c; decide +kernel) (by clear hQ; revert c; decide +kernel) ?_
  refine on4C ab K c 3 7 (by rfl) (by rfl) (by decide +kernel) (by rfl) (by rfl) (by clear hQ; revert c; decide +kernel) (by rfl) (by rfl) (by rfl) (by clear hQ; revert c; decide +kernel) (by clear hQ; revert c; decide +kernel) ?_
  refine waitC ab K c (0, .d4 8) (by rfl) (by decide +kernel) rfl (by rfl) (by rfl) ?_
  refine waitC ab K c (1, .d4 8) (by rfl) (by decide +kernel) rfl (by rfl) (by rfl) ?_
  refine waitC ab K c (2, .d4 8) (by rfl) (by decide +kernel) rfl (by rfl) (by rfl) ?_
  refine waitC ab K c (3, .d4 8) (by rfl) (by decide +kernel) rfl (by rfl) (by rfl) ?_
  refine waitC ab K c (0, .d4 9) (by rfl) (by decide +kernel) rfl (by rfl) (by rfl) ?_
  refine waitC ab K c (1, .d4 9) (by rfl) (by decide +kernel) rfl (by rfl) (by rfl) ?_
  refine waitC ab K c (2, .d4 9) (by rfl) (by decide +kernel) rfl (by rfl) (by rfl) ?_
  refine waitC ab K c (3, .d4 9) (by rfl) (by decide +kernel) rfl (by rfl) (by rfl) ?_
  refine waitC ab K c (0, .d4 10) (by rfl) (by decide +kernel) rfl (by rfl) (by rfl) ?_
  refine waitC ab K c (1, .d4 10) (by rfl) (by decide +kernel) rfl (by rfl) (by rfl) ?_
  refine waitC ab K c (2, .d4 10) (by rfl) (by decide +kernel) rfl (by rfl) (by rfl) ?_
  refine waitC ab K c (3, .d4 10) (by rfl) (by decide +kernel) rfl (by rfl) (by rfl) ?_
  refine waitC ab K c (0, .d4 11) (by rfl) (by decide +kernel) rfl (by rfl) (by rfl) ?_
  refine waitC ab K c (1, .d4 11) (by rfl) (by decide +kernel) rfl (by rfl) (by rfl) ?_
  refine waitC ab K c (2, .d4 11) (by rfl) (by decide +kernel) rfl (by rfl) (by rfl) ?_
  refine waitC ab K c (3, .d4 11) (by rfl) (by decide +kernel) rfl (by rfl) (by rfl) ?_
  refine (St_Se ab K c).trans ?_
  iterate 96 refine endC ab K c _ (by rfl) (by rfl) (by rfl) ?_
  exact retC c hQ

end Cert.AllReduce

end
-- ==== Proof.Pieces.lean ====
module

public import proofs.«01_k».proof.Proof.Blocks

/-!
# Cutting a buffer into pieces, and joining them

`Cuts r` says that the rectangles `r` tile a buffer. A buffer owned at any contents is then its pieces, each at any
contents, and the other way round; pieces at known values make a buffer at the values glued together (`glue`). The
module ends with the four ways the kernel's buffers are cut.

-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

section
variable {sh : Shape} {e : EltTy} {I : Type} [Fintype I] [DecidableEq I]

/-- The rectangles `r` have stride one, are pairwise disjoint and cover the shape. -/
structure Cuts (r : I → Rect sh) : Prop where
  unit : ∀ t a, (r t).stride a = 1
  disj : ∀ t t', t ≠ t' → Disjoint (r t).set (r t').set
  cover : (Finset.univ : Finset I).biUnion (fun t => (r t).set) = Finset.univ

omit [DecidableEq I] in
/-- Rectangles of stride one tile a shape as soon as each index lies in one of them, and in no two. -/
theorem Cuts.of (r : I → Rect sh) (unit : ∀ t a, (r t).stride a = 1)
    (one : ∀ (i : sh.Idx) t t', (∀ a, (r t).off a ≤ (i a : ℕ) ∧ (i a : ℕ) < (r t).off a + (r t).size a) →
      (∀ a, (r t').off a ≤ (i a : ℕ) ∧ (i a : ℕ) < (r t').off a + (r t').size a) → t = t')
    (some : ∀ i : sh.Idx, ∃ t, ∀ a, (r t).off a ≤ (i a : ℕ) ∧ (i a : ℕ) < (r t).off a + (r t).size a) : Cuts r := by
  have mem : ∀ t (i : sh.Idx), i ∈ (r t).set ↔ ∀ a, (r t).off a ≤ (i a : ℕ) ∧ (i a : ℕ) < (r t).off a + (r t).size a := by
    intro t i
    rw [LoadRect.mem_set]
    refine forall_congr' fun a => ?_
    rw [unit t a]
    constructor
    · rintro ⟨j, hj, h⟩; omega
    · rintro ⟨h1, h2⟩; exact ⟨i a - (r t).off a, by omega, by omega⟩
  refine ⟨unit, fun t t' ht => ?_, ?_⟩
  · rw [Finset.disjoint_left]
    intro i hi hi'
    exact ht (one i t t' ((mem t i).mp hi) ((mem t' i).mp hi'))
  · ext i
    obtain ⟨t, ht⟩ := some i
    exact ⟨fun _ => Finset.mem_univ _, fun _ => Finset.mem_biUnion.mpr ⟨t, Finset.mem_univ _, (mem t i).mpr ht⟩⟩

/-- The values that are `Y t` on rectangle `r t`. -/
def glue (r : I → Rect sh) (Y : ∀ t, (r t).shape.Idx → Elt F e) : sh.Idx → Elt F e :=
  Function.extend (fun p : Σ t, (r t).shape.Idx => (r p.1).emb p.2) (fun p => Y p.1 p.2) fun _ => Classical.arbitrary _

omit [Fintype I] [DecidableEq I] in
theorem glue_emb {r : I → Rect sh} (hd : ∀ t t', t ≠ t' → Disjoint (r t).set (r t').set)
    (Y : ∀ t, (r t).shape.Idx → Elt F e) (t : I) (j : (r t).shape.Idx) : glue r Y ((r t).emb j) = Y t j := by
  have hinj : Function.Injective (fun p : Σ t, (r t).shape.Idx => (r p.1).emb p.2) := by
    rintro ⟨t, j⟩ ⟨t', j'⟩ h
    by_cases ht : t = t'
    · subst ht
      have : j = j' := (r t).emb.injective h
      rw [this]
    · have h1 : (r t).emb j ∈ (r t).set := (r t).idx_mem j
      have h2 : (r t').emb j' ∈ (r t').set := (r t').idx_mem j'
      have h' : (r t).emb j = (r t').emb j' := h
      exact absurd (h' ▸ h2) (Finset.disjoint_left.mp (hd t t' ht) h1)
  exact hinj.extend_apply _ _ ⟨t, j⟩

/-- Memref `m` of device `c`, at any contents. -/
def any (c : Dev nD) (m : Memref sig .tc .vmem sh e) : sProp 𝕄 := iprop(∃ Y, owns (Ix := Unit) (Name := ℕ) (U := UU) (Lvl := ℕ) (Val := Elt F) (c : Thread nD τ) m fullShare Y)

omit [FloatOps F] [Fintype I] [DecidableEq I] in
theorem piece_any (c : Dev nD) (m : Memref sig .tc .vmem sh e) (R : Rect sh) (hR) (X : R.shape.Idx → Elt F e) :
    piece (F := F) c m R hR fullShare X ⊢ iprop(∃ Y, piece (F := F) c m R hR fullShare Y) := by
  iintro H; iexists X; iexact H

omit [FloatOps F] in
/-- A buffer at any contents is cut into its pieces, each at any contents. -/
theorem cut_any {r : I → Rect sh} (h : Cuts r) (c : Dev nD) (m : Memref sig .tc .vmem sh e) :
    any (F := F) c m ⊢ bigSep Finset.univ fun t => iprop(∃ Y, piece (F := F) c m (r t) (h.unit t) fullShare Y) := by
  unfold any
  iintro ⟨%X, H⟩
  ihave H := (owns_rects (c : Thread nD τ) m fullShare r h.unit h.disj h.cover X) $$ H
  have hm : (bigSep Finset.univ fun t => piece (F := F) c m (r t) (h.unit t) fullShare fun j => X ((r t).emb j))
      ⊢ bigSep Finset.univ fun t => iprop(∃ Y, piece (F := F) c m (r t) (h.unit t) fullShare Y) :=
    bigSep_mono fun t _ => piece_any c m (r t) (h.unit t) _
  iapply hm $$ H

/-- Pieces at known values are the buffer at those values glued together. -/
theorem join_at {r : I → Rect sh} (h : Cuts r) (c : Dev nD) (m : Memref sig .tc .vmem sh e) (Y : ∀ t, (r t).shape.Idx → Elt F e) :
    (bigSep Finset.univ fun t => piece (F := F) c m (r t) (h.unit t) fullShare (Y t))
      ⊢ owns (Ix := Unit) (Name := ℕ) (U := UU) (Lvl := ℕ) (c : Thread nD τ) m fullShare (glue r Y) := by
  have e1 : ∀ t, Y t = fun j => glue r Y ((r t).emb j) := fun t => funext fun j => (glue_emb h.disj Y t j).symm
  refine BIBase.Entails.trans (Entails.of_eq (bigSep_congr fun t _ => ?_)) (owns_of_rects (c : Thread nD τ) m fullShare r h.unit h.disj h.cover (glue r Y))
  rw [← e1 t]

/-- Pieces at any contents are the buffer at some contents. -/
theorem join_any {r : I → Rect sh} (h : Cuts r) (c : Dev nD) (m : Memref sig .tc .vmem sh e) :
    (bigSep Finset.univ fun t => iprop(∃ Y, piece (F := F) c m (r t) (h.unit t) fullShare Y)) ⊢ any (F := F) c m := by
  have : ∀ t, Nonempty ((r t).shape.Idx → Elt F e) := fun t => ⟨fun _ => Classical.arbitrary _⟩
  refine BIBase.Entails.trans (BI.bigSep_exists_pi Finset.univ fun t (Y : (r t).shape.Idx → Elt F e) => piece (F := F) c m (r t) (h.unit t) fullShare Y) ?_
  unfold any
  iintro ⟨%Y, H⟩
  iexists glue r Y
  iapply (join_at h c m Y) $$ H
end

/-! ## The cuts of the kernel's buffers -/

/-- A column belongs to one stream, -/
theorem strm (n : ℕ) (h : n < 1536) : ∃ S : Fin 4, c0 S ≤ n ∧ n < c0 S + w S := by
  by_cases h1 : n < 512; · exact ⟨0, by simp only [c0, w]; omega⟩
  by_cases h2 : n < 1024; · exact ⟨1, by simp only [c0, w]; omega⟩
  by_cases h3 : n < 1280; · exact ⟨2, by simp only [c0, w]; omega⟩
  exact ⟨3, by simp only [c0, w]; omega⟩

/-- and to one only. -/
theorem strm_one (n : ℕ) (S S' : Fin 4) (h : c0 S ≤ n ∧ n < c0 S + w S) (h' : c0 S' ≤ n ∧ n < c0 S' + w S') : S = S' := by
  match S, S' with
  | 0, 0 | 1, 1 | 2, 2 | 3, 3 => rfl
  | 0, 1 | 0, 2 | 0, 3 | 1, 0 | 1, 2 | 1, 3 | 2, 0 | 2, 1 | 2, 3 | 3, 0 | 3, 1 | 3, 2 => simp only [c0, w] at h h'; omega

theorem cutP : Cuts (fun t : Fin 4 × Fin 4 => Rp t.1 t.2) := by
  refine Cuts.of _ (fun _ _ => rfl) ?_ ?_
  · rintro i ⟨S, a⟩ ⟨S', a'⟩ h h'
    have h0 : 384 * a.val ≤ (i 0 : ℕ) ∧ (i 0 : ℕ) < 384 * a.val + 384 := h 0
    have h0' : 384 * a'.val ≤ (i 0 : ℕ) ∧ (i 0 : ℕ) < 384 * a'.val + 384 := h' 0
    have hS : S = S' := strm_one (i 1 : ℕ) S S' (h 1) (h' 1)
    have ha : a = a' := Fin.ext (by omega)
    rw [hS, ha]
  · intro i
    have h0 : (i 0 : ℕ) < 1536 := (i 0).isLt
    obtain ⟨S, hS⟩ := strm (i 1 : ℕ) (i 1).isLt
    refine ⟨(S, ⟨(i 0 : ℕ) / 384, by omega⟩), fun a => ?_⟩
    match a with
    | 0 => show 384 * ((i 0 : ℕ) / 384) ≤ (i 0 : ℕ) ∧ (i 0 : ℕ) < 384 * ((i 0 : ℕ) / 384) + 384; omega
    | 1 => exact hS

theorem cutO : Cuts (fun t : Fin 4 × (Fin 4 × Fin 4) => Ro t.1 t.2.1 t.2.2) := by
  refine Cuts.of _ (fun _ _ => rfl) ?_ ?_
  · rintro i ⟨S, a, b⟩ ⟨S', a', b'⟩ h h'
    have h0 : 384 * a.val + 96 * b.val ≤ (i 0 : ℕ) ∧ (i 0 : ℕ) < 384 * a.val + 96 * b.val + 96 := h 0
    have h0' : 384 * a'.val + 96 * b'.val ≤ (i 0 : ℕ) ∧ (i 0 : ℕ) < 384 * a'.val + 96 * b'.val + 96 := h' 0
    have hS : S = S' := strm_one (i 1 : ℕ) S S' (h 1) (h' 1)
    have := a.isLt; have := b.isLt; have := a'.isLt; have := b'.isLt
    have ha : a = a' := Fin.ext (by omega)
    have hb : b = b' := Fin.ext (by omega)
    rw [hS, ha, hb]
  · intro i
    have h0 : (i 0 : ℕ) < 1536 := (i 0).isLt
    obtain ⟨S, hS⟩ := strm (i 1 : ℕ) (i 1).isLt
    refine ⟨(S, ⟨(i 0 : ℕ) / 384, by omega⟩, ⟨(i 0 : ℕ) % 384 / 96, by omega⟩), fun a => ?_⟩
    match a with
    | 0 => show 384 * ((i 0 : ℕ) / 384) + 96 * ((i 0 : ℕ) % 384 / 96) ≤ (i 0 : ℕ) ∧ (i 0 : ℕ) < 384 * ((i 0 : ℕ) / 384) + 96 * ((i 0 : ℕ) % 384 / 96) + 96; omega
    | 1 => exact hS

/-- The pieces of a first-ring buffer: two whole slots, and the third in four. -/
abbrev R1z (S : Fin 4) : Fin 2 ⊕ Fin 4 → Rect (Sh1 S) := Sum.elim (R1 S) (Rz S)

theorem cut1 (S : Fin 4) : Cuts (R1z S) := by
  refine Cuts.of _ (fun t _ => by cases t <;> rfl) ?_ ?_
  · intro i t t' h h'
    have hj (j : Fin 2) (h : ∀ a, (R1 S j).off a ≤ (i a : ℕ) ∧ (i a : ℕ) < (R1 S j).off a + (R1 S j).size a) : (i 0 : ℕ) = j.val := by
      have h0 : j.val ≤ (i 0 : ℕ) ∧ (i 0 : ℕ) < j.val + 1 := h 0
      omega
    have hk (k : Fin 4) (h : ∀ a, (Rz S k).off a ≤ (i a : ℕ) ∧ (i a : ℕ) < (Rz S k).off a + (Rz S k).size a) : (i 0 : ℕ) = 2 ∧ (i 1 : ℕ) / 96 = k.val := by
      have h0 : 2 ≤ (i 0 : ℕ) ∧ (i 0 : ℕ) < 2 + 1 := h 0
      have h1 : 96 * k.val ≤ (i 1 : ℕ) ∧ (i 1 : ℕ) < 96 * k.val + 96 := h 1
      omega
    match t, t' with
    | .inl j, .inl j' => exact congrArg Sum.inl (Fin.ext ((hj j h).symm.trans (hj j' h')))
    | .inr k, .inr k' => exact congrArg Sum.inr (Fin.ext ((hk k h).2.symm.trans (hk k' h').2))
    | .inl j, .inr k' => have := hj j h; have := (hk k' h').1; omega
    | .inr k, .inl j' => have := hj j' h'; have := (hk k h).1; omega
  · intro i
    have h0 : (i 0 : ℕ) < 3 := (i 0).isLt
    have h1 : (i 1 : ℕ) < 384 := (i 1).isLt
    have h2 : (i 2 : ℕ) < w S := (i 2).isLt
    by_cases hi : (i 0 : ℕ) < 2
    · refine ⟨.inl ⟨(i 0 : ℕ), hi⟩, fun a => ?_⟩
      match a with
      | 0 => show (i 0 : ℕ) ≤ (i 0 : ℕ) ∧ (i 0 : ℕ) < (i 0 : ℕ) + 1; omega
      | 1 => show 0 ≤ (i 1 : ℕ) ∧ (i 1 : ℕ) < 0 + 384; omega
      | 2 => show 0 ≤ (i 2 : ℕ) ∧ (i 2 : ℕ) < 0 + w S; omega
    · refine ⟨.inr ⟨(i 1 : ℕ) / 96, by omega⟩, fun a => ?_⟩
      match a with
      | 0 => show 2 ≤ (i 0 : ℕ) ∧ (i 0 : ℕ) < 2 + 1; omega
      | 1 => show 96 * ((i 1 : ℕ) / 96) ≤ (i 1 : ℕ) ∧ (i 1 : ℕ) < 96 * ((i 1 : ℕ) / 96) + 96; omega
      | 2 => show 0 ≤ (i 2 : ℕ) ∧ (i 2 : ℕ) < 0 + w S; omega

theorem cut2 (S : Fin 4) : Cuts (R2 S) := by
  refine Cuts.of _ (fun t _ => rfl) ?_ ?_
  · intro i t t' h h'
    have h0 : t.val ≤ (i 0 : ℕ) ∧ (i 0 : ℕ) < t.val + 1 := h 0
    have h0' : t'.val ≤ (i 0 : ℕ) ∧ (i 0 : ℕ) < t'.val + 1 := h' 0
    exact Fin.ext (by omega)
  · intro i
    have h0 : (i 0 : ℕ) < 3 := (i 0).isLt
    have h1 : (i 1 : ℕ) < 96 := (i 1).isLt
    have h2 : (i 2 : ℕ) < w S := (i 2).isLt
    refine ⟨⟨(i 0 : ℕ), h0⟩, fun a => ?_⟩
    match a with
    | 0 => show (i 0 : ℕ) ≤ (i 0 : ℕ) ∧ (i 0 : ℕ) < (i 0 : ℕ) + 1; omega
    | 1 => show 0 ≤ (i 1 : ℕ) ∧ (i 1 : ℕ) < 0 + 96; omega
    | 2 => show 0 ≤ (i 2 : ℕ) ∧ (i 2 : ℕ) < 0 + w S; omega

end Cert.AllReduce

end
-- ==== Proof.Ends.lean ====
module

public import proofs.«01_k».proof.Proof.Pieces
public import proofs.«01_k».proof.Proof.Barrier

/-!
# A device's buffers before and after the run

Before the run a device's buffers, at any contents, are the places its neighbours' copies land on, the places its own
copies are sent from and the tiles of the local product. After the run the pieces it holds are the buffers again, and the
result's buffer is at the values `outF`: every sub-block as the device that owns it finished it.

-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

section
variable (ab : Inp F) (K : Dev nD × Option Y → ℕ)

/-! ## Products over the copies, by kind, and over a stream's sub-blocks -/

omit [FloatOps F] in
theorem big_mono {I : Type} [Fintype I] {Φ Ψ : I → sProp 𝕄} (h : ∀ i, Φ i ⊢ Ψ i) : bigSep Finset.univ Φ ⊢ bigSep Finset.univ Ψ := bigSep_mono fun i _ => h i

def kinds : Fin 2 ⊕ (Fin 4 ⊕ (Fin 3 ⊕ (Fin 3 ⊕ Fin 12))) ≃ Cp :=
  Equiv.ofBijective (Sum.elim Cp.d1 (Sum.elim Cp.z (Sum.elim Cp.d2 (Sum.elim Cp.d3 Cp.d4)))) (by decide +kernel)

omit [FloatOps F] in
/-- A product over the copies, stream by stream and kind by kind. -/
theorem by_kind (Φ : X → sProp 𝕄) : bigSep Finset.univ Φ = bigSep Finset.univ fun S : Fin 4 =>
    iprop((bigSep Finset.univ fun j => Φ (S, .d1 j)) ∗ (bigSep Finset.univ fun k => Φ (S, .z k)) ∗ (bigSep Finset.univ fun s => Φ (S, .d2 s))
      ∗ (bigSep Finset.univ fun j => Φ (S, .d3 j)) ∗ bigSep Finset.univ fun i => Φ (S, .d4 i)) := by
  rw [bigSep_univ_prod]
  refine bigSep_congr fun S _ => ?_
  rw [bigSep_univ_equiv kinds, bigSep_univ_sum, bigSep_univ_sum, bigSep_univ_sum, bigSep_univ_sum]
  rfl

def cells16 : Unit ⊕ (Fin 3 ⊕ Fin 12) ≃ Fin 4 × Fin 4 :=
  Equiv.ofBijective (Sum.elim (fun _ => ((0 : Fin 4), (0 : Fin 4))) (Sum.elim (fun j : Fin 3 => ((0 : Fin 4), j.succ))
    fun i : Fin 12 => ((⟨i.val / 4 + 1, by omega⟩ : Fin 4), (⟨i.val % 4, by omega⟩ : Fin 4)))) (by decide +kernel)

omit [FloatOps F] in
/-- A product over sixteen sub-blocks: the first, the rest of its row, the other rows. -/
theorem sixteen (Φ : ℕ → ℕ → sProp 𝕄) : (bigSep Finset.univ fun p : Fin 4 × Fin 4 => Φ p.1.val p.2.val)
    = iprop(Φ 0 0 ∗ (bigSep Finset.univ fun j : Fin 3 => Φ 0 (j.val + 1)) ∗ bigSep Finset.univ fun i : Fin 12 => Φ (i.val / 4 + 1) (i.val % 4)) := by
  rw [bigSep_univ_equiv cells16, bigSep_univ_sum, bigSep_univ_sum]
  have h0 : bigSep Finset.univ (fun a : Unit => Φ (cells16 (.inl a)).1.val (cells16 (.inl a)).2.val) = Φ 0 0 := bigSep_univ_eq_bigSepL [()] (by decide) (by decide) _
  rw [h0]
  rfl

/-- The sub-blocks by their places in a device's two rings. -/
def turn (S : Fin 4) (c : Dev nD) : Fin 4 × Fin 4 ≃ Fin 4 × Fin 4 :=
  Equiv.ofBijective (fun p => (bF S (q1 S c) (p.1.val + 3), bF S (q2 S c) (p.2.val + 3))) (by revert S c; decide +kernel)

/-- The tiles of the product by their place in a device's first ring. -/
def turnP (c : Dev nD) : Fin 4 × Fin 4 ≃ Fin 4 × Fin 4 :=
  Equiv.ofBijective (fun p => (p.1, bF p.1 (q1 p.1 c) p.2.val)) (by revert c; decide +kernel)

omit [FloatOps F] in
theorem by_turn (c : Dev nD) (Φ : Fin 4 → Fin 4 → Fin 4 → sProp 𝕄) : (bigSep Finset.univ fun t : Fin 4 × (Fin 4 × Fin 4) => Φ t.1 t.2.1 t.2.2)
    = bigSep Finset.univ fun S => bigSep Finset.univ fun p : Fin 4 × Fin 4 => Φ S (bF S (q1 S c) (p.1.val + 3)) (bF S (q2 S c) (p.2.val + 3)) := by
  rw [bigSep_univ_prod]
  refine bigSep_congr fun S _ => ?_
  exact bigSep_univ_equiv (turn S c) (fun p : Fin 4 × Fin 4 => Φ S p.1 p.2)

/-! ## Before the run -/

/-- A device's buffers for sums and its result buffer, at any contents. -/
def sums (S : Fin 4) (c : Dev nD) : sProp 𝕄 := iprop(any (F := F) c (p1s S) ∗ any (F := F) c (p1r S) ∗ any (F := F) c (p2s S) ∗ any (F := F) c (p2r S))

omit [FloatOps F] in
theorem cut_p1s (S : Fin 4) (c : Dev nD) : any (F := F) c (p1s S) ⊢ iprop((bigSep Finset.univ fun j => src (F := F) (S, .d1 j) c) ∗ bigSep Finset.univ fun k => src (F := F) (S, .z k) c) := by
  refine (cut_any (cut1 S) c (p1s S)).trans (Entails.of_eq ?_)
  rw [bigSep_univ_sum]; rfl

omit [FloatOps F] in
theorem cut_p1r (S : Fin 4) (c : Dev nD) : any (F := F) c (p1r S) ⊢ iprop((bigSep Finset.univ fun j => slot (F := F) (S, .d1 j) (frm (S, .d1 j) c) c)
    ∗ bigSep Finset.univ fun k => slot (F := F) (S, .z k) (frm (S, .z k) c) c) := by
  refine (cut_any (cut1 S) c (p1r S)).trans (Entails.of_eq ?_)
  rw [bigSep_univ_sum]; rfl

omit [FloatOps F] in
theorem cut_p2s (S : Fin 4) (c : Dev nD) : any (F := F) c (p2s S) ⊢ bigSep Finset.univ fun s => src (F := F) (S, .d2 s) c := cut_any (cut2 S) c (p2s S)
omit [FloatOps F] in
theorem cut_p2r (S : Fin 4) (c : Dev nD) : any (F := F) c (p2r S) ⊢ bigSep Finset.univ fun s => slot (F := F) (S, .d2 s) (frm (S, .d2 s) c) c := cut_any (cut2 S) c (p2r S)

omit [FloatOps F] in
theorem src_d3 (S : Fin 4) (c : Dev nD) : (bigSep Finset.univ fun j : Fin 3 => src (F := F) (S, .d3 j) c) = spot c S (bF S (q1 S c) 3) (bF S (q2 S c) 3) := by
  rw [bigSep_univ_eq_bigSepL [0, 1, 2] (by decide) (by decide)]
  have h1 : src (F := F) (S, .d3 1) c = iprop(emp) := rfl
  have h2 : src (F := F) (S, .d3 2) c = iprop(emp) := rfl
  show iprop(src (S, .d3 0) c ∗ src (S, .d3 1) c ∗ src (S, .d3 2) c) = _
  have hs (P : sProp 𝕄) : iprop(P ∗ emp) = P := equiv_iff.mp BI.sep_emp
  rw [h1, h2, hs, hs]
  rfl

omit [FloatOps F] in
theorem src_d4 (S : Fin 4) (c : Dev nD) : (bigSep Finset.univ fun i : Fin 12 => src (F := F) (S, .d4 i) c) = iprop(emp) := bigSep_emp_const _

omit [FloatOps F] in
theorem slot_d3_at (S : Fin 4) (c : Dev nD) (j : Fin 3) : slot (F := F) (S, .d3 j) (frm (S, .d3 j) c) c = spot c S (bF S (q1 S c) 3) (bF S (q2 S c) (j.val + 4)) := by
  obtain ⟨h1, h2⟩ := idx_d3 S c j
  rw [← h1, ← h2]; rfl
omit [FloatOps F] in
theorem slot_d4_at (S : Fin 4) (c : Dev nD) (i : Fin 12) : slot (F := F) (S, .d4 i) (frm (S, .d4 i) c) c = spot c S (bF S (q1 S c) (i.val / 4 + 4)) (bF S (q2 S c) (i.val % 4 + 3)) := by
  obtain ⟨h1, h2⟩ := idx_d4 S c i
  rw [← h1, ← h2]; rfl

omit [FloatOps F] in
/-- The result's buffer is the device's own sub-blocks and the places the finished ones land on. -/
theorem cut_out (c : Dev nD) : any (F := F) c oM ⊢ bigSep Finset.univ fun S : Fin 4 => iprop((bigSep Finset.univ fun j : Fin 3 => src (F := F) (S, .d3 j) c)
    ∗ (bigSep Finset.univ fun j => slot (F := F) (S, .d3 j) (frm (S, .d3 j) c) c) ∗ bigSep Finset.univ fun i => slot (F := F) (S, .d4 i) (frm (S, .d4 i) c) c) := by
  refine (cut_any cutO c oM).trans (Entails.of_eq ?_)
  refine (by_turn c fun S a b => spot (F := F) c S a b).trans ?_
  refine bigSep_congr fun S _ => ?_
  rw [sixteen (fun s k => spot (F := F) c S (bF S (q1 S c) (s + 3)) (bF S (q2 S c) (k + 3))), src_d3]
  rw [bigSep_congr (fun j _ => slot_d3_at S c j), bigSep_congr (fun i _ => slot_d4_at S c i)]

/-- The product's buffer is its tiles. -/
theorem cut_prod (c : Dev nD) : any (F := F) c pM ⊢ bigSep Finset.univ (tile ab c 0) := by
  refine (cut_any cutP c pM).trans (Entails.of_eq ?_)
  rw [bigSep_univ_equiv (turnP c)]
  refine bigSep_congr fun p _ => ?_
  unfold tile
  rw [if_neg (Nat.not_lt_zero _)]
  rfl

omit [FloatOps F] in
/-- All of it: the buffers for sums and the result's buffer are the places copies land on and are sent from. -/
theorem cut_all (c : Dev nD) : iprop((bigSep Finset.univ fun S => sums (F := F) S c) ∗ any (F := F) c oM)
    ⊢ iprop((bigSep Finset.univ fun x => slot (F := F) x (frm x c) c) ∗ bigSep Finset.univ fun x => src (F := F) x c) := by
  refine (BIClass.sep_mono (BIBase.Entails.refl) (cut_out c)).trans ?_
  rw [by_kind, by_kind, ← bigSep_sep', ← bigSep_sep']
  refine big_mono fun S => ?_
  rw [src_d4]
  unfold sums
  iintro ⟨⟨H1, H2, H3, H4⟩, H5, H6, H7⟩
  ihave H1 := (cut_p1s S c) $$ H1
  ihave H2 := (cut_p1r S c) $$ H2
  ihave H3 := (cut_p2s S c) $$ H3
  ihave H4 := (cut_p2r S c) $$ H4
  icases H1 with ⟨H1, H1'⟩
  icases H2 with ⟨H2, H2'⟩
  isplitl [H2 H2' H4 H6 H7]
  · isplitl [H2]; · iexact H2
    isplitl [H2']; · iexact H2'
    isplitl [H4]; · iexact H4
    isplitl [H6]; · iexact H6
    iexact H7
  · isplitl [H1]; · iexact H1
    isplitl [H1']; · iexact H1'
    isplitl [H3]; · iexact H3
    isplitl [H5]; · iexact H5
    iempintro

/-! ## After the run -/

/-- The values the kernel leaves in the result's buffer. -/
def outF : S1536x1536.Idx → Elt F .bf16 :=
  glue (fun t : Fin 4 × (Fin 4 × Fin 4) => Ro t.1 t.2.1 t.2.2) fun t => Out ab t.1 t.2.1 t.2.2

theorem outF_emb (S a b : Fin 4) (j : (Ro S a b).shape.Idx) : outF ab ((Ro S a b).emb j) = Out ab S a b j :=
  glue_emb cutO.disj _ (S, a, b) j

theorem blk_join (c : Dev nD) (S a b : Fin 4) : iprop(blk ab c fullShare.left S a b ∗ blk ab c fullShare.right S a b) ⊢ blk ab c fullShare S a b := by
  unfold blk piece owns
  iintro ⟨⟨%f, %hf, H1⟩, %g, %hg, H2⟩
  have e : ((oM.slice (Ro S a b) (fun _ => rfl)).view.loc (c : Thread nD τ) ↦[(oM.slice (Ro S a b) (fun _ => rfl)).view.set]{fullShare.right} g : sProp 𝕄)
      = (oM.slice (Ro S a b) (fun _ => rfl)).view.loc (c : Thread nD τ) ↦[(oM.slice (Ro S a b) (fun _ => rfl)).view.set]{fullShare.right} f :=
    pointsTo_congr fun i hi => by
      obtain ⟨j, -, rfl⟩ := Finset.mem_map.mp hi
      have := congrFun (hg.trans hf.symm) j
      simp only [View.read] at this
      exact (cast_inj _).mp this
  ihave H2 := (Entails.of_eq e) $$ H2
  ihave H := ((pointsTo_share (PosShare.mem_left_op_right fullShare)).2) $$ [H1 H2]
  · isplitl [H1]; · iexact H1
    iexact H2
  iexists f
  isplitr; · ipureintro; exact hf
  iexact H

omit [FloatOps F] in
/-- What is sent, halves included, and what is received last are the sixteen sub-blocks of a stream. -/
theorem gather (P L R : ℕ → ℕ → sProp 𝕄) (h : ∀ k, iprop(L 0 k ∗ R 0 k) ⊢ P 0 k) :
    iprop((bigSep Finset.univ fun j : Fin 3 => L 0 j.val) ∗ (bigSep Finset.univ fun i : Fin 12 => if i.val < 3 then R (i.val / 4) (i.val % 4) else P (i.val / 4) (i.val % 4))
      ∗ bigSep Finset.univ fun i : Fin 12 => if i.val < 8 then iprop(emp) else P (i.val / 4 + 1) (i.val % 4))
      ⊢ bigSep Finset.univ fun p : Fin 4 × Fin 4 => P p.1.val p.2.val := by
  rw [bigSep_univ_prod, four, four, four, four, four,
    bigSep_univ_eq_bigSepL [0, 1, 2] (by decide) (by decide),
    bigSep_univ_eq_bigSepL [0, 1, 2, 3, 4, 5, 6, 7, 8, 9, 10, 11] (by decide) (by decide),
    bigSep_univ_eq_bigSepL [0, 1, 2, 3, 4, 5, 6, 7, 8, 9, 10, 11] (by decide) (by decide)]
  show iprop((L 0 0 ∗ L 0 1 ∗ L 0 2) ∗ (R 0 0 ∗ R 0 1 ∗ R 0 2 ∗ P 0 3 ∗ P 1 0 ∗ P 1 1 ∗ P 1 2 ∗ P 1 3 ∗ P 2 0 ∗ P 2 1 ∗ P 2 2 ∗ P 2 3)
      ∗ (emp ∗ emp ∗ emp ∗ emp ∗ emp ∗ emp ∗ emp ∗ emp ∗ P 3 0 ∗ P 3 1 ∗ P 3 2 ∗ P 3 3))
    ⊢ iprop((P 0 0 ∗ P 0 1 ∗ P 0 2 ∗ P 0 3) ∗ (P 1 0 ∗ P 1 1 ∗ P 1 2 ∗ P 1 3) ∗ (P 2 0 ∗ P 2 1 ∗ P 2 2 ∗ P 2 3) ∗ (P 3 0 ∗ P 3 1 ∗ P 3 2 ∗ P 3 3))
  iintro ⟨⟨L0, L1, L2⟩, ⟨R0, R1, R2, P03, P10, P11, P12, P13, P2⟩, -, -, -, -, -, -, -, -, P3⟩
  isplitl [L0 L1 L2 R0 R1 R2 P03]
  · isplitl [L0 R0]
    · iapply (h 0); isplitl [L0]; · iexact L0
      iexact R0
    isplitl [L1 R1]
    · iapply (h 1); isplitl [L1]; · iexact L1
      iexact R1
    isplitl [L2 R2]
    · iapply (h 2); isplitl [L2]; · iexact L2
      iexact R2
    iexact P03
  isplitl [P10 P11 P12 P13]
  · isplitl [P10]; · iexact P10
    isplitl [P11]; · iexact P11
    isplitl [P12]; · iexact P12
    iexact P13
  isplitl [P2]; · iexact P2
  iexact P3

/-- The pieces of the result a device holds at the end are its whole result. -/
theorem join_out (c : Dev nD) : (bigSep Finset.univ fun S : Fin 4 => iprop((bigSep Finset.univ fun j => sendPay ab (S, .d3 j) c)
    ∗ (bigSep Finset.univ fun i => sendPay ab (S, .d4 i) c) ∗ bigSep Finset.univ fun i => keep ab c (S, .d4 i)))
      ⊢ owns (Ix := Unit) (Name := ℕ) (U := UU) (Lvl := ℕ) (c : Thread nD τ) oM fullShare (outF ab) := by
  refine BIBase.Entails.trans ?_ (join_at cutO c oM fun t => Out ab t.1 t.2.1 t.2.2)
  refine BIBase.Entails.trans ?_ (Entails.of_eq (by_turn c fun S a b => blk ab c fullShare S a b).symm)
  refine big_mono fun S => ?_
  refine BIBase.Entails.trans (Entails.of_eq ?_) (gather (fun s k => blk ab c fullShare S (bF S (q1 S c) (s + 3)) (bF S (q2 S c) (k + 3)))
    (fun s k => blk ab c fullShare.left S (bF S (q1 S c) (s + 3)) (bF S (q2 S c) (k + 3)))
    (fun s k => blk ab c fullShare.right S (bF S (q1 S c) (s + 3)) (bF S (q2 S c) (k + 3))) fun k => blk_join ab c S _ _)
  have h1 : ∀ i : Fin 12, sendPay ab (S, .d4 i) c = if i.val < 3 then blk ab c fullShare.right S (bF S (q1 S c) (i.val / 4 + 3)) (bF S (q2 S c) (i.val % 4 + 3))
      else blk ab c fullShare S (bF S (q1 S c) (i.val / 4 + 3)) (bF S (q2 S c) (i.val % 4 + 3)) := by
    intro i
    rw [send_d4]
    by_cases h : i.val < 3
    · rw [if_pos h, if_pos h]
    · rw [if_neg h, if_neg h]
  have h2 : ∀ i : Fin 12, keep ab c (S, .d4 i) = if i.val < 8 then iprop(emp) else blk ab c fullShare S (bF S (q1 S c) (i.val / 4 + 1 + 3)) (bF S (q2 S c) (i.val % 4 + 3)) := by
    intro i
    have : keep ab c (S, .d4 i) = if i.val < 8 then iprop(emp) else recvPay ab (S, .d4 i) c := rfl
    rw [this, recv_d4]
  rw [bigSep_congr (fun i _ => h1 i), bigSep_congr (fun i _ => h2 i), bigSep_congr (fun j _ => send_d3 ab S c j)]

theorem join_p1s (S : Fin 4) (c : Dev nD) : iprop((bigSep Finset.univ fun j => sendPay ab (S, .d1 j) c) ∗ bigSep Finset.univ fun k => sendPay ab (S, .z k) c) ⊢ any (F := F) c (p1s S) := by
  refine BIBase.Entails.trans ?_ (join_any (cut1 S) c (p1s S))
  rw [bigSep_univ_sum]
  exact BIClass.sep_mono (bigSep_mono fun j _ => piece_any c (p1s S) (R1 S j) _ _) (bigSep_mono fun k _ => piece_any c (p1s S) (Rz S k) _ _)

theorem join_p1r (S : Fin 4) (c : Dev nD) : iprop((bigSep Finset.univ fun j => keep ab c (S, .d1 j)) ∗ bigSep Finset.univ fun k => keep ab c (S, .z k)) ⊢ any (F := F) c (p1r S) := by
  refine BIBase.Entails.trans ?_ (join_any (cut1 S) c (p1r S))
  rw [bigSep_univ_sum]
  exact BIClass.sep_mono (bigSep_mono fun j _ => piece_any c (p1r S) (R1 S j) _ _) (bigSep_mono fun k _ => piece_any c (p1r S) (Rz S k) _ _)

theorem join_p2s (S : Fin 4) (c : Dev nD) : (bigSep Finset.univ fun s => sendPay ab (S, .d2 s) c) ⊢ any (F := F) c (p2s S) :=
  (bigSep_mono fun s _ => piece_any c (p2s S) (R2 S s) _ _).trans (join_any (cut2 S) c (p2s S))
theorem join_p2r (S : Fin 4) (c : Dev nD) : (bigSep Finset.univ fun s => keep ab c (S, .d2 s)) ⊢ any (F := F) c (p2r S) :=
  (bigSep_mono fun s _ => piece_any c (p2r S) (R2 S s) _ _).trans (join_any (cut2 S) c (p2r S))

theorem join_prod (c : Dev nD) : bigSep Finset.univ (tile ab c 16) ⊢ any (F := F) c pM := by
  refine BIBase.Entails.trans ?_ (join_any cutP c pM)
  rw [bigSep_univ_equiv (turnP c) (fun t : Fin 4 × Fin 4 => iprop(∃ Y, piece (F := F) c pM (Rp t.1 t.2) (cutP.unit t) fullShare Y))]
  refine big_mono fun p => ?_
  unfold tile
  rw [if_pos (by have := p.1.isLt; have := p.2.isLt; omega)]
  exact piece_any c pM (Rp p.1 (bF p.1 (q1 p.1 c) p.2.val)) _ _

/-- All of it: what a device holds of its copies at the end is its buffers for sums and its result. -/
theorem join_all (c : Dev nD) : iprop((bigSep Finset.univ fun x => sendPay ab x c) ∗ bigSep Finset.univ fun x => keep ab c x)
    ⊢ iprop((bigSep Finset.univ fun S => sums (F := F) S c) ∗ owns (Ix := Unit) (Name := ℕ) (U := UU) (Lvl := ℕ) (c : Thread nD τ) oM fullShare (outF ab)) := by
  refine BIBase.Entails.trans ?_ (BIClass.sep_mono (BIBase.Entails.refl) (join_out ab c))
  rw [by_kind, by_kind, ← bigSep_sep', ← bigSep_sep']
  refine big_mono fun S => ?_
  unfold sums
  iintro ⟨⟨H1, H2, H3, H4, H5⟩, G1, G2, G3, -, G5⟩
  ihave Ha := (join_p1s ab S c) $$ [H1 H2]
  · isplitl [H1]; · iexact H1
    iexact H2
  ihave Hb := (join_p1r ab S c) $$ [G1 G2]
  · isplitl [G1]; · iexact G1
    iexact G2
  ihave Hc := (join_p2s ab S c) $$ H3
  ihave Hd := (join_p2r ab S c) $$ G3
  isplitl [Ha Hb Hc Hd]
  · isplitl [Ha]; · iexact Ha
    isplitl [Hb]; · iexact Hb
    isplitl [Hc]; · iexact Hc
    iexact Hd
  isplitl [H4]; · iexact H4
  isplitl [H5]; · iexact H5
  iexact G5

/-- A device's state at the end, by what it gives back: nothing owed, the operands, its result, its other buffers, its semaphores at zero. -/
theorem Se_end (c : Dev nD) : Se ab K c 96 ⊢ iprop((∃ W, owes c 0 W)
    ∗ (owns (Ix := Unit) (Name := ℕ) (U := UU) (Lvl := ℕ) (c : Thread nD τ) aM fullShare (ab.1 c)
      ∗ owns (Ix := Unit) (Name := ℕ) (U := UU) (Lvl := ℕ) (c : Thread nD τ) bM fullShare (ab.2 c)
      ∗ owns (Ix := Unit) (Name := ℕ) (U := UU) (Lvl := ℕ) (c : Thread nD τ) oM fullShare (outF ab))
    ∗ (any (F := F) c pM ∗ bigSep Finset.univ fun S => sums (F := F) S c)
    ∗ semVal (barCell c) 0 ∗ bigSep Finset.univ fun y : Y => semVal (cell y c) 0) := by
  have h1 : eop ab c 96 = fun x => iprop(sendPay ab x c ∗ semVal (cell (false, x) c) 0) := by
    funext x
    have : ix x < 96 := List.idxOf_lt_length_of_mem (ordL_univ x)
    unfold eop
    rw [if_pos this]
  have h2 : rop ab c 96 = fun x => iprop(keep ab c x ∗ semVal (cell (true, x) c) 0) := by
    funext x
    have : rix x < 96 := List.idxOf_lt_length_of_mem (rordL_univ x)
    unfold rop done
    rw [if_pos this]
  have hY : (bigSep Finset.univ fun y : Y => (semVal (cell y c) 0 : sProp 𝕄))
      = iprop((bigSep Finset.univ fun x : X => semVal (cell (false, x) c) 0) ∗ bigSep Finset.univ fun x : X => semVal (cell (true, x) c) 0) := by
    rw [bigSep_univ_prod]
    exact bigSep_univ_eq_bigSepL [false, true] (by decide) (by decide) _
  have hO : OW (F := F) c 96 ⊢ iprop(∃ W, owes c 0 W) := .rfl
  unfold Se opnds
  rw [h1, h2, hY, bigSep_sep', bigSep_sep']
  iintro ⟨-, HO, ⟨Ha, Hb, Hbar⟩, ⟨Hs, Hv⟩, ⟨Hk, Hv'⟩, Ht⟩
  ihave HO := hO $$ HO
  ihave Hp := (join_prod ab c) $$ Ht
  ihave ⟨Hu, Ho⟩ := (join_all ab c) $$ [Hs Hk]
  · isplitl [Hs]; · iexact Hs
    iexact Hk
  isplitl [HO]; · iexact HO
  isplitl [Ha Hb Ho]
  · isplitl [Ha]; · iexact Ha
    isplitl [Hb]; · iexact Hb
    iexact Ho
  isplitl [Hp Hu]
  · isplitl [Hp]; · iexact Hp
    iexact Hu
  isplitl [Hbar]; · iexact Hbar
  isplitl [Hv]; · iexact Hv
  iexact Hv'
end

end Cert.AllReduce

end
-- ==== Proof.Deal.lean ====
module

public import proofs.«01_k».proof.Proof.Barrier

/-!
# What the launch deals each device

The launch mints, for every cell, its state at round 0, the position there and its duties' tokens. Here these are dealt:
the invariants are allocated, a barrier's four tokens go to the four neighbours that signal it, a receive token goes to
the device whose copy lands there. A device's launch credit is what all devices owe its cells: four units on its barrier,
a copy's amount on each receive cell.

-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

section
variable (ab : Inp F)

/-! ## Cells and tokens -/

theorem kcell_injective : Function.Injective (kcell : Dev nD × Option Y → GSem nD τ sig) := by
  rintro ⟨c, k⟩ ⟨c', k'⟩ h
  have h1 : c = c' := by
    have := congrArg (fun g : GSem nD τ sig => g.1.1) h
    cases k <;> cases k' <;> exact this
  subst h1
  have h2 := congrArg (fun g : GSem nD τ sig => g.2) h
  cases k with
  | none => cases k' with
    | none => rfl
    | some y' => exact absurd h2 (fun h => by cases h)
  | some y => cases k' with
    | none => exact absurd h2 (fun h => by cases h)
    | some y' =>
      have : sm y = sm y' := SemLoc.dma.inj h2
      rw [sm_injective this]

def allCells : Finset (GSem nD τ sig) := Finset.univ.map ⟨kcell, kcell_injective⟩

/-- The duties of a device's own cells: the four of its barrier, the one of each end of each copy. -/
abbrev tokOf (cj : Dev nD × (Fin 4 ⊕ Y)) : GSem nD τ sig × ℕ × Fin 4 := match cj.2 with
  | .inl i => (barCell cj.1, 0, i)
  | .inr y => (cell y cj.1, 0, 0)

theorem tokOf_injective : Function.Injective (tokOf : Dev nD × (Fin 4 ⊕ Y) → GSem nD τ sig × ℕ × Fin 4) := by
  rintro ⟨c, j⟩ ⟨c', j'⟩ h
  have h1 : c = c' := by
    have := congrArg (fun x : GSem nD τ sig × ℕ × Fin 4 => x.1.1.1) h
    cases j <;> cases j' <;> exact this
  subst h1
  have h2 := congrArg (fun x : GSem nD τ sig × ℕ × Fin 4 => x.1.2) h
  have h3 := congrArg (fun x : GSem nD τ sig × ℕ × Fin 4 => x.2.2) h
  cases j with
  | inl i => cases j' with
    | inl i' =>
      have h3' : i = i' := h3
      rw [h3']
    | inr y' => exact absurd h2 (fun h => by cases h)
  | inr y => cases j' with
    | inl i' => exact absurd h2 (fun h => by cases h)
    | inr y' =>
      have : sm y = sm y' := SemLoc.dma.inj h2
      rw [sm_injective this]

def allToks : Finset (GSem nD τ sig × ℕ × Fin 4) := Finset.univ.map ⟨tokOf, tokOf_injective⟩

def opt : Unit ⊕ Y ≃ Option Y := (Equiv.optionEquivSumPUnit Y).symm.trans (Equiv.refl _) |> (Equiv.sumComm Unit Y).trans

omit [FloatOps F] in
/-- A product over a device's cells: the barrier's, and the others. -/
theorem by_cell (Φ : Option Y → sProp 𝕄) : bigSep Finset.univ Φ = iprop(Φ none ∗ bigSep Finset.univ fun y : Y => Φ (some y)) := by
  rw [bigSep_univ_equiv opt, bigSep_univ_sum]
  have h0 : bigSep Finset.univ (fun a : Unit => Φ (opt (.inl a))) = Φ none := bigSep_univ_eq_bigSepL [()] (by decide) (by decide) _
  rw [h0]
  rfl

omit [FloatOps F] in
/-- A product over the ends of the copies. -/
theorem by_end (Φ : Y → sProp 𝕄) : bigSep Finset.univ Φ = iprop((bigSep Finset.univ fun x : X => Φ (false, x)) ∗ bigSep Finset.univ fun x : X => Φ (true, x)) := by
  rw [bigSep_univ_prod]
  exact bigSep_univ_eq_bigSepL [false, true] (by decide) (by decide) _

/-- A direction as a permutation of the devices. -/
def around (i : Fin 4) : Dev nD ≃ Dev nD := ⟨nbr i, nbr (opp i), opp_nbr i, nbr_opp i⟩

omit [FloatOps F] in
/-- What each device has for each index may be dealt around, each index by its own permutation. -/
theorem dealt {I : Type} [Fintype I] (f : I → Dev nD ≃ Dev nD) (Φ : Dev nD → I → sProp 𝕄) :
    (bigSep Finset.univ fun c => bigSep Finset.univ fun i => Φ c i) = bigSep Finset.univ fun c => bigSep Finset.univ fun i => Φ (f i c) i := by
  rw [← bigSep_univ_prod (fun p : Dev nD × I => Φ p.1 p.2), ← bigSep_univ_prod (fun p : Dev nD × I => Φ (f p.2 p.1) p.2)]
  exact bigSep_univ_equiv ⟨fun p => (f p.2 p.1, p.2), fun p => ((f p.2).symm p.1, p.2), fun p => by simp, fun p => by simp⟩ (fun p : Dev nD × I => Φ p.1 p.2)

/-- The duty tokens of device `c`'s own cells; -/
def toks (c : Dev nD) : sProp 𝕄 :=
  iprop((bigSep Finset.univ fun i : Fin 4 => dutyTok ER (barCell c) 0 i) ∗ (bigSep Finset.univ fun x : X => dutyTok ER (cell (false, x) c) 0 0)
    ∗ bigSep Finset.univ fun x : X => dutyTok ER (cell (true, x) c) 0 0)
/-- those it pays with. -/
def payToks (c : Dev nD) : sProp 𝕄 :=
  iprop((bigSep Finset.univ fun i : Fin 4 => dutyTok ER (barCell (nbr i c)) 0 i) ∗ (bigSep Finset.univ fun x : X => dutyTok ER (cell (false, x) c) 0 0)
    ∗ bigSep Finset.univ fun x : X => dutyTok ER (cell (true, x) (tgt x c)) 0 0)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    dealt around (fun c i => (dutyTok ER (barCell c) 0 i : sProp 𝕄)),
    dealt (fun x : X => around (dirOf x)) (fun c x => (dutyTok ER (cell (true, x) c) 0 0 : sProp 𝕄))]
  exact .rfl

/-! ## The global step -/

/-- What the launch element deals device `c`, -/
def G (c : Dev nD) : sProp 𝕄 :=
  iprop((bigSep Finset.univ fun k : Option Y => roundState ER (Rd ab) (kcell (c, k)) 0)
    ∗ (bigSep Finset.univ fun k : Option Y => iprop(atPos ER (kcell (c, k)) 0 ∅ 0 ∗ reached ER (kcell (c, k)) 0)) ∗ toks c)

/-- The invariants and the reached marks of all cells. -/
def marks (K : Dev nD × Option Y → ℕ) : sProp 𝕄 :=
  iprop((bigSep Finset.univ fun ck : Dev nD × Option Y => cellInv ER (Rd ab) (K ck) (kcell ck))
    ∗ bigSep Finset.univ fun ck : Dev nD × Option Y => reached ER (kcell ck) 0)

instance marks_persistent (K : Dev nD × Option Y → ℕ) : BI.Persistent (marks (F := F) ab K) := by unfold marks; infer_instance

def linear (c : Dev nD) : sProp 𝕄 := iprop((bigSep Finset.univ fun k : Option Y => atPos ER (kcell (c, k)) 0 ∅ 0) ∗ payToks c)

/-- and what the global step makes of it. -/
def G' (c : Dev nD) : sProp 𝕄 := iprop(∃ K, marks ab K ∗ linear c)

theorem fund_all : BI.own (ER (initOf allCells allToks)) ⊢ (|==> bigSep Finset.univ (G ab) : sProp 𝕄) := by
  have hX (Φ : GSem nD τ sig → sProp 𝕄) : bigSep allCells Φ = bigSep Finset.univ fun c : Dev nD => bigSep Finset.univ fun k : Option Y => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, ← by_end (fun y : Y => (dutyTok ER (cell y c) 0 0 : sProp 𝕄))]
    rfl
  iintro HX
  imod (Rounds.fund ER (Rd ab) allCells allToks) $$ HX with ⟨Hst, Hr, Hat, Htok⟩
  imodintro
  ihave Hst' := (Entails.of_eq (hX fun g => roundState ER (Rd ab) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the two of each copy; -/
abbrev osem : Y → SemLoc sig := fun y => .dma (sm y)

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun y : Y => semVal (cell y c) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Y => semVal (kcell (c, k)) 0 : sProp 𝕄) := by
  rw [ownSems0_eq, unscopedSems0_eq, by_cell]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G ab c)
      ⊢ |={Set.univ}=> iprop((bigSep Finset.univ fun k => iprop(∃ κ : ℕ, cellInv ER (Rd ab) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Y => semVal (kcell (c, k)) 0) ∗ bigSep Finset.univ fun k : Option Y => roundState ER (Rd ab) (kcell (c, k)) 0)
      ⊢ (|={Set.univ}=> bigSep Finset.univ fun k => iprop(∃ κ : ℕ, cellInv ER (Rd ab) κ (kcell (c, k))) : sProp 𝕄) from by
        rw [← bigSep_sep']
        exact (bigSep_mono fun k _ => (Rounds.body_intro ER (Rd ab) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Option Y → ℕ) (c : Dev nD) : iprop(marks ab K ∗ linear c) ⊢ G' ab c := by
  unfold G'
  iintro H
  iexists K
  iexact H

omit [FloatOps F] in
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd ab) κ (kcell (c, k))))
          ∗ (bigSep Finset.univ fun k => iprop(atPos ER (kcell (c, k)) 0 ∅ 0 ∗ reached ER (kcell (c, k)) 0)) ∗ toks c) : sProp 𝕄)
      ⊢ bigSep Finset.univ (G' ab) := by
  rw [bigSep_sep', bigSep_sep', ← bigSep_univ_prod (fun ck : Dev nD × Option Y => iprop(∃ κ : ℕ, cellInv ER (Rd ab) κ (kcell ck))),
    bigSep_congr (s := Finset.univ) (fun (c : Dev nD) _ => bigSep_sep' Finset.univ (fun k : Option Y => (atPos ER (kcell (c, k)) 0 ∅ 0 : sProp 𝕄)) (fun k => reached ER (kcell (c, k)) 0)),
    bigSep_sep', ← bigSep_univ_prod (fun ck : Dev nD × Option Y => (reached ER (kcell ck) 0 : sProp 𝕄))]
  iintro ⟨HI, ⟨Hat, #HR⟩, Htok⟩
  ihave HK := (BI.bigSep_exists_pi Finset.univ (fun (ck : Dev nD × Option Y) (κ : ℕ) => (cellInv ER (Rd ab) κ (kcell ck) : sProp 𝕄))) $$ HI
  icases HK with ⟨%K, #HI⟩
  ihave Htk := (toks_around (F := F)) $$ Htok
  iapply (share_out (R := marks ab K) fun c _ => ghost_intro ab K c)
  isplitr
  · unfold marks; isplitl; · iexact HI
    iexact HR
  · iapply ((Entails.of_eq (bigSep_sep' Finset.univ (fun c : Dev nD => bigSep Finset.univ fun k : Option Y => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- All devices' semaphores at once: the invariants are allocated and the tokens dealt. -/
theorem glob : (bigSep Finset.univ fun c => iprop(Pipeline.ownSems0 (Ix := Unit) (Name := ℕ) (U := UU) (Lvl := ℕ) (Val := Elt F) (τ := τ) osem c ∗ unscopedSems0 c ∗ G ab c) : sProp 𝕄)
    ⊢ |={Set.univ}=> bigSep Finset.univ (G' ab) :=
  ((bigSep_mono fun c _ => core_alloc ab c).trans (bigSep_fupd _ _)).trans (BI.fupd_mono (regroup ab))

/-! ## The launch credit -/

/-- What a device owes at the launch. -/
def O₀ (c : Dev nD) : CellTallies nD τ sig Unit := Os c 4

theorem bar_eq_iff {a b : Dev nD} : Iff (barCell a = barCell b) (a = b) :=
  ⟨fun h => Fin.ext (congrArg (fun g : GSem nD τ sig => g.1.1.val) h), fun h => h ▸ rfl⟩
theorem cell_eq_iff {y z : Y} {a b : Dev nD} : Iff (cell y a = cell z b) (y = z ∧ a = b) :=
  ⟨fun h => ⟨sm_injective (SemLoc.dma.inj (congrArg Prod.snd h)), Fin.ext (congrArg (fun g : GSem nD τ sig => g.1.1.val) h)⟩, fun ⟨h1, h2⟩ => h1 ▸ h2 ▸ rfl⟩
theorem bar_ne_cell (y : Y) (a b : Dev nD) : barCell a ≠ cell y b := fun h => by cases congrArg Prod.snd h

theorem Ol_bar (d c : Dev nD) (l : List X) : Ol d l (barCell c) () = 0 := by
  by_contra h
  obtain ⟨x, _, e⟩ := Ol_pos (Nat.pos_of_ne_zero h)
  exact bar_ne_cell _ _ _ e

theorem tgt_eq_iff (x : X) (d c : Dev nD) : Iff (c = tgt x d) (d = frm x c) :=
  ⟨fun h => by subst h; exact (opp_nbr (dirOf x) d).symm, fun h => by subst h; exact (nbr_opp (dirOf x) c).symm⟩

theorem Ol_recv (d c : Dev nD) (x : X) (l : List X) (hl : l.Nodup) : Ol d l (cell (true, x) c) () = if x ∈ l ∧ d = frm x c then amt x else 0 := by
  induction l with
  | nil => rw [if_neg (fun h => by cases h.1)]; rfl
  | cons z l ih =>
    unfold Ol
    rw [Pi.add_apply, Finsupp.add_apply, tallyAt_apply, ih (List.nodup_cons.mp hl).2]
    have hz := (List.nodup_cons.mp hl).1
    by_cases h : x = z
    · subst h
      rw [if_neg (fun h => hz h.1), Nat.zero_add]
      by_cases hd : d = frm x c
      · rw [if_pos ⟨by rw [cell_eq_iff]; exact ⟨rfl, (tgt_eq_iff x d c).mpr hd⟩, rfl⟩, if_pos ⟨List.mem_cons_self, hd⟩]
      · rw [if_neg (fun h => hd ((tgt_eq_iff x d c).mp (cell_eq_iff.mp h.1).2)), if_neg (fun h => hd h.2)]
    · rw [if_neg (c := cell (true, x) c = cell (true, z) (tgt z d) ∧ () = ()) (fun h' => h (congrArg Prod.snd (cell_eq_iff.mp h'.1).1)), Nat.add_zero]
      have : Iff (x ∈ z :: l) (x ∈ l) := by rw [List.mem_cons]; exact ⟨fun h' => h'.resolve_left h, Or.inr⟩
      rw [if_congr (and_congr_left' this) rfl rfl]

theorem owed_recv (d c : Dev nD) (x : X) : O₀ d (cell (true, x) c) () = if d = frm x c then amt x else 0 := by
  have hb (i : Fin 4) : tallyAt (barCell (nbr i d)) () 1 (cell (true, x) c) () = (0 : ℕ) := by
    rw [tallyAt_apply, if_neg (fun h => bar_ne_cell _ _ _ h.1.symm)]
  unfold O₀ Os Od
  simp only [Pi.add_apply, Finsupp.add_apply, hb, Nat.add_zero]
  rw [List.drop_zero, Ol_recv d c x _ ordL_nodup]
  exact if_congr (and_iff_right (ordL_univ x)) rfl rfl

theorem owed_bar (d c : Dev nD) : O₀ d (barCell c) () = (if d = nbr (opp 3) c then 1 else 0) + (if d = nbr (opp 2) c then 1 else 0)
    + (if d = nbr (opp 1) c then 1 else 0) + (if d = nbr (opp 0) c then 1 else 0) := by
  have hb (i : Fin 4) : tallyAt (barCell (nbr i d)) () 1 (barCell c) () = if d = nbr (opp i) c then 1 else 0 := by
    rw [tallyAt_apply]
    refine if_congr ⟨fun h => ?_, fun h => ⟨?_, rfl⟩⟩ rfl rfl
    · rw [bar_eq_iff.mp h.1, opp_nbr]
    · rw [h, nbr_opp]
  unfold O₀ Os Od
  simp only [Pi.add_apply, Finsupp.add_apply, hb, Ol_bar, Nat.zero_add]

omit [FloatOps F] in
theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib, Finset.sum_add_distrib,
    Finset.sum_ite_eq' Finset.univ (nbr (opp 3) c) fun _ => 1, Finset.sum_ite_eq' Finset.univ (nbr (opp 2) c) fun _ => 1,
    Finset.sum_ite_eq' Finset.univ (nbr (opp 1) c) fun _ => 1, Finset.sum_ite_eq' Finset.univ (nbr (opp 0) c) fun _ => 1,
    if_pos (Finset.mem_univ _), if_pos (Finset.mem_univ _), if_pos (Finset.mem_univ _), if_pos (Finset.mem_univ _)]

omit [FloatOps F] in
theorem launch_recv (c : Dev nD) (x : X) :
    tallyOn (cell (true, x) c) (launchCredit (Pipeline.owing O₀) 0 (cell (true, x) c)) = (tallyAt (cell (true, x) c) () (amt x) : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ (frm x c) fun _ => amt x,
    if_pos (Finset.mem_univ _)]

/-- The receive semaphores. -/
def recvE : X ↪ SemLoc sig := ⟨fun x => .dma (sm (true, x)), fun x z h => congrArg Prod.snd (sm_injective (SemLoc.dma.inj h))⟩

omit [FloatOps F] in
theorem creds (c : Dev nD) :
    (Pipeline.launchCred O₀ c : sProp 𝕄) ⊢ iprop(cred (tallyAt (barCell c) () 4) ∗ bigSep Finset.univ fun x : X => cred (tallyAt (cell (true, x) c) () (amt x))) := by
  unfold Pipeline.launchCred
  rw [bigSep_univ_at _ (SemLoc.reg barS), launch_bar]
  refine sep_mono_right ?_
  have hs : Finset.univ.map recvE ⊆ Finset.univ.erase (SemLoc.reg barS : SemLoc sig) := by
    intro s hs
    obtain ⟨x, -, rfl⟩ := Finset.mem_map.mp hs
    exact Finset.mem_erase.mpr ⟨(fun h => by cases h), Finset.mem_univ _⟩
  refine BIBase.Entails.trans (bigSep_subset hs) (Entails.of_eq ?_)
  rw [bigSep_map]
  exact bigSep_congr fun x _ => congrArg cred (launch_recv c x)
end

end Cert.AllReduce

end
-- ==== Proof.Run.lean ====
module

public import Idealize.ShloMosaic.Lib.Pipeline.CollectiveSegs
public import proofs.«01_k».proof.Proof.Walk
public import proofs.«01_k».proof.Proof.Ends
public import proofs.«01_k».proof.Proof.Deal

/-!
# The run

The kernel on sixteen devices, for any float values: from any memory with all counters at zero every weakly fair
execution ends, and then every device's result holds `outF` of the devices' operands, the operands what they held, and
every counter is zero.

-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

variable (m : (ℓ : Loc nD τ sig) → Buf (Elt F) ℓ) (ρ : Dev nD → PrngReg)

/-- The operands a device is launched with: its columns of the first, its rows of the second. -/
def xA (c : Dev nD) : S1536x768.Idx → Elt F .bf16 := iblk m c 0 t0_0
def xB (c : Dev nD) : S768x1536.Idx → Elt F .bf16 := iblk m c 1 t0_0
abbrev inp : Inp F := (xA m, xB m)

/-! ## Levels -/

theorem O₀_pos {c : Dev nD} {g : GSem nD τ sig} {u : Unit} (h : 0 < O₀ c g u) : (∃ x, g = cell (true, x) (tgt x c)) ∨ ∃ i, g = barCell (nbr i c) := by
  by_contra hn
  rw [not_or, not_exists, not_exists] at hn
  have h0 : Od c 0 g u = 0 := by
    by_contra h0
    obtain ⟨x, -, e⟩ := Ol_pos (Nat.pos_of_ne_zero h0)
    exact hn.1 x e
  have hb (i : Fin 4) : tallyAt (barCell (nbr i c)) () 1 g u = (0 : ℕ) := by
    rw [tallyAt_apply, if_neg (fun h => hn.2 i h.1)]
  unfold O₀ Os at h
  simp only [Pi.add_apply, Finsupp.add_apply, hb, h0] at h
  exact Nat.lt_irrefl 0 h

omit [FloatOps F] in
/-- While all is owed, and when nothing is, a device may wait on a semaphore at the bottom. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | ⟨i, rfl⟩ <;> (rw [L_tc]; exact Finset.mem_singleton_self _))
      (fun p hp => by rw [Finset.mem_singleton.mp hp]; show lv ((c : Thread nD τ), .dma q) () ≤ 0; rw [hq])
      (fun g u hg => by
        rcases O₀_pos hg with ⟨x, rfl⟩ | ⟨i, rfl⟩
        · show _ < lv _ (); rw [lv_recv]; omega
        · show _ < lv _ (); rw [lv_bar]; decide)
  · rw [MayWait_zero]; iintro -; iempintro

/-! ## A device's memory besides the operands and the result -/

/-- The buffers the kernel allocates, at any contents. -/
def scr (c : Dev nD) : sProp 𝕄 := iprop(any (F := F) c pM ∗ bigSep Finset.univ fun S => sums (F := F) S c)

omit [FloatOps F] in
theorem scratch_eq (c : Dev nD) : (Pipeline.scopedRest (Ix := Unit) (Name := ℕ) (U := UU) (Lvl := ℕ) (Val := Elt F) spec0 c : sProp 𝕄) = scr c := by
  have ha (P Q R : sProp 𝕄) : iprop((P ∗ Q) ∗ R) = iprop(P ∗ Q ∗ R) := equiv_iff.mp ⟨BI.sep_assoc, BI.sep_assoc'⟩
  rw [scopedRest0_eq]
  unfold scr
  rw [four]
  unfold sums any
  simp only [ha, p1s, p1r, p2s, p2r, pM, owns_whole]
  rfl

/-! ## The pipeline's proof data -/

/-- What device `c`'s body starts from, -/
def start (c : Dev nD) : sProp 𝕄 :=
  iprop((∃ K, marks (inp m) K ∗ linear c) ∗ (cred (tallyAt (barCell c) () 4) ∗ bigSep Finset.univ fun x : X => cred (tallyAt (cell (true, x) c) () (amt x))) ∗ levAts L lv)
def Φ₀ (c : Dev nD) : sProp 𝕄 := iprop(start m c ∗ scr c)
/-- and what it leaves. -/
def Φ₁ (c : Dev nD) : sProp 𝕄 := iprop(scr (F := F) c ∗ semVal (barCell c) 0 ∗ bigSep Finset.univ fun y : Y => semVal (cell y c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => xB m c
    | ⟨2, _⟩ => outF (inp m)
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

abbrev own (c : Dev nD) {sh : Shape} {e : EltTy} (M : Memref sig .tc .vmem sh e) (Y : sh.Idx → Elt F e) : sProp 𝕄 :=
  owns (Ix := Unit) (Name := ℕ) (U := UU) (Lvl := ℕ) (c : Thread nD τ) M fullShare Y

/-- What the launch deals, and the buffers, are the state before the barrier. -/
theorem pre_intro (ab : Inp F) (K : Dev nD × Option Y → ℕ) (c : Dev nD) :
    iprop((marks ab K ∗ linear c) ∗ (cred (tallyAt (barCell c) () 4) ∗ bigSep Finset.univ fun x : X => cred (tallyAt (cell (true, x) c) () (amt x)))
      ∗ levAts L lv ∗ scr (F := F) c ∗ (∃ W, owes c (Os c 4) W) ∗ own c aM (ab.1 c) ∗ own c bM (ab.2 c) ∗ any (F := F) c oM)
      ⊢ Pre ab K c := by
  have hstub : iprop((bigSep Finset.univ fun x : X => dutyTok ER (cell (false, x) c) 0 0) ∗ (bigSep Finset.univ fun x : X => dutyTok ER (cell (true, x) (tgt x c)) 0 0)
      ∗ (bigSep Finset.univ fun x : X => src (F := F) x c) ∗ bigSep Finset.univ fun x : X => atPos ER (cell (false, x) c) 0 ∅ 0) ⊢ bigSep Finset.univ (stub (F := F) c) := by
    rw [← bigSep_sep', ← bigSep_sep', ← bigSep_sep']
    refine big_mono fun x => ?_
    unfold stub
    iintro ⟨H1, H2, H3, H4⟩
    isplitl [H1 H2]
    · isplitl [H1]; · iexact H1
      iexact H2
    isplitl [H3]; · iexact H3
    iexact H4
  have hdue : iprop((bigSep Finset.univ fun x : X => cred (tallyAt (cell (true, x) c) () (amt x))) ∗ bigSep Finset.univ fun x : X => atPos ER (cell (true, x) c) 0 ∅ 0)
      ⊢ bigSep Finset.univ (due (F := F) c) := by
    rw [← bigSep_sep']
    exact .rfl
  have hat : (bigSep Finset.univ fun k : Option Y => (atPos ER (kcell (c, k)) 0 ∅ 0 : sProp 𝕄)) ⊢ iprop(atPos ER (barCell c) 0 ∅ 0
      ∗ (bigSep Finset.univ fun x : X => atPos ER (cell (false, x) c) 0 ∅ 0) ∗ bigSep Finset.univ fun x : X => atPos ER (cell (true, x) c) 0 ∅ 0) := by
    rw [by_cell, by_end]
  unfold linear payToks scr Pre
  iintro ⟨⟨#HM, Hat, HtB, HtS, HtV⟩, ⟨HcB, HcV⟩, #Hlev, ⟨Hp, Hs⟩, HO, Ha, Hb, Ho⟩
  ihave ⟨HaB, HaS, HaV⟩ := hat $$ Hat
  ihave ⟨Hslot, Hsrc⟩ := (cut_all c) $$ [Hs Ho]
  · isplitl [Hs]; · iexact Hs
    iexact Ho
  ihave Ht := (cut_prod ab c) $$ Hp
  ihave Hst := hstub $$ [HtS HtV Hsrc HaS]
  · isplitl [HtS]; · iexact HtS
    isplitl [HtV]; · iexact HtV
    isplitl [Hsrc]; · iexact Hsrc
    iexact HaS
  ihave Hdue := hdue $$ [HcV HaV]
  · isplitl [HcV]; · iexact HcV
    iexact HaV
  isplitr
  · unfold records marks lvls
    icases HM with ⟨HI, HR⟩
    isplitr; · iexact HI
    isplitr; · iexact HR
    iexact Hlev
  isplitl [HO]; · iexact HO
  isplitl [HtB]; · iexact HtB
  isplitl [Hslot]; · iexact Hslot
  isplitl [HcB]; · iexact HcB
  isplitl [HaB]; · iexact HaB
  isplitl [Ha Hb]
  · isplitl [Ha]; · iexact Ha
    iexact Hb
  isplitl [Hst]; · iexact Hst
  isplitl [Hdue]; · iexact Hdue
  iexact Ht

def bodyPre (c : Dev nD) : sProp 𝕄 :=
  iprop(Φ₀ m c ∗ (dats m ρ 0 c).owesAt () t0_0.castSucc
    ∗ (∃ d, own c aM ((dats m ρ 0 c).before (0 : Fin 3) t0_0 d))
    ∗ (∃ d, own c bM ((dats m ρ 0 c).before (1 : Fin 3) t0_0 d))
    ∗ (∃ d, own c oM ((dats m ρ 0 c).before (2 : Fin 3) t0_0 d)))

def bodyPost (c : Dev nD) : sProp 𝕄 :=
  iprop(Φ₁ c ∗ (dats m ρ 0 c).owesAt () t0_0.succ ∗ own c aM (xA m c) ∗ own c bM (xB m c) ∗ own c oM (outF (inp m)))

theorem before_a (c : Dev nD) (d) : (dats m ρ 0 c).before (0 : Fin 3) t0_0 d = xA m c := by
  unfold Dat.before; rw [if_pos (fetch0_0 t0_0)]; rfl
theorem before_b (c : Dev nD) (d) : (dats m ρ 0 c).before (1 : Fin 3) t0_0 d = xB m c := by
  unfold Dat.before; rw [if_pos (fetch0_1 t0_0)]; rfl

/-- The state at the end is what the body has to leave. -/
theorem post_intro (K : Dev nD × Option Y → ℕ) (c : Dev nD) : Se (inp m) K c 96 ⊢ bodyPost m ρ c := by
  refine (Se_end (inp m) K c).trans ?_
  unfold bodyPost Φ₁ scr Dat.owesAt Pipeline.owesWithin
  rw [show (dats m ρ 0 c).owed t0_0.succ = 0 from rfl]
  iintro ⟨⟨%W, HO⟩, ⟨Ha, Hb, Ho⟩, Hscr, Hbar, Hv⟩
  isplitl [Hscr Hbar Hv]
  · isplitl [Hscr]; · iexact Hscr
    isplitl [Hbar]; · iexact Hbar
    iexact Hv
  isplitl [HO]
  · iexists W
    isplitr; · ipureintro; exact fun _ _ => Or.inl trivial
    iexact HO
  isplitl [Ha]; · iexact Ha
  isplitl [Hb]; · iexact Hb
  iexact Ho

theorem body_run (c : Dev nD) : bodyPre m ρ c ⊢ WP c (bodyAt0 t0_0) (fun _ => bodyPost m ρ c) := by
  have hw (K) : Pre (inp m) K c ⊢ WP c (bodyAt0 t0_0) (fun _ => bodyPost m ρ c) := walk (inp m) K c (post_intro m ρ K c)
  have hp (K) := (pre_intro (inp m) K c).trans (hw K)
  unfold bodyPre Φ₀ start Dat.owesAt Pipeline.owesWithin
  rw [show (dats m ρ 0 c).owed t0_0.castSucc = O₀ c from rfl]
  simp only [before_a, before_b]
  iintro ⟨⟨⟨⟨%K, HM⟩, Hc, Hlev⟩, Hscr⟩, ⟨%W, %hW, HO⟩, ⟨%d0, Ha⟩, ⟨%d1, Hb⟩, ⟨%d2, Ho⟩⟩
  iapply (hp K)
  isplitl [HM]; · iexact HM
  isplitl [Hc]; · iexact Hc
  isplitl [Hlev]; · iexact Hlev
  isplitl [Hscr]; · iexact Hscr
  isplitl [HO]; · iexists W; iexact HO
  isplitl [Ha]; · iexact Ha
  isplitl [Hb]; · iexact Hb
  unfold any
  iexists _; iexact Ho

set_option maxRecDepth 100000 in
/-- The body, as the launch asks for it. -/
theorem body_obligation (c : Dev nD) : BodyObligation (dats (F := F) m ρ 0 c) (defs₀ (F := F)) 𝒱₀ () Set.univ := fun t => by
  rw [fin_N0 t]
  rw [bigSep_W0, bigSep_W0]
  exact body_run m ρ c

/-! ## The launch -/

theorem lv_stage : ∀ q : DmaSem sig, q.val < 3 → dec q = none := by decide +kernel

theorem stage_lt : ∀ (w : Fin cfg0.W) (s : Fin (cfg0.spec w).nbuf), ((cfg0.spec w).sem s).val < 3 := by decide +kernel

theorem ownSemFacts : Pipeline.OwnSemFacts cfg0.spec osem where
  isScoped := by
    have h : ∀ q : DmaSem sig, (SemLoc.dma (sig := sig) q).isScoped .tc = true := by decide +kernel
    exact fun k => h _
  inj := fun y z h => sm_injective (SemLoc.dma.inj h)
  disj := fun y w s h => by
    have e := lv_stage _ (stage_lt w s)
    rw [← SemLoc.dma.inj h, dec_sm] at e
    cases e

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scr c from scratch_eq c]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scr c from scratch_eq c, ownSems0_eq, unscopedSems0_eq]
  unfold Φ₁
  iintro ⟨Hr, HB, HV⟩
  isplitl [HB]; · iexact HB
  isplitl [HV]; · iexact HV
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by
      have h (q : DmaSem sig) (hq : q.val < 3) : lv ((c : Thread nD τ), .dma q) () = 0 := by
        show (match dec q with | some (true, x) => 2 + ix x | _ => 0) = 0
        rw [lv_stage q hq]
      refine h _ ?_
      fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every weakly fair execution ends with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held. -/
theorem finalA_a (c : Dev nD) : finalA m ρ c (0 : Fin 3) = m ((c : Thread nD τ).loc main_arg0) :=
  (dats (F := F) m ρ 0 c).arrAt_in (0 : Fin 3) rfl _
theorem finalA_b (c : Dev nD) : finalA m ρ c (1 : Fin 3) = m ((c : Thread nD τ).loc main_arg1) :=
  (dats (F := F) m ρ 0 c).arrAt_in (1 : Fin 3) rfl _

/-- A window's one block is the whole array: reading it reads the array, -/
theorem xA_eq (c : Dev nD) : xA m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _
theorem xB_eq (c : Dev nD) : xB m c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _

/-- and the result's array ends at the values the body left. -/
theorem finalA_o (c : Dev nD) : finalA m ρ c (2 : Fin 3) = outF (inp m) := by
  have ho : (win0_2.blk (0 : Fin 1)).view.read (Elt F) (finalA m ρ c (2 : Fin 3)) = outF (inp m) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans ho

/-- The run, at the program's arrays: the arguments unchanged, every counter at zero, and the result of every device at
    the one array of values. -/
theorem run_values : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outF (inp m)) ∧ r.2.sem = fun _ => 0) :=
  (θ_run defs _ _).mono (fun r h => ⟨fun c => ⟨(h.1 c (0 : Fin 3)).trans (finalA_a m ρ c), (h.1 c (1 : Fin 3)).trans (finalA_b m ρ c),
    (h.1 c (2 : Fin 3)).trans (finalA_o m ρ c)⟩, h.2⟩) (run_main m ρ)

end Cert.AllReduce

end
-- ==== Proof.Values.lean ====
module

public import Idealize.ShloMosaic.Lib.MatmulPlain
public import Idealize.ShloMosaic.Lib.StackMember
public import proofs.«01_k».proof.Proof.Ends

/-!
# The values, over the extended reals

Over the extended reals the roundings are the identity, so that what a stream passes round its two rings is a sum of the
devices' own products: the finished sub-block holds, at each entry, the sum over all sixteen devices. Each device's product
is over its own 768 of the 12288 contracted positions, so that the sum over the devices is the product of the whole
matrices.

-/

@[expose] public section

set_option maxRecDepth 8000

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3 reshapeEquiv_ix2_1ab)

variable {F : FTy → Type} [FloatOps F]

local notation "𝕄" => MT nD τ sig Unit (Elt F) ℕ UU ℕ

open scoped BigOperators

/-! ## A device's own product -/

theorem cast_same {s : Shape} {α : Type} (v : s.Idx → α) (h : s.ShapeCasts s) : shapeCast s v h = v :=
  funext fun i => congrArg v (Shape.reshapeEquiv_self h i)

/-- The local product at an entry: the sum over the 768 contracted positions. -/
theorem kdot_apply (S : Fin 4) (x : (⟨2, ![384, 768]⟩ : Shape).Idx → Elt Ideal .bf16) (y : (⟨2, ![768, w S]⟩ : Shape).Idx → Elt Ideal .bf16)
    (r : Fin 384) (k : Fin (w S)) : kdot (F := Ideal) S x y (ix2 r k) = ∑ n : Fin 768, (x (ix2 r n) : EReal) * y (ix2 n k) := by
  have z (s : Shape) (i : s.Idx) : (constant (F := Ideal) s .f32 0x00000000#32 : s.Idx → EReal) i = 0 := Ideal.ofBits_zero_f32
  have h5 (x : Vec Ideal S384x768 .bf16) (y : Vec Ideal S768x512 .bf16) (r : Fin 384) (k : Fin 512) :
      k0_pay4 (F := Ideal) x y (ix2 r k) = ∑ n : Fin 768, (x (ix2 r n) : EReal) * y (ix2 n k) := by
    unfold k0_pay4
    simp only [cast_same]
    exact (Ideal.matmul_plain_apply (M := 384) (K := 768) (N := 512) none x y _ r k).trans (by rw [z]; exact zero_add _)
  have h2 (x : Vec Ideal S384x768 .bf16) (y : Vec Ideal S768x256 .bf16) (r : Fin 384) (k : Fin 256) :
      k0_pay7 (F := Ideal) x y (ix2 r k) = ∑ n : Fin 768, (x (ix2 r n) : EReal) * y (ix2 n k) := by
    unfold k0_pay7
    simp only [cast_same]
    exact (Ideal.matmul_plain_apply (M := 384) (K := 768) (N := 256) none x y _ r k).trans (by rw [z]; exact zero_add _)
  match S with
  | 0 | 1 => exact h5 x y r k
  | 2 | 3 => exact h2 x y r k

variable (ab : Inp Ideal)

/-- Device `c`'s product at an entry of the whole result. -/
def prodAt (c : Dev nD) (i : S1536x1536.Idx) : EReal := ∑ n : Fin 768, (ab.1 c (ix2 (i 0) n) : EReal) * ab.2 c (ix2 n (i 1))

theorem T_sub (S a b : Fin 4) (c : Dev nD) (j : (⟨2, ![96, w S]⟩ : Shape).Idx) : T ab S a c (sub b j) = prodAt ab c ((Ro S a b).emb j) := by
  unfold T prodAt
  refine (kdot_apply S _ _ _ _).trans (Finset.sum_congr rfl fun n _ => ?_)
  have e0 : (((Ro S a b).emb j 0 : Fin _) : ℕ) = 384 * a.val + 96 * b.val + 1 * (j 0 : ℕ) := Rect.emb_apply _ _ _
  have e1 : (((Ro S a b).emb j 1 : Fin _) : ℕ) = c0 S + 1 * (j 1 : ℕ) := Rect.emb_apply _ _ _
  have hx : (Ra a).emb (ix2 (sub b j 0) n) = ix2 ((Ro S a b).emb j 0) n := by
    funext x; apply Fin.ext
    match x with
    | 0 => rw [Rect.emb_apply]; show 384 * a.val + 1 * (96 * b.val + (j 0 : ℕ)) = (((Ro S a b).emb j 0 : Fin _) : ℕ); omega
    | 1 => rw [Rect.emb_apply]; show 0 + 1 * n.val = n.val; omega
  have hy : (Rb S).emb (ix2 n (sub b j 1)) = ix2 n ((Ro S a b).emb j 1) := by
    funext x; apply Fin.ext
    match x with
    | 0 => rw [Rect.emb_apply]; show 0 + 1 * n.val = n.val; omega
    | 1 => rw [Rect.emb_apply]; show c0 S + 1 * (j 1 : ℕ) = (((Ro S a b).emb j 1 : Fin _) : ℕ); omega
  exact congrArg₂ (fun x y : EReal => x * y) (congrArg (ab.1 c) hx) (congrArg (ab.2 c) hy)

/-! ## The two rings -/

/-- The sum over the four devices of a first ring that ends at `c`, at a row of row block `a`. -/
def line (S a : Fin 4) (c : Dev nD) (y : (⟨2, ![384, w S]⟩ : Shape).Idx) : EReal :=
  T ab S a c y + (T ab S a (p1 S c) y + (T ab S a (p1 S (p1 S c)) y + T ab S a (p1 S (p1 S (p1 S c))) y))

theorem bF_p1 (S : Fin 4) (c : Dev nD) (h : ℕ) : bF S (q1 S (p1 S c)) h = bF S (q1 S c) (h + 1) := Fin.ext (bk_p1 S c h)
theorem bF_p2 (S : Fin 4) (c : Dev nD) (h : ℕ) : bF S (q2 S (p2 S c)) h = bF S (q2 S c) (h + 1) := Fin.ext (bk_p2 S c h)

/-- What arrives at the end of the first ring, with the device's own product, is that sum. -/
theorem line_eq (S : Fin 4) (c : Dev nD) (y : (⟨2, ![384, w S]⟩ : Shape).Idx) :
    (T ab S (bF S (q1 S c) 3) c y : EReal) + V1 ab S 2 (p1 S c) y = line ab S (bF S (q1 S c) 3) c y := by
  unfold line
  show _ + (T ab S (bF S (q1 S (p1 S c)) 2) (p1 S c) y + (T ab S (bF S (q1 S (p1 S (p1 S c))) 1) (p1 S (p1 S c)) y
    + T ab S (bF S (q1 S (p1 S (p1 S (p1 S c)))) 0) (p1 S (p1 S (p1 S c))) y) : EReal) = _
  simp only [bF_p1]

theorem V2_zero (S : Fin 4) (c : Dev nD) (j : (⟨2, ![96, w S]⟩ : Shape).Idx) :
    (V2 ab S 0 c j : EReal) = line ab S (bF S (q1 S c) 3) c (sub (bF S (q2 S c) 0) j) := line_eq ab S c _
theorem V2_succ (S : Fin 4) (s : ℕ) (c : Dev nD) (j : (⟨2, ![96, w S]⟩ : Shape).Idx) :
    (V2 ab S (s + 1) c j : EReal) = line ab S (bF S (q1 S c) 3) c (sub (bF S (q2 S c) (s + 1)) j) + V2 ab S s (p2 S c) j := by
  show (_ + _ : EReal) + _ = _
  rw [← line_eq]
  rfl

/-- The finished sub-block of device `c` is the sum of the four first rings' sums. -/
theorem V2_three (S : Fin 4) (c : Dev nD) (j : (⟨2, ![96, w S]⟩ : Shape).Idx) :
    (V2 ab S 3 c j : EReal) = line ab S (bF S (q1 S c) 3) c (sub (bF S (q2 S c) 3) j) + (line ab S (bF S (q1 S c) 3) (p2 S c) (sub (bF S (q2 S c) 3) j)
      + (line ab S (bF S (q1 S c) 3) (p2 S (p2 S c)) (sub (bF S (q2 S c) 3) j) + line ab S (bF S (q1 S c) 3) (p2 S (p2 S (p2 S c))) (sub (bF S (q2 S c) 3) j))) := by
  rw [V2_succ, V2_succ, V2_succ, V2_zero]
  simp only [bF_p2, q1_p2]

/-- The sixteen devices, from `c` back round the two rings of a stream. -/
def back (S : Fin 4) (c : Dev nD) (t : Fin 4 × Fin 4) : Dev nD := (p1 S)^[t.2.val] ((p2 S)^[t.1.val] c)

theorem back_bijective : ∀ (S : Fin 4) (c : Dev nD), Function.Bijective (back S c) := by decide +kernel

theorem sum_back (S : Fin 4) (c : Dev nD) (f : Dev nD → EReal) : ∑ d : Dev nD, f d = ∑ t : Fin 4 × Fin 4, f (back S c t) :=
  ((back_bijective S c).sum_comp f).symm

/-- The owner's place in the two rings: it finishes sub-block `b` of row block `a`. -/
theorem owner_at : ∀ S a b : Fin 4, bF S (q1 S (owner S a b)) 3 = a ∧ bF S (q2 S (owner S a b)) 3 = b := by decide +kernel

/-- A finished sub-block is the sum of all sixteen devices' products. -/
theorem Out_eq (S a b : Fin 4) (j : (⟨2, ![96, w S]⟩ : Shape).Idx) : (Out ab S a b j : EReal) = ∑ d : Dev nD, (T ab S a d (sub b j) : EReal) := by
  obtain ⟨ha, hb⟩ := owner_at S a b
  unfold Out
  rw [V2_three, ha, hb, sum_back S (owner S a b), Fintype.sum_prod_type]
  simp only [Fin.sum_univ_four, line, add_assoc]
  rfl

/-- An entry of the result is the sum of all sixteen devices' products there. -/
theorem outF_apply (i : S1536x1536.Idx) : (outF ab i : EReal) = ∑ d : Dev nD, prodAt ab d i := by
  have hi : i ∈ (Finset.univ : Finset (Fin 4 × (Fin 4 × Fin 4))).biUnion (fun t => (Ro t.1 t.2.1 t.2.2).set) := by
    rw [cutO.cover]; exact Finset.mem_univ i
  obtain ⟨⟨S, a, b⟩, -, hm⟩ := Finset.mem_biUnion.mp hi
  rw [LoadRect.mem_set] at hm
  choose j hj e using hm
  obtain rfl : (Ro S a b).emb (fun x => ⟨j x, hj x⟩) = i := by
    funext x; apply Fin.ext
    rw [Rect.emb_apply]; exact (e x).symm
  rw [outF_emb, Out_eq]
  exact Finset.sum_congr rfl fun d _ => T_sub ab S a b d _

/-! ## The product of the whole matrices -/

/-- Where every device holds its block of the two matrices, the result is the product of the matrices. -/
theorem outF_dot (A : (⟨2, ![1536, 12288]⟩ : Shape).Idx → EReal) (B : (⟨2, ![12288, 1536]⟩ : Shape).Idx → EReal)
    (ha : ∀ c : Fin 16, ab.1 c = Layout.block ⟨2, ![1536, 768]⟩ ⟨2, ![1536, 12288]⟩ 1 16 c A)
    (hb : ∀ c : Fin 16, ab.2 c = Layout.block ⟨2, ![768, 1536]⟩ ⟨2, ![12288, 1536]⟩ 0 16 c B) (i : S1536x1536.Idx) :
    (outF ab i : EReal) = ∑ n : Fin 12288, A (ix2 (i 0) n) * B (ix2 n (i 1)) := by
  rw [outF_apply]
  have e : ∀ d : Fin 16, prodAt ab d i = ∑ n : Fin 768, A (ix2 (i 0) (finProdFinEquiv (d, n) : Fin (16 * 768))) * B (ix2 (finProdFinEquiv (d, n) : Fin (16 * 768)) (i 1)) := by
    intro d
    unfold prodAt
    refine Finset.sum_congr rfl fun n _ => ?_
    rw [ha d, hb d]
    have hn : ((finProdFinEquiv (d, n) : Fin (16 * 768)) : ℕ) = n.val + 768 * d.val := rfl
    refine congrArg₂ (fun x y : EReal => x * y) (congrArg A ?_) (congrArg B ?_)
    · funext x; apply Fin.ext
      match x with
      | 0 => rfl
      | 1 => show d.val * 768 + n.val = _; exact (by omega : d.val * 768 + n.val = n.val + 768 * d.val)
    · funext x; apply Fin.ext
      match x with
      | 0 => show d.val * 768 + n.val = _; exact (by omega : d.val * 768 + n.val = n.val + 768 * d.val)
      | 1 => rfl
  refine (Finset.sum_congr rfl fun d _ => e d).trans ?_
  exact (Fintype.sum_prod_type' _).symm.trans (Equiv.sum_comp (finProdFinEquiv (m := 16) (n := 768)) fun n : Fin 12288 => A (ix2 (i 0) n) * B (ix2 n (i 1)))

end Cert.AllReduce

end
-- ==== Proof.Ref.lean ====
module

public import Idealize.ShloMosaic.Lib.StackMember
public import proofs.«01_k».proof.Proof.Gen.ReferenceIdeal

/-!
# The reference

The reference on its one device: it ends with the product of the two matrices, rounded once, and the matrices unchanged.
Over the extended reals an entry of the result is the sum over the 12288 contracted positions.
-/

@[expose] public section

noncomputable section

namespace Cert.AllReduce.Ref

open Cert.ReferenceIdeal Cert.ReferenceIdeal.Gen
open Idealize.ShloMosaic Idealize.ShloMosaic.TcCoe Idealize.ShloMosaic.StableHlo Idealize.SL.Sem
open Idealize.ShloMosaic.ValueIdx (ix2 eq_ix2)
open scoped BigOperators

variable {F : FTy → Type} [FloatOps F]

/-- The reference's result from its arguments. -/
def refOut (x : FVec F S1536x12288 .bf16) (y : FVec F S12288x1536 .bf16) : FVec F S1536x1536 .bf16 :=
  truncf .bf16 (Host.dotGeneral dot_S1536x12288_S12288x1536_S1536x1536_1_0_0_1_n_n none x y : FVec F S1536x1536 .f32) bitsLt_bf16_f32

/-- The two host operations: the product, the rounding. -/
abbrev hostOps : List (HloOp τ sig (Elt F)) :=
  [ binary main_arg0 main_arg1 main_v0 ((fun l r => Host.dotGeneral dot_S1536x12288_S12288x1536_S1536x1536_1_0_0_1_n_n none l r) : (⟨S1536x12288, .bf16⟩ : BufTy).Contents (Elt F) → (⟨S12288x1536, .bf16⟩ : BufTy).Contents (Elt F) → (⟨S1536x1536, .f32⟩ : BufTy).Contents (Elt F)),
    unary main_v0 main_v1 ((truncf .bf16 · bitsLt_bf16_f32) : (⟨S1536x1536, .f32⟩ : BufTy).Contents (Elt F) → (⟨S1536x1536, .bf16⟩ : BufTy).Contents (Elt F)) ]

theorem main_is (c : Dev nD) : main (F := F) c = seq hostOps := rfl
theorem no_refs : (Finset.univ.filter fun b : Ref sig .tc => b.isScoped) = ∅ := by decide
theorem no_sems : (Finset.univ.filter fun sm : SemLoc sig => sm.isScoped .tc) = ∅ := by decide
theorem on_tc : (hostOps : List (HloOp τ sig (Elt F))).Forall fun op => op.bufs ⊆ tcRefs τ sig :=
  ⟨binary_bufs_sub .., unary_bufs_sub ..⟩

/-- The reference's run. -/
theorem run (m : (ℓ : Loc nD τ sig) → Buf (Elt F) ℓ) (ρ : Dev nD → PrngReg) :
    θ_run defs (onTc (τ := τ) (main (F := F))) ⟨m, fun _ => 0, ρ⟩ fun r =>
      r.2.mem (((0 : Dev nD) : Thread nD τ).loc main_v1)
          = refOut (m (((0 : Dev nD) : Thread nD τ).loc main_arg0)) (m (((0 : Dev nD) : Thread nD τ).loc main_arg1))
        ∧ r.2.mem (((0 : Dev nD) : Thread nD τ).loc main_arg0) = m (((0 : Dev nD) : Thread nD τ).loc main_arg0)
        ∧ r.2.mem (((0 : Dev nD) : Thread nD τ).loc main_arg1) = m (((0 : Dev nD) : Thread nD τ).loc main_arg1) :=
  (θ_run defs _ _).mono (fun _ h => ⟨(h 0 main_v1).trans (by after_results; rfl), (h 0 main_arg0).trans (by after_results),
      (h 0 main_arg1).trans (by after_results)⟩)
    (run_seq no_refs no_sems defs main (fun _ => hostOps) main_is (fun _ => on_tc) m ρ)

/-- Over the extended reals an entry of the result is a row times a column. -/
theorem refOut_apply (x : FVec Ideal S1536x12288 .bf16) (y : FVec Ideal S12288x1536 .bf16) (i : S1536x1536.Idx) :
    (refOut x y i : EReal) = ∑ n : Fin 12288, (x (ix2 (i 0) n) : EReal) * y (ix2 n (i 1)) := by
  obtain ⟨r, k, rfl⟩ : ∃ (r : Fin 1536) (k : Fin 1536), i = ix2 r k := ⟨i 0, i 1, eq_ix2 i⟩
  exact StackMember.dotGeneral_plain_apply (m := 1536) (n := 1536) (k := 12288) none x y r k

end Cert.AllReduce.Ref

end
-- ==== Proof.lean ====
module

public import proofs.«01_k».proof.Defs
public import proofs.«01_k».proof.Proof.Gen.Kernel
public import proofs.«01_k».proof.Proof.Run
public import proofs.«01_k».proof.Proof.Values
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

section
variable {F : FTy → Type} [FloatOps F]

/-- The two printed programs are one text: their bodies are equal, for any float values. -/
theorem body_same : Cert.Kernel.defs₀ (F := F) = Cert.KernelIdeal.defs₀ (F := F) := by
  unfold Cert.Kernel.defs₀ Cert.KernelIdeal.defs₀
  refine congrArg (fun f => Defs.onTc f) ?_
  funext l x
  match l, x with
  | ⟨0, _⟩, (t, s) => exact rfl

/-- So are their tables of definitions, the pipeline around the body included. -/
theorem defs_same : Cert.Kernel.defs (F := F) = Cert.KernelIdeal.defs (F := F) :=
  congrArg (Pipeline.defs (Cert.KernelIdeal.pcfgs (F := F))) body_same

end

/-- The kernel's frame, at the machine's floats: the run of the one text. -/
theorem frame_kernel : Cert.quiescent_Kernel := fun m ρ _ => by
  have h := (θ_run Cert.KernelIdeal.defs _ _).mono
    (fun (r : PUnit × MemSt Cert.KernelIdeal.nD Cert.KernelIdeal.τ Cert.KernelIdeal.sig (Elt Bits)) h =>
      (⟨fun c => ⟨(h.1 c).1, (h.1 c).2.1⟩, h.2⟩ : (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) (AllReduce.run_values (F := Bits) m ρ)
  exact (congrArg (fun d => (θ_run d (onTc (τ := Cert.KernelIdeal.τ) (Cert.KernelIdeal.main (F := Bits))) ⟨m, fun _ => 0, ρ⟩) _) (defs_same (F := Bits))).mpr h

/-- The ideal program's frame. -/
theorem frame_ideal : Cert.quiescent_KernelIdeal := fun m ρ _ =>
  (θ_run Cert.KernelIdeal.defs _ _).mono (fun _ h => ⟨fun c => ⟨(h.1 c).1, (h.1 c).2.1⟩, h.2⟩) (AllReduce.run_values (F := Ideal) m ρ)

/-- The reference's frame. -/
theorem frame_reference : Cert.quiescent_ReferenceIdeal := fun m ρ _ =>
  (θ_run Cert.ReferenceIdeal.defs _ _).mono (fun r h => ⟨fun c => by obtain rfl : c = 0 := Subsingleton.elim _ _; exact h.2,
    sem_eq_zero_of_no_sems (by decide) r.2⟩) (AllReduce.Ref.run (F := Ideal) m ρ)

/-- Every device's result is the reference's. -/
theorem algebraic : Cert.algebraic_KernelIdeal_ReferenceIdeal := by
  intro m ρ m' ρ' _ hagree
  refine ⟨_, ?_, AllReduce.Ref.run (F := Ideal) m' ρ'⟩
  refine (θ_run Cert.KernelIdeal.defs _ _).mono (fun _ h c => ⟨(h.1 c).2.2.trans ?_, (h.1 c).1, (h.1 c).2.1⟩) (AllReduce.run_values (F := Ideal) m ρ)
  funext i
  refine (AllReduce.outF_dot (AllReduce.inp m) _ _ (fun d => (AllReduce.xA_eq m d).trans (hagree d).1) (fun d => (AllReduce.xB_eq m d).trans (hagree d).2) i).trans ?_
  exact (AllReduce.Ref.refOut_apply _ _ i).symm

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
